-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_finite_scores [hPre_finite_scores : Cert.Pre_finite_scores.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_finite_scores.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3))).1 = (fun _ => 1#1)
    ∧ (Cert.Pre_finite_scores.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3))).2.1 = (fun _ => 1#1)
    ∧ (Cert.Pre_finite_scores.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3))).2.2 = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_finite_scores [hPre_finite_scores : Cert.Pre_finite_scores.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_finite_scores.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3))).1 = (fun _ => 1#1)
    ∧ (Cert.Pre_finite_scores.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3))).2.1 = (fun _ => 1#1)
    ∧ (Cert.Pre_finite_scores.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Kernel22Ideal_pre_finite_scores [hKernel22Ideal : Cert.Kernel22Ideal.Facts] [hPre_finite_scores : Cert.Pre_finite_scores.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_finite_scores m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Reference22Ideal_pre_finite_scores [hReference22Ideal : Cert.Reference22Ideal.Facts] [hPre_finite_scores : Cert.Pre_finite_scores.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_finite_scores m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_v173) = v1 c
          ∧ r.2.mem ((c.tc : Thread Cert.ReferenceIdeal.nD Cert.ReferenceIdeal.τ).loc Cert.ReferenceIdeal.main_v174) = v2 c
          ∧ r.2.mem ((c.tc : Thread Cert.ReferenceIdeal.nD Cert.ReferenceIdeal.τ).loc Cert.ReferenceIdeal.main_v175) = v3 c
          ∧ r.2.mem ((c.tc : Thread Cert.ReferenceIdeal.nD Cert.ReferenceIdeal.τ).loc Cert.ReferenceIdeal.main_v176) = v4 c
          ∧ r.2.mem ((c.tc : Thread Cert.ReferenceIdeal.nD Cert.ReferenceIdeal.τ).loc Cert.ReferenceIdeal.main_v111) = v5 c
          ∧ r.2.mem ((c.tc : Thread Cert.ReferenceIdeal.nD Cert.ReferenceIdeal.τ).loc Cert.ReferenceIdeal.main_v177) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v5) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v39) = v0 c
          ∧ r.2.mem ((c.tc : Thread Cert.Reference14Ideal.nD Cert.Reference14Ideal.τ).loc Cert.Reference14Ideal.main_v40) = v1 c
          ∧ r.2.mem ((c.tc : Thread Cert.Reference14Ideal.nD Cert.Reference14Ideal.τ).loc Cert.Reference14Ideal.main_v41) = v2 c
          ∧ r.2.mem ((c.tc : Thread Cert.Reference14Ideal.nD Cert.Reference14Ideal.τ).loc Cert.Reference14Ideal.main_v42) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v36) = v0 c
          ∧ r.2.mem ((c.tc : Thread Cert.Reference15Ideal.nD Cert.Reference15Ideal.τ).loc Cert.Reference15Ideal.main_v37) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)) (v3 : (c : Dev Cert.Kernel16Ideal.nD) → Buf (Elt Ideal) ((c.tc : Thread Cert.Kernel16Ideal.nD Cert.Kernel16Ideal.τ).loc Cert.Kernel16Ideal.main_v1_3)) (v4 : (c : Dev Cert.Kernel16Ideal.nD) → Buf (Elt Ideal) ((c.tc : Thread Cert.Kernel16Ideal.nD Cert.Kernel16Ideal.τ).loc Cert.Kernel16Ideal.main_v1_4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_v1_3) = v3 c
          ∧ r.2.mem ((c.tc : Thread Cert.Kernel16Ideal.nD Cert.Kernel16Ideal.τ).loc Cert.Kernel16Ideal.main_v1_4) = v4 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v57) = v0 c
          ∧ r.2.mem ((c.tc : Thread Cert.Reference16Ideal.nD Cert.Reference16Ideal.τ).loc Cert.Reference16Ideal.main_v40) = v1 c
          ∧ r.2.mem ((c.tc : Thread Cert.Reference16Ideal.nD Cert.Reference16Ideal.τ).loc Cert.Reference16Ideal.main_v71) = v2 c
          ∧ r.2.mem ((c.tc : Thread Cert.Reference16Ideal.nD Cert.Reference16Ideal.τ).loc Cert.Reference16Ideal.main_v72) = v3 c
          ∧ r.2.mem ((c.tc : Thread Cert.Reference16Ideal.nD Cert.Reference16Ideal.τ).loc Cert.Reference16Ideal.main_v74) = v4 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)) (v4 : (c : Dev Cert.Kernel17Ideal.nD) → Buf (Elt Ideal) ((c.tc : Thread Cert.Kernel17Ideal.nD Cert.Kernel17Ideal.τ).loc Cert.Kernel17Ideal.main_v0_4)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_v0_4) = v4 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v31) = v0 c
          ∧ r.2.mem ((c.tc : Thread Cert.Reference17Ideal.nD Cert.Reference17Ideal.τ).loc Cert.Reference17Ideal.main_v10) = v1 c
          ∧ r.2.mem ((c.tc : Thread Cert.Reference17Ideal.nD Cert.Reference17Ideal.τ).loc Cert.Reference17Ideal.main_v11) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_v32) = v4 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v28) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v74) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v13) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v1_0)) (v1 : (c : Dev Cert.Kernel21Ideal.nD) → Buf (Elt Ideal) ((c.tc : Thread Cert.Kernel21Ideal.nD Cert.Kernel21Ideal.τ).loc Cert.Kernel21Ideal.main_v1_1)) (v2 : (c : Dev Cert.Kernel21Ideal.nD) → Buf (Elt Ideal) ((c.tc : Thread Cert.Kernel21Ideal.nD Cert.Kernel21Ideal.τ).loc Cert.Kernel21Ideal.main_v1_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1_0) = v0 c
          ∧ r.2.mem ((c.tc : Thread Cert.Kernel21Ideal.nD Cert.Kernel21Ideal.τ).loc Cert.Kernel21Ideal.main_v1_1) = v1 c
          ∧ r.2.mem ((c.tc : Thread Cert.Kernel21Ideal.nD Cert.Kernel21Ideal.τ).loc Cert.Kernel21Ideal.main_v1_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v51) = v0 c
          ∧ r.2.mem ((c.tc : Thread Cert.Reference21Ideal.nD Cert.Reference21Ideal.τ).loc Cert.Reference21Ideal.main_v50) = v1 c
          ∧ r.2.mem ((c.tc : Thread Cert.Reference21Ideal.nD Cert.Reference21Ideal.τ).loc Cert.Reference21Ideal.main_v52) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  IdealRules.named_const.Statement Cert.Kernel22Ideal.κ "mask" .f32 0xF149F2CA#32 ⊥

def algebraic_Kernel22Ideal_Reference22Ideal_pre_finite_scores [hKernel22Ideal : Cert.Kernel22Ideal.Facts] [hReference22Ideal : Cert.Reference22Ideal.Facts] [hPre_finite_scores : Cert.Pre_finite_scores.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_finite_scores m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v33)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v33) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v144) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Kernel22Ideal_pre_finite_scores (hKernel22Ideal := hKernel22Ideal) (hPre_finite_scores := hPre_finite_scores)
    ∧ quiescent_Reference22Ideal (hReference22Ideal := hReference22Ideal)
    ∧ quiescent_Reference22Ideal_pre_finite_scores (hReference22Ideal := hReference22Ideal) (hPre_finite_scores := hPre_finite_scores)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal_pre_finite_scores (hKernel22Ideal := hKernel22Ideal) (hReference22Ideal := hReference22Ideal) (hPre_finite_scores := hPre_finite_scores)
-- ==== Pre_finite_scores.lean ====
abbrev S2048x1024 : Shape := ⟨2, ![2048, 1024]⟩
abbrev S2048x128 : Shape := ⟨2, ![2048, 128]⟩
abbrev S16 : Shape := ⟨1, ![16]⟩
abbrev S_ : Shape := ⟨0, ![]⟩

class Facts : Prop where
  bcast_S_S2048x1024 : S_.BroadcastsInDim S2048x1024 (![] : Fin 0 → Fin S2048x1024.rank)
  bcast_S_S2048x128 : S_.BroadcastsInDim S2048x128 (![] : Fin 0 → Fin S2048x128.rank)
  bcast_S_S16 : S_.BroadcastsInDim S16 (![] : Fin 0 → Fin S16.rank)

variable [Facts]

def fn {F : FTy → Type} [FloatOps F] (main_arg0 : FVec F S2048x1024 .f32) (main_arg1 : FVec F S2048x128 .f32) (main_arg2 : FVec F S2048x128 .f32) (main_arg3 : FVec F S16 .f32) : IVec S2048x1024 1 × IVec S2048x128 1 × IVec S16 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x128 .f32 := Host.absf main_arg1
  let main_cst_0 : FVec F S_ .f32 := constant S_ .f32 0x7F800000#32
  let main_v4 : FVec F S2048x128 .f32 := broadcastInDim S2048x128 ![] bcast_S_S2048x128 main_cst_0
  let main_v5 : IVec S2048x128 1 := cmpf .olt main_v3 main_v4
  let main_v6 : FVec F S16 .f32 := Host.absf main_arg3
  let main_cst_1 : FVec F S_ .f32 := constant S_ .f32 0x7F800000#32
  let main_v7 : FVec F S16 .f32 := broadcastInDim S16 ![] bcast_S_S16 main_cst_1
  let main_v8 : IVec S16 1 := cmpf .olt main_v6 main_v7
  (main_v2, main_v5, main_v8)
-- ==== Kernel.lean ====
abbrev S2048x1024 : Shape := ⟨2, ![2048, 1024]⟩
abbrev S2048x6400 : Shape := ⟨2, ![2048, 6400]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S8x128x1 : Shape := ⟨3, ![8, 128, 1]⟩
abbrev S128x1024 : Shape := ⟨2, ![128, 1024]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S128 : Shape := ⟨1, ![128]⟩
abbrev S128x896 : Shape := ⟨2, ![128, 896]⟩
abbrev S128x768 : Shape := ⟨2, ![128, 768]⟩
abbrev S128x640 : Shape := ⟨2, ![128, 640]⟩
abbrev S128x256 : Shape := ⟨2, ![128, 256]⟩
abbrev S128x512 : Shape := ⟨2, ![128, 512]⟩
abbrev S128x384 : Shape := ⟨2, ![128, 384]⟩

abbrev nBuf : Space → Nat
  | .hbm => 16
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x6400, .f32⟩
  | .hbm, ⟨2, _⟩ => ⟨S1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S1x1024, .f32⟩
  | .hbm, ⟨7, _⟩ => ⟨S1x1024, .f32⟩
  | .hbm, ⟨8, _⟩ => ⟨S8x128x1, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S1x1024, .f32⟩
  | .hbm, ⟨13, _⟩ => ⟨S1x1024, .f32⟩
  | .hbm, ⟨14, _⟩ => ⟨S8x128x128, .f32⟩
  | .hbm, ⟨15, _⟩ => ⟨S8x128x1, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1x1024, .f32⟩
  | .local _ .vmem, ⟨9, _⟩ => ⟨S1x1024, .f32⟩
  | .local _ .vmem, ⟨10, _⟩ => ⟨S8x128x128, .f32⟩
  | .local _ .vmem, ⟨11, _⟩ => ⟨S8x128x1, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S1x1024, .f32⟩
  | .local _ .vmem, ⟨19, _⟩ => ⟨S1x1024, .f32⟩
  | .local _ .vmem, ⟨20, _⟩ => ⟨S8x128x128, .f32⟩
  | .local _ .vmem, ⟨21, _⟩ => ⟨S8x128x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_v3_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S2048x1024 : Shape := ⟨2, ![2048, 1024]⟩
abbrev S2048x6400 : Shape := ⟨2, ![2048, 6400]⟩
abbrev S1024 : Shape := ⟨1, ![1024]⟩
abbrev S8x128x128 : Shape := ⟨3, ![8, 128, 128]⟩
abbrev S8x128 : Shape := ⟨2, ![8, 128]⟩
abbrev S1x2048x1024 : Shape := ⟨3, ![1, 2048, 1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x16x128x8x128 : Shape := ⟨5, ![1, 16, 128, 8, 128]⟩
abbrev S128x128 : Shape := ⟨2, ![128, 128]⟩
abbrev S1x128x128 : Shape := ⟨3, ![1, 128, 128]⟩
abbrev S8x1x16x128x128 : Shape := ⟨5, ![8, 1, 16, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S1x128x8 : Shape := ⟨3, ![1, 128, 8]⟩
abbrev S1x1024 : Shape := ⟨2, ![1, 1024]⟩
abbrev S2048 : Shape := ⟨1, ![2048]⟩
abbrev S8x128x1 : Shape := ⟨3, ![8, 128, 1]⟩

abbrev nBuf : Space → Nat
  | .hbm => 255
  | .vmem => 0
  | .smem => 0
  | _ => 0

abbrev hbmTy0_0 (i : Nat) : BufTy := match i % 128 with
  | 0 => ⟨S2048x1024, .f32⟩
  | 1 => ⟨S2048x6400, .f32⟩
  | 2 => ⟨S1024, .f32⟩
  | 3 => ⟨S1024, .f32⟩
  | 4 => ⟨S8x128x128, .f32⟩
  | 5 => ⟨S8x128, .f32⟩
  | 6 => ⟨S2048x1024, .f32⟩
  | 7 => ⟨S1x2048x1024, .f32⟩
  | 8 => ⟨S2048x1024, .f32⟩
  | 9 => ⟨S1x2048x1024, .f32⟩
  | 10 => ⟨S2048x1024, .f32⟩
  | 11 => ⟨S1x2048x1024, .f32⟩
  | 12 => ⟨S1x2048x1024, .f32⟩
  | 13 => ⟨S1x2048x1024, .f32⟩
  | 14 => ⟨S1x2048x1024, .f32⟩
  | 15 => ⟨S_, .f32⟩
  | 16 => ⟨S1x2048x1024, .f32⟩
  | 17 => ⟨S1x2048x1024, .f32⟩
  | 18 => ⟨S_, .f32⟩
  | 19 => ⟨S1x2048x1024, .f32⟩
  | 20 => ⟨S1x2048x1024, .f32⟩
  | 21 => ⟨S1x2048x1024, .f32⟩
  | 22 => ⟨S_, .f32⟩
  | 23 => ⟨S1x2048x1024, .f32⟩
  | 24 => ⟨S1x2048x1024, .f32⟩
  | 25 => ⟨S1x2048x1024, .f32⟩
  | 26 => ⟨S_, .f32⟩
  | 27 => ⟨S1x2048x1024, .f32⟩
  | 28 => ⟨S1x2048x1024, .f32⟩
  | 29 => ⟨S_, .f32⟩
  | 30 => ⟨S1x2048x1024, .f32⟩
  | 31 => ⟨S1x2048x1024, .f32⟩
  | 32 => ⟨S1x2048x1024, .f32⟩
  | 33 => ⟨S_, .f32⟩
  | 34 => ⟨S1x2048x1024, .f32⟩
  | 35 => ⟨S1x2048x1024, .f32⟩
  | 36 => ⟨S_, .f32⟩
  | 37 => ⟨S1x2048x1024, .f32⟩
  | 38 => ⟨S1x2048x1024, .f32⟩
  | 39 => ⟨S1x2048x1024, .f32⟩
  | 40 => ⟨S1x2048x1024, .f32⟩
  | 41 => ⟨S1x2048x1024, .f32⟩
  | 42 => ⟨S1x2048x1024, .f32⟩
  | 43 => ⟨S_, .f32⟩
  | 44 => ⟨S1x2048x1024, .f32⟩
  | 45 => ⟨S1x2048x1024, .f32⟩
  | 46 => ⟨S_, .f32⟩
  | 47 => ⟨S1x2048x1024, .f32⟩
  | 48 => ⟨S1x2048x1024, .f32⟩
  | 49 => ⟨S1x2048x1024, .f32⟩
  | 50 => ⟨S_, .f32⟩
  | 51 => ⟨S1x2048x1024, .f32⟩
  | 52 => ⟨S1x2048x1024, .f32⟩
  | 53 => ⟨S1x2048x1024, .f32⟩
  | 54 => ⟨S_, .f32⟩
  | 55 => ⟨S1x2048x1024, .f32⟩
  | 56 => ⟨S1x2048x1024, .f32⟩
  | 57 => ⟨S_, .f32⟩
  | 58 => ⟨S1x2048x1024, .f32⟩
  | 59 => ⟨S1x2048x1024, .f32⟩
  | 60 => ⟨S1x2048x1024, .f32⟩
  | 61 => ⟨S_, .f32⟩
  | 62 => ⟨S1x2048x1024, .f32⟩
  | 63 => ⟨S1x2048x1024, .f32⟩
  | 64 => ⟨S_, .f32⟩
  | 65 => ⟨S1x2048x1024, .f32⟩
  | 66 => ⟨S1x2048x1024, .f32⟩
  | 67 => ⟨S1x2048x1024, .f32⟩
  | 68 => ⟨S_, .f32⟩
  | 69 => ⟨S1x2048, .f32⟩
  | 70 => ⟨S1x2048x1, .f32⟩
  | 71 => ⟨S_, .f32⟩
  | 72 => ⟨S1x2048x1, .f32⟩
  | 73 => ⟨S1x2048x1, .f32⟩
  | 74 => ⟨S1x2048x1024, .f32⟩
  | 75 => ⟨S1x2048x1024, .f32⟩
  | 76 => ⟨S1x2048x1024, .f32⟩
  | 77 => ⟨S_, .f32⟩
  | 78 => ⟨S1x2048x1024, .f32⟩
  | 79 => ⟨S1x2048x1024, .f32⟩
  | 80 => ⟨S_, .f32⟩
  | 81 => ⟨S1x2048, .f32⟩
  | 82 => ⟨S1x2048x1, .f32⟩
  | 83 => ⟨S_, .f32⟩
  | 84 => ⟨S1x2048x1, .f32⟩
  | 85 => ⟨S1x2048x1, .f32⟩
  | 86 => ⟨S1x2048x1024, .f32⟩
  | 87 => ⟨S1x2048x1024, .f32⟩
  | 88 => ⟨S_, .f32⟩
  | 89 => ⟨S1x2048x1, .f32⟩
  | 90 => ⟨S1x2048x1, .f32⟩
  | 91 => ⟨S1x2048x1, .f32⟩
  | 92 => ⟨S1x2048x1, .f32⟩
  | 93 => ⟨S_, .f32⟩
  | 94 => ⟨S1x2048x1, .f32⟩
  | 95 => ⟨S1x2048x1, .f32⟩
  | 96 => ⟨S1x2048x1024, .f32⟩
  | 97 => ⟨S1x2048x1024, .f32⟩
  | 98 => ⟨S1x1x1024, .f32⟩
  | 99 => ⟨S1x2048x1024, .f32⟩
  | 100 => ⟨S1x2048x1024, .f32⟩
  | 101 => ⟨S1x1x1024, .f32⟩
  | 102 => ⟨S1x2048x1024, .f32⟩
  | 103 => ⟨S1x2048x1024, .f32⟩
  | 104 => ⟨S1x16x128x8x128, .f32⟩
  | 105 => ⟨S_, .i1⟩
  | 106 => ⟨S128x128, .i1⟩
  | 107 => ⟨S128x128, .i32⟩
  | 108 => ⟨S_, .i32⟩
  | 109 => ⟨S128x128, .i32⟩
  | 110 => ⟨S128x128, .i32⟩
  | 111 => ⟨S128x128, .i32⟩
  | 112 => ⟨S128x128, .i1⟩
  | 113 => ⟨S_, .i1⟩
  | 114 => ⟨S128x128, .i1⟩
  | 115 => ⟨S128x128, .i1⟩
  | 116 => ⟨S1x128x128, .i1⟩
  | 117 => ⟨S_, .f32⟩
  | 118 => ⟨S8x128x128, .f32⟩
  | 119 => ⟨S8x128x128, .i1⟩
  | 120 => ⟨S8x128x128, .f32⟩
  | 121 => ⟨S_, .f32⟩
  | 122 => ⟨S8x128x128, .f32⟩
  | 123 => ⟨S8x1x16x128x128, .f32⟩
  | 124 => ⟨S1x16x128x8x128, .f32⟩
  | 125 => ⟨S128x8, .f32⟩
  | 126 => ⟨S128x8x1, .f32⟩
  | 127 => ⟨S1x1x128x8x1, .f32⟩
  | _ => ⟨S2048x1024, .f32⟩

abbrev hbmTy0_1 (i : Nat) : BufTy := match i % 128 with
  | 0 => ⟨S1x16x128x8x128, .f32⟩
  | 1 => ⟨S1x16x128x8x128, .f32⟩
  | 2 => ⟨S1x2048x1024, .f32⟩
  | 3 => ⟨S1x2048x1024, .f32⟩
  | 4 => ⟨S1x2048x1024, .f32⟩
  | 5 => ⟨S1x2048x1024, .f32⟩
  | 6 => ⟨S_, .f32⟩
  | 7 => ⟨S1x2048x1024, .f32⟩
  | 8 => ⟨S1x2048x1024, .f32⟩
  | 9 => ⟨S_, .f32⟩
  | 10 => ⟨S1x2048x1024, .f32⟩
  | 11 => ⟨S1x2048x1024, .f32⟩
  | 12 => ⟨S_, .f32⟩
  | 13 => ⟨S1x2048x1024, .f32⟩
  | 14 => ⟨S1x2048x1024, .f32⟩
  | 15 => ⟨S1x2048x1024, .f32⟩
  | 16 => ⟨S1x2048x1024, .f32⟩
  | 17 => ⟨S1x2048x1024, .f32⟩
  | 18 => ⟨S1x2048x1024, .f32⟩
  | 19 => ⟨S1x2048x1024, .f32⟩
  | 20 => ⟨S1x2048x1024, .f32⟩
  | 21 => ⟨S1x2048x1024, .f32⟩
  | 22 => ⟨S1x2048x1024, .f32⟩
  | 23 => ⟨S1x2048x1024, .f32⟩
  | 24 => ⟨S1x2048x1024, .f32⟩
  | 25 => ⟨S1x2048x1024, .f32⟩
  | 26 => ⟨S1x2048x1024, .f32⟩
  | 27 => ⟨S1x16x128x8x128, .f32⟩
  | 28 => ⟨S_, .f32⟩
  | 29 => ⟨S1x128x8, .f32⟩
  | 30 => ⟨S1x1x128x8x1, .f32⟩
  | 31 => ⟨S_, .f32⟩
  | 32 => ⟨S128x8, .f32⟩
  | 33 => ⟨S128x8x1, .f32⟩
  | 34 => ⟨S_, .f32⟩
  | 35 => ⟨S128x8, .f32⟩
  | 36 => ⟨S8x128, .f32⟩
  | 37 => ⟨S8x1x16x128x128, .f32⟩
  | 38 => ⟨S8x128x128, .f32⟩
  | 39 => ⟨S8x1x16x128x128, .f32⟩
  | 40 => ⟨S1x16x128x8x128, .f32⟩
  | 41 => ⟨S_, .f32⟩
  | 42 => ⟨S8x128x128, .f32⟩
  | 43 => ⟨S8x128x128, .f32⟩
  | 44 => ⟨S1x2048x1024, .f32⟩
  | 45 => ⟨S_, .f32⟩
  | 46 => ⟨S1x1024, .f32⟩
  | 47 => ⟨S1x1x1024, .f32⟩
  | 48 => ⟨S_, .f32⟩
  | 49 => ⟨S1024, .f32⟩
  | 50 => ⟨S1x2048x1024, .f32⟩
  | 51 => ⟨S_, .f32⟩
  | 52 => ⟨S1x1024, .f32⟩
  | 53 => ⟨S1x1x1024, .f32⟩
  | 54 => ⟨S1x2048x1024, .f32⟩
  | 55 => ⟨S1x2048x1024, .f32⟩
  | 56 => ⟨S_, .f32⟩
  | 57 => ⟨S1024, .f32⟩
  | 58 => ⟨S1x2048x1024, .f32⟩
  | 59 => ⟨S_, .f32⟩
  | 60 => ⟨S1x2048, .f32⟩
  | 61 => ⟨S1x2048x1, .f32⟩
  | 62 => ⟨S1x2048x1024, .f32⟩
  | 63 => ⟨S1x2048x1024, .f32⟩
  | 64 => ⟨S1x2048x1, .f32⟩
  | 65 => ⟨S1x2048x1024, .f32⟩
  | 66 => ⟨S_, .f32⟩
  | 67 => ⟨S1x2048, .f32⟩
  | 68 => ⟨S1x2048x1, .f32⟩
  | 69 => ⟨S_, .f32⟩
  | 70 => ⟨S1x2048x1, .f32⟩
  | 71 => ⟨S1x2048x1, .f32⟩
  | 72 => ⟨S_, .f32⟩
  | 73 => ⟨S2048, .f32⟩
  | 74 => ⟨S1x2048, .f32⟩
  | 75 => ⟨S1x2048x1024, .f32⟩
  | 76 => ⟨S1x2048x1024, .f32⟩
  | 77 => ⟨S1x2048x1024, .f32⟩
  | 78 => ⟨S_, .f32⟩
  | 79 => ⟨S1x2048, .f32⟩
  | 80 => ⟨S1x2048x1, .f32⟩
  | 81 => ⟨S1x2048x1024, .f32⟩
  | 82 => ⟨S1x2048x1, .f32⟩
  | 83 => ⟨S_, .f32⟩
  | 84 => ⟨S1x2048x1, .f32⟩
  | 85 => ⟨S1x2048x1, .f32⟩
  | 86 => ⟨S_, .f32⟩
  | 87 => ⟨S2048, .f32⟩
  | 88 => ⟨S1x2048, .f32⟩
  | 89 => ⟨S1x2048x1024, .f32⟩
  | 90 => ⟨S1x2048x1024, .f32⟩
  | 91 => ⟨S1x2048x1024, .f32⟩
  | 92 => ⟨S1x2048x1024, .f32⟩
  | 93 => ⟨S_, .f32⟩
  | 94 => ⟨S1x2048x1024, .f32⟩
  | 95 => ⟨S1x2048x1024, .f32⟩
  | 96 => ⟨S1x2048x1024, .f32⟩
  | 97 => ⟨S_, .f32⟩
  | 98 => ⟨S1x2048x1024, .f32⟩
  | 99 => ⟨S1x2048x1024, .f32⟩
  | 100 => ⟨S1x2048x1024, .f32⟩
  | 101 => ⟨S_, .f32⟩
  | 102 => ⟨S1x2048x1024, .f32⟩
  | 103 => ⟨S1x2048x1024, .f32⟩
  | 104 => ⟨S1x2048x1024, .f32⟩
  | 105 => ⟨S1x2048x1024, .f32⟩
  | 106 => ⟨S1x2048x1024, .f32⟩
  | 107 => ⟨S1x2048x1024, .f32⟩
  | 108 => ⟨S_, .f32⟩
  | 109 => ⟨S1x2048x1024, .f32⟩
  | 110 => ⟨S1x2048x1024, .f32⟩
  | 111 => ⟨S1x2048x1024, .f32⟩
  | 112 => ⟨S_, .f32⟩
  | 113 => ⟨S1x2048x1024, .f32⟩
  | 114 => ⟨S1x2048x1024, .f32⟩
  | 115 => ⟨S1x2048x1024, .f32⟩
  | 116 => ⟨S_, .f32⟩
  | 117 => ⟨S1x2048x1024, .f32⟩
  | 118 => ⟨S1x2048x1024, .f32⟩
  | 119 => ⟨S1x2048x1024, .f32⟩
  | 120 => ⟨S1x2048x1024, .f32⟩
  | 121 => ⟨S2048x1024, .f32⟩
  | 122 => ⟨S2048x1024, .f32⟩
  | 123 => ⟨S2048x1024, .f32⟩
  | 124 => ⟨S1x1024, .f32⟩
  | 125 => ⟨S1x1024, .f32⟩
  | 126 => ⟨S8x128x1, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_cst_12 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_v49 : Ref sig .tc := ⟨.hbm, 70, rfl⟩
abbrev main_cst_14 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_15 : Ref sig .tc := ⟨.hbm, 77, rfl⟩
abbrev main_v55 : Ref sig .tc := ⟨.hbm, 78, rfl⟩
abbrev main_v56 : Ref sig .tc := ⟨.hbm, 79, rfl⟩
abbrev main_cst_16 : Ref sig .tc := ⟨.hbm, 80, rfl⟩
abbrev main_v57 : Ref sig .tc := ⟨.hbm, 81, rfl⟩
abbrev main_v58 : Ref sig .tc := ⟨.hbm, 82, rfl⟩
abbrev main_cst_17 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_18 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_19 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_c : Ref sig .tc := ⟨.hbm, 105, rfl⟩
abbrev main_v78 : Ref sig .tc := ⟨.hbm, 106, rfl⟩
abbrev main_call0_v0 : Ref sig .tc := ⟨.hbm, 107, rfl⟩
abbrev main_call0_c : Ref sig .tc := ⟨.hbm, 108, rfl⟩
abbrev main_call0_v1 : Ref sig .tc := ⟨.hbm, 109, rfl⟩
abbrev main_call0_v2 : Ref sig .tc := ⟨.hbm, 110, rfl⟩
abbrev main_call0_v3 : Ref sig .tc := ⟨.hbm, 111, rfl⟩
abbrev main_call0_v4 : Ref sig .tc := ⟨.hbm, 112, rfl⟩
abbrev main_call0_c_0 : Ref sig .tc := ⟨.hbm, 113, rfl⟩
abbrev main_call0_v5 : Ref sig .tc := ⟨.hbm, 114, rfl⟩
abbrev main_v79 : Ref sig .tc := ⟨.hbm, 115, rfl⟩
abbrev main_v80 : Ref sig .tc := ⟨.hbm, 116, rfl⟩
abbrev main_cst_20 : Ref sig .tc := ⟨.hbm, 117, rfl⟩
abbrev main_v81 : Ref sig .tc := ⟨.hbm, 118, rfl⟩
abbrev main_v82_1 : Ref sig .tc := ⟨.hbm, 119, rfl⟩
abbrev main_v82_0 : Ref sig .tc := ⟨.hbm, 120, rfl⟩
abbrev main_call1_cst : Ref sig .tc := ⟨.hbm, 121, rfl⟩
abbrev main_v82_2 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_call2_v0 : Ref sig .tc := ⟨.hbm, 132, rfl⟩
abbrev main_call2_v1 : Ref sig .tc := ⟨.hbm, 133, rfl⟩
abbrev main_call2_cst : Ref sig .tc := ⟨.hbm, 134, rfl⟩
abbrev main_call2_v2 : Ref sig .tc := ⟨.hbm, 135, rfl⟩
abbrev main_call2_v3 : Ref sig .tc := ⟨.hbm, 136, rfl⟩
abbrev main_call2_cst_0 : Ref sig .tc := ⟨.hbm, 137, rfl⟩
abbrev main_call2_v4 : Ref sig .tc := ⟨.hbm, 138, rfl⟩
abbrev main_v92_2 : Ref sig .tc := ⟨.hbm, 139, rfl⟩
abbrev main_call2_cst_1 : Ref sig .tc := ⟨.hbm, 140, rfl⟩
abbrev main_call2_v6 : Ref sig .tc := ⟨.hbm, 141, rfl⟩
abbrev main_call2_v7 : Ref sig .tc := ⟨.hbm, 142, rfl⟩
abbrev main_v92_1 : Ref sig .tc := ⟨.hbm, 143, rfl⟩
abbrev main_v92_0 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_call3_v0 : Ref sig .tc := ⟨.hbm, 149, rfl⟩
abbrev main_call3_v1 : Ref sig .tc := ⟨.hbm, 150, rfl⟩
abbrev main_call3_v2 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_cst_21 : Ref sig .tc := ⟨.hbm, 156, rfl⟩
abbrev main_v101 : Ref sig .tc := ⟨.hbm, 157, rfl⟩
abbrev main_v102 : Ref sig .tc := ⟨.hbm, 158, rfl⟩
abbrev main_cst_22 : Ref sig .tc := ⟨.hbm, 159, rfl⟩
abbrev main_v103 : Ref sig .tc := ⟨.hbm, 160, rfl⟩
abbrev main_v104 : Ref sig .tc := ⟨.hbm, 161, rfl⟩
abbrev main_cst_23 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_call4_cst : Ref sig .tc := ⟨.hbm, 169, rfl⟩
abbrev main_call4_v0 : Ref sig .tc := ⟨.hbm, 170, rfl⟩
abbrev main_v111 : Ref sig .tc := ⟨.hbm, 171, rfl⟩
abbrev main_v112 : Ref sig .tc := ⟨.hbm, 172, rfl⟩
abbrev main_cst_24 : Ref sig .tc := ⟨.hbm, 173, rfl⟩
abbrev main_v113 : Ref sig .tc := ⟨.hbm, 174, rfl⟩
abbrev main_v114 : Ref sig .tc := ⟨.hbm, 175, rfl⟩
abbrev main_cst_25 : Ref sig .tc := ⟨.hbm, 176, rfl⟩
abbrev main_v115 : Ref sig .tc := ⟨.hbm, 177, rfl⟩
abbrev main_v116 : Ref sig .tc := ⟨.hbm, 178, rfl⟩
abbrev main_cst_26 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_cst_27 : Ref sig .tc := ⟨.hbm, 184, rfl⟩
abbrev main_v121 : Ref sig .tc := ⟨.hbm, 185, rfl⟩
abbrev main_v122 : Ref sig .tc := ⟨.hbm, 186, rfl⟩
abbrev main_cst_28 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_cst_29 : Ref sig .tc := ⟨.hbm, 194, rfl⟩
abbrev main_v129 : Ref sig .tc := ⟨.hbm, 195, rfl⟩
abbrev main_v130 : Ref sig .tc := ⟨.hbm, 196, rfl⟩
abbrev main_cst_30 : Ref sig .tc := ⟨.hbm, 197, rfl⟩
abbrev main_v131 : Ref sig .tc := ⟨.hbm, 198, rfl⟩
abbrev main_v132 : Ref sig .tc := ⟨.hbm, 199, rfl⟩
abbrev main_cst_31 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_cst_32 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_cst_33 : Ref sig .tc := ⟨.hbm, 211, rfl⟩
abbrev main_v142 : Ref sig .tc := ⟨.hbm, 212, rfl⟩
abbrev main_v143 : Ref sig .tc := ⟨.hbm, 213, rfl⟩
abbrev main_cst_34 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_cst_35 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_cst_36 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_cst_37 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_cst_38 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_cst_39 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_cst_40 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩

abbrev nD : Nat := 1
abbrev τ : Topo := Topo.v7x

variable {F : FTy → Type} [FloatOps F]
-- ==== Kernel2.lean ====
abbrev S2048x13568 : Shape := ⟨2, ![2048, 13568]⟩
abbrev S2048x2048 : Shape := ⟨2, ![2048, 2048]⟩
abbrev S8x128 : Shape := ⟨2, ![8, 128]⟩
abbrev S13568x2048 : Shape := ⟨2, ![13568, 2048]⟩
abbrev S2048x256 : Shape := ⟨2, ![2048, 256]⟩
abbrev S256x2048 : Shape := ⟨2, ![256, 2048]⟩

abbrev nBuf : Space → Nat
  | .hbm => 4
  | .vmem => 5
  | .smem => 0
  | _ => 0

abbrev bufTy : (tb : Table) → Fin (tcTables nBuf tb) → BufTy
  | .hbm, ⟨0, _⟩ => ⟨S2048x13568, .bf16⟩
  | .hbm, ⟨1, _⟩ => ⟨S2048x2048, .bf16⟩
  | .hbm, ⟨2, _⟩ => ⟨S8x128, .f32⟩
  | .hbm, ⟨3, _⟩ => ⟨S13568x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x2048, .bf16⟩
  | .local _ .vmem, ⟨3, _⟩ => ⟨S256x2048, .bf16⟩
  | .local _ .vmem, ⟨4, _⟩ => ⟨S256x2048, .bf16⟩
  | _, _ => ⟨S2048x13568, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![53, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x13568 : Shape := ⟨2, ![2048, 13568]⟩
abbrev S2048x2048 : Shape := ⟨2, ![2048, 2048]⟩
abbrev S8x128 : Shape := ⟨2, ![8, 128]⟩
abbrev S_ : Shape := ⟨0, ![]⟩
abbrev S13568x2048 : Shape := ⟨2, ![13568, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x13568, .bf16⟩
  | .hbm, ⟨1, _⟩ => ⟨S2048x2048, .bf16⟩
  | .hbm, ⟨2, _⟩ => ⟨S8x128, .f32⟩
  | .hbm, ⟨3, _⟩ => ⟨S2048x2048, .f32⟩
  | .hbm, ⟨4, _⟩ => ⟨S2048x13568, .f32⟩
  | .hbm, ⟨5, _⟩ => ⟨S_, .f32⟩
  | .hbm, ⟨6, _⟩ => ⟨S2048x13568, .f32⟩
  | .hbm, ⟨7, _⟩ => ⟨S2048x13568, .f32⟩
  | .hbm, ⟨8, _⟩ => ⟨S13568x2048, .f32⟩
  | .hbm, ⟨9, _⟩ => ⟨S2048x13568, .f32⟩
  | .hbm, ⟨10, _⟩ => ⟨S13568x2048, .f32⟩
  | .hbm, ⟨11, _⟩ => ⟨S13568x2048, .bf16⟩
  | _, _ => ⟨S2048x13568, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel3.lean ====
abbrev S2048x13568 : Shape := ⟨2, ![2048, 13568]⟩
abbrev S13568x2048 : Shape := ⟨2, ![13568, 2048]⟩
abbrev S8x128 : Shape := ⟨2, ![8, 128]⟩
abbrev S2048x2048 : Shape := ⟨2, ![2048, 2048]⟩
abbrev S1024x6784 : Shape := ⟨2, ![1024, 6784]⟩
abbrev S6784x512 : Shape := ⟨2, ![6784, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x13568, .bf16⟩
  | .hbm, ⟨1, _⟩ => ⟨S13568x2048, .bf16⟩
  | .hbm, ⟨2, _⟩ => ⟨S8x128, .f32⟩
  | .hbm, ⟨3, _⟩ => ⟨S2048x2048, .f32⟩
  | .local _ .vmem, ⟨0, _⟩ => ⟨S1024x6784, .bf16⟩
  | .local _ .vmem, ⟨1, _⟩ => ⟨S1024x6784, .bf16⟩
  | .local _ .vmem, ⟨2, _⟩ => ⟨S6784x512, .bf16⟩
  | .local _ .vmem, ⟨3, _⟩ => ⟨S6784x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x13568, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x6784 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S6784x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x13568 : Shape := ⟨2, ![2048, 13568]⟩
abbrev S13568x2048 : Shape := ⟨2, ![13568, 2048]⟩
abbrev S8x128 : Shape := ⟨2, ![8, 128]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x13568, .bf16⟩
  | .hbm, ⟨1, _⟩ => ⟨S13568x2048, .bf16⟩
  | .hbm, ⟨2, _⟩ => ⟨S8x128, .f32⟩
  | .hbm, ⟨3, _⟩ => ⟨S13568x2048, .f32⟩
  | .hbm, ⟨4, _⟩ => ⟨S2048x13568, .f32⟩
  | .hbm, ⟨5, _⟩ => ⟨S2048x13568, .f32⟩
  | .hbm, ⟨6, _⟩ => ⟨S_, .f32⟩
  | .hbm, ⟨7, _⟩ => ⟨S2048x2048, .f32⟩
  | .hbm, ⟨8, _⟩ => ⟨S2048x13568, .f32⟩
  | .hbm, ⟨9, _⟩ => ⟨S2048x2048, .f32⟩
  | _, _ => ⟨S2048x13568, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel4.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2048x2048 : Shape := ⟨2, ![2048, 2048]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x2048 : Shape := ⟨2, ![2048, 2048]⟩
abbrev S2048x1024 : Shape := ⟨2, ![2048, 1024]⟩
abbrev S1024x2048 : Shape := ⟨2, ![1024, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x2048, .f32⟩
  | .hbm, ⟨3, _⟩ => ⟨S2048x1024, .f32⟩
  | .hbm, ⟨4, _⟩ => ⟨S1024x2048, .f32⟩
  | .hbm, ⟨5, _⟩ => ⟨S_, .f32⟩
  | .hbm, ⟨6, _⟩ => ⟨S2048x1024, .f32⟩
  | .hbm, ⟨7, _⟩ => ⟨S2048x2048, .f32⟩
  | .hbm, ⟨8, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x2048 : Shape := ⟨2, ![2048, 2048]⟩
abbrev S2048x1024 : Shape := ⟨2, ![2048, 1024]⟩
abbrev S_ : Shape := ⟨0, ![]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x2048, .f32⟩
  | .hbm, ⟨3, _⟩ => ⟨S2048x1024, .f32⟩
  | .hbm, ⟨4, _⟩ => ⟨S_, .f32⟩
  | .hbm, ⟨5, _⟩ => ⟨S1024x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S1024x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S2048x2048 : Shape := ⟨2, ![2048, 2048]⟩
abbrev S13568x2048 : Shape := ⟨2, ![13568, 2048]⟩
abbrev S8x128 : Shape := ⟨2, ![8, 128]⟩
abbrev S2048x6400 : Shape := ⟨2, ![2048, 6400]⟩
abbrev S256x2048 : Shape := ⟨2, ![256, 2048]⟩
abbrev S2048x256 : Shape := ⟨2, ![2048, 256]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S13568x2048, .bf16⟩
  | .hbm, ⟨2, _⟩ => ⟨S8x128, .f32⟩
  | .hbm, ⟨3, _⟩ => ⟨S2048x6400, .f32⟩
  | .local _ .vmem, ⟨0, _⟩ => ⟨S2048x2048, .bf16⟩
  | .local _ .vmem, ⟨1, _⟩ => ⟨S256x2048, .bf16⟩
  | .local _ .vmem, ⟨2, _⟩ => ⟨S256x2048, .bf16⟩
  | .local _ .vmem, ⟨3, _⟩ => ⟨S2048x256, .f32⟩
  | .local _ .vmem, ⟨4, _⟩ => ⟨S2048x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 25, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S13568x2048 : Shape := ⟨2, ![13568, 2048]⟩
abbrev S8x128 : Shape := ⟨2, ![8, 128]⟩
abbrev S2048x13568 : Shape := ⟨2, ![2048, 13568]⟩
abbrev S2048x6400 : Shape := ⟨2, ![2048, 6400]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S13568x2048, .bf16⟩
  | .hbm, ⟨2, _⟩ => ⟨S8x128, .f32⟩
  | .hbm, ⟨3, _⟩ => ⟨S2048x2048, .f32⟩
  | .hbm, ⟨4, _⟩ => ⟨S13568x2048, .f32⟩
  | .hbm, ⟨5, _⟩ => ⟨S2048x13568, .f32⟩
  | .hbm, ⟨6, _⟩ => ⟨S2048x13568, .f32⟩
  | .hbm, ⟨7, _⟩ => ⟨S2048x6400, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S2048x2048 : Shape := ⟨2, ![2048, 2048]⟩
abbrev S13568x2048 : Shape := ⟨2, ![13568, 2048]⟩
abbrev S8x128 : Shape := ⟨2, ![8, 128]⟩
abbrev S2048x1024 : Shape := ⟨2, ![2048, 1024]⟩
abbrev S256x2048 : Shape := ⟨2, ![256, 2048]⟩
abbrev S2048x256 : Shape := ⟨2, ![2048, 256]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S13568x2048, .bf16⟩
  | .hbm, ⟨2, _⟩ => ⟨S8x128, .f32⟩
  | .hbm, ⟨3, _⟩ => ⟨S2048x1024, .f32⟩
  | .local _ .vmem, ⟨0, _⟩ => ⟨S2048x2048, .bf16⟩
  | .local _ .vmem, ⟨1, _⟩ => ⟨S256x2048, .bf16⟩
  | .local _ .vmem, ⟨2, _⟩ => ⟨S256x2048, .bf16⟩
  | .local _ .vmem, ⟨3, _⟩ => ⟨S2048x256, .f32⟩
  | .local _ .vmem, ⟨4, _⟩ => ⟨S2048x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c25_i32 : BitVec 32 := 25#32
  let v0 : BitVec 32 := Scalar.addi arg1 c25_i32
  let c0_i32 : BitVec 32 := 0#32
  let v1 : BitVec 32 := Scalar.addi arg2 c0_i32
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S13568x2048 : Shape := ⟨2, ![13568, 2048]⟩
abbrev S8x128 : Shape := ⟨2, ![8, 128]⟩
abbrev S2048x13568 : Shape := ⟨2, ![2048, 13568]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S13568x2048, .bf16⟩
  | .hbm, ⟨2, _⟩ => ⟨S8x128, .f32⟩
  | .hbm, ⟨3, _⟩ => ⟨S2048x2048, .f32⟩
  | .hbm, ⟨4, _⟩ => ⟨S13568x2048, .f32⟩
  | .hbm, ⟨5, _⟩ => ⟨S2048x13568, .f32⟩
  | .hbm, ⟨6, _⟩ => ⟨S2048x13568, .f32⟩
  | .hbm, ⟨7, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S2048x2048 : Shape := ⟨2, ![2048, 2048]⟩
abbrev S13568x2048 : Shape := ⟨2, ![13568, 2048]⟩
abbrev S8x128 : Shape := ⟨2, ![8, 128]⟩
abbrev S2048x6144 : Shape := ⟨2, ![2048, 6144]⟩
abbrev S256x2048 : Shape := ⟨2, ![256, 2048]⟩
abbrev S2048x256 : Shape := ⟨2, ![2048, 256]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S13568x2048, .bf16⟩
  | .hbm, ⟨2, _⟩ => ⟨S8x128, .f32⟩
  | .hbm, ⟨3, _⟩ => ⟨S2048x6144, .f32⟩
  | .local _ .vmem, ⟨0, _⟩ => ⟨S2048x2048, .bf16⟩
  | .local _ .vmem, ⟨1, _⟩ => ⟨S256x2048, .bf16⟩
  | .local _ .vmem, ⟨2, _⟩ => ⟨S256x2048, .bf16⟩
  | .local _ .vmem, ⟨3, _⟩ => ⟨S2048x256, .f32⟩
  | .local _ .vmem, ⟨4, _⟩ => ⟨S2048x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 24, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c29_i32 : BitVec 32 := 29#32
  let v0 : BitVec 32 := Scalar.addi arg1 c29_i32
  let c0_i32 : BitVec 32 := 0#32
  let v1 : BitVec 32 := Scalar.addi arg2 c0_i32
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x2048 : Shape := ⟨2, ![2048, 2048]⟩
abbrev S13568x2048 : Shape := ⟨2, ![13568, 2048]⟩
abbrev S8x128 : Shape := ⟨2, ![8, 128]⟩
abbrev S2048x13568 : Shape := ⟨2, ![2048, 13568]⟩
abbrev S2048x6144 : Shape := ⟨2, ![2048, 6144]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S13568x2048, .bf16⟩
  | .hbm, ⟨2, _⟩ => ⟨S8x128, .f32⟩
  | .hbm, ⟨3, _⟩ => ⟨S2048x2048, .f32⟩
  | .hbm, ⟨4, _⟩ => ⟨S13568x2048, .f32⟩
  | .hbm, ⟨5, _⟩ => ⟨S2048x13568, .f32⟩
  | .hbm, ⟨6, _⟩ => ⟨S2048x13568, .f32⟩
  | .hbm, ⟨7, _⟩ => ⟨S2048x6144, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S2048x1024 : Shape := ⟨2, ![2048, 1024]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S2048x1024 : Shape := ⟨2, ![2048, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩
abbrev main_v5 : Ref sig .tc := ⟨.hbm, 23, rfl⟩

abbrev nD : Nat := 1
abbrev τ : Topo := Topo.v7x

variable {F : FTy → Type} [FloatOps F]
-- ==== Kernel14.lean ====
abbrev S2048x2048 : Shape := ⟨2, ![2048, 2048]⟩
abbrev S2048x6144 : Shape := ⟨2, ![2048, 6144]⟩
abbrev S256x2048 : Shape := ⟨2, ![256, 2048]⟩
abbrev S256x6144 : Shape := ⟨2, ![256, 6144]⟩

abbrev nBuf : Space → Nat
  | .hbm => 9
  | .vmem => 22
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x6144, .f32⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S2048x6144, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x6144, .bf16⟩
  | .local _ .vmem, ⟨21, _⟩ => ⟨S256x6144, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x6144 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference14Ideal.lean ====
abbrev S2048x2048 : Shape := ⟨2, ![2048, 2048]⟩
abbrev S2048x6144 : Shape := ⟨2, ![2048, 6144]⟩
abbrev S2048x3x2048 : Shape := ⟨3, ![2048, 3, 2048]⟩
abbrev S_ : Shape := ⟨0, ![]⟩
abbrev S2048x1x2048 : Shape := ⟨3, ![2048, 1, 2048]⟩

abbrev nBuf : Space → Nat
  | .hbm => 54
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x6144, .f32⟩
  | .hbm, ⟨5, _⟩ => ⟨S2048x3x2048, .f32⟩
  | .hbm, ⟨6, _⟩ => ⟨S2048x3x2048, .f32⟩
  | .hbm, ⟨7, _⟩ => ⟨S2048x3x2048, .f32⟩
  | .hbm, ⟨8, _⟩ => ⟨S_, .f32⟩
  | .hbm, ⟨9, _⟩ => ⟨S2048x3x2048, .f32⟩
  | .hbm, ⟨10, _⟩ => ⟨S2048x3x2048, .f32⟩
  | .hbm, ⟨11, _⟩ => ⟨S_, .f32⟩
  | .hbm, ⟨12, _⟩ => ⟨S2048x3x2048, .f32⟩
  | .hbm, ⟨13, _⟩ => ⟨S2048x3x2048, .f32⟩
  | .hbm, ⟨14, _⟩ => ⟨S_, .f32⟩
  | .hbm, ⟨15, _⟩ => ⟨S2048x3x2048, .f32⟩
  | .hbm, ⟨16, _⟩ => ⟨S2048x3x2048, .f32⟩
  | .hbm, ⟨17, _⟩ => ⟨S2048x3x2048, .f32⟩
  | .hbm, ⟨18, _⟩ => ⟨S2048x1x2048, .f32⟩
  | .hbm, ⟨19, _⟩ => ⟨S2048x2048, .f32⟩
  | .hbm, ⟨20, _⟩ => ⟨S2048x2048, .f32⟩
  | .hbm, ⟨21, _⟩ => ⟨S2048x1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x1x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x1x2048, .f32⟩
  | .hbm, ⟨34, _⟩ => ⟨S_, .f32⟩
  | .hbm, ⟨35, _⟩ => ⟨S2048x3x2048, .f32⟩
  | .hbm, ⟨36, _⟩ => ⟨S2048x2048, .f32⟩
  | .hbm, ⟨37, _⟩ => ⟨S2048x2048, .f32⟩
  | .hbm, ⟨38, _⟩ => ⟨S2048x1x2048, .f32⟩
  | .hbm, ⟨39, _⟩ => ⟨S_, .f32⟩
  | .hbm, ⟨40, _⟩ => ⟨S2048x3x2048, .f32⟩
  | .hbm, ⟨41, _⟩ => ⟨S2048x3x2048, .f32⟩
  | .hbm, ⟨42, _⟩ => ⟨S2048x2048, .f32⟩
  | .hbm, ⟨43, _⟩ => ⟨S2048x2048, .f32⟩
  | .hbm, ⟨44, _⟩ => ⟨S2048x1x2048, .f32⟩
  | .hbm, ⟨45, _⟩ => ⟨S_, .f32⟩
  | .hbm, ⟨46, _⟩ => ⟨S2048x3x2048, .f32⟩
  | .hbm, ⟨47, _⟩ => ⟨S2048x3x2048, .f32⟩
  | .hbm, ⟨48, _⟩ => ⟨S2048x3x2048, .f32⟩
  | .hbm, ⟨49, _⟩ => ⟨S2048x6144, .f32⟩
  | .hbm, ⟨50, _⟩ => ⟨S2048x2048, .bf16⟩
  | .hbm, ⟨51, _⟩ => ⟨S2048x2048, .bf16⟩
  | .hbm, ⟨52, _⟩ => ⟨S2048x2048, .bf16⟩
  | .hbm, ⟨53, _⟩ => ⟨S2048x6144, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Kernel15.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference15Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel16.lean ====
abbrev S2048x1024 : Shape := ⟨2, ![2048, 1024]⟩
abbrev S2048x6400 : Shape := ⟨2, ![2048, 6400]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 11
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x6400, .f32⟩
  | .hbm, ⟨3, _⟩ => ⟨S1024x1024, .bf16⟩
  | .hbm, ⟨4, _⟩ => ⟨S1024, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S2048x1024, .bf16⟩
  | .hbm, ⟨9, _⟩ => ⟨S2048x1024, .bf16⟩
  | .hbm, ⟨10, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference16Ideal.lean ====
abbrev S2048x1024 : Shape := ⟨2, ![2048, 1024]⟩
abbrev S2048x6400 : Shape := ⟨2, ![2048, 6400]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

abbrev nBuf : Space → Nat
  | .hbm => 113
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x6400, .f32⟩
  | .hbm, ⟨3, _⟩ => ⟨S1024x1024, .bf16⟩
  | .hbm, ⟨4, _⟩ => ⟨S1024, .f32⟩
  | .hbm, ⟨5, _⟩ => ⟨S2048x1024, .f32⟩
  | .hbm, ⟨6, _⟩ => ⟨S1024x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S_, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S_, .f32⟩
  | .hbm, ⟨83, _⟩ => ⟨S2048x1024, .f32⟩
  | .hbm, ⟨84, _⟩ => ⟨S2048x1024, .f32⟩
  | .hbm, ⟨85, _⟩ => ⟨S2048x1024, .f32⟩
  | .hbm, ⟨86, _⟩ => ⟨S_, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S_, .f32⟩
  | .hbm, ⟨94, _⟩ => ⟨S2048x1024, .f32⟩
  | .hbm, ⟨95, _⟩ => ⟨S2048x1024, .f32⟩
  | .hbm, ⟨96, _⟩ => ⟨S2048x1024, .f32⟩
  | .hbm, ⟨97, _⟩ => ⟨S_, .f32⟩
  | .hbm, ⟨98, _⟩ => ⟨S2048x1024, .f32⟩
  | .hbm, ⟨99, _⟩ => ⟨S2048x1024, .f32⟩
  | .hbm, ⟨100, _⟩ => ⟨S2048x1024, .f32⟩
  | .hbm, ⟨101, _⟩ => ⟨S_, .f32⟩
  | .hbm, ⟨102, _⟩ => ⟨S2048x1024, .f32⟩
  | .hbm, ⟨103, _⟩ => ⟨S2048x1024, .f32⟩
  | .hbm, ⟨104, _⟩ => ⟨S_, .f32⟩
  | .hbm, ⟨105, _⟩ => ⟨S2048x1024, .f32⟩
  | .hbm, ⟨106, _⟩ => ⟨S2048x1024, .f32⟩
  | .hbm, ⟨107, _⟩ => ⟨S2048x1024, .f32⟩
  | .hbm, ⟨108, _⟩ => ⟨S2048x1024, .bf16⟩
  | .hbm, ⟨109, _⟩ => ⟨S2048x1024, .bf16⟩
  | .hbm, ⟨110, _⟩ => ⟨S_, .f32⟩
  | .hbm, ⟨111, _⟩ => ⟨S1024, .f32⟩
  | .hbm, ⟨112, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_v36_2 : Ref sig .tc := ⟨.hbm, 58, rfl⟩
abbrev main_call0_cst_1 : Ref sig .tc := ⟨.hbm, 59, rfl⟩
abbrev main_call0_v6 : Ref sig .tc := ⟨.hbm, 60, rfl⟩
abbrev main_call0_v7 : Ref sig .tc := ⟨.hbm, 61, rfl⟩
abbrev main_v36_1 : Ref sig .tc := ⟨.hbm, 62, rfl⟩
abbrev main_v36_0 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_9 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_11 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_12 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_13 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_14 : Ref sig .tc := ⟨.hbm, 101, rfl⟩
abbrev main_v66 : Ref sig .tc := ⟨.hbm, 102, rfl⟩
abbrev main_v67 : Ref sig .tc := ⟨.hbm, 103, rfl⟩
abbrev main_cst_15 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_16 : Ref sig .tc := ⟨.hbm, 110, rfl⟩
abbrev main_v73 : Ref sig .tc := ⟨.hbm, 111, rfl⟩
abbrev main_v74 : Ref sig .tc := ⟨.hbm, 112, rfl⟩

abbrev nD : Nat := 1
abbrev τ : Topo := Topo.v7x

variable {F : FTy → Type} [FloatOps F]
-- ==== Kernel17.lean ====
abbrev S2048x1024 : Shape := ⟨2, ![2048, 1024]⟩
abbrev S2048x6144 : Shape := ⟨2, ![2048, 6144]⟩
abbrev S2048x2048 : Shape := ⟨2, ![2048, 2048]⟩
abbrev S256x1024 : Shape := ⟨2, ![256, 1024]⟩
abbrev S256x2048 : Shape := ⟨2, ![256, 2048]⟩

abbrev nBuf : Space → Nat
  | .hbm => 13
  | .vmem => 27
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S2048x6144, .f32⟩
  | .hbm, ⟨5, _⟩ => ⟨S2048x1024, .bf16⟩
  | .hbm, ⟨6, _⟩ => ⟨S2048x1024, .bf16⟩
  | .hbm, ⟨7, _⟩ => ⟨S2048x1024, .bf16⟩
  | .hbm, ⟨8, _⟩ => ⟨S2048x2048, .bf16⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S2048x1024, .bf16⟩
  | .local _ .vmem, ⟨15, _⟩ => ⟨S2048x1024, .bf16⟩
  | .local _ .vmem, ⟨16, _⟩ => ⟨S2048x1024, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .f32⟩
  | .local _ .vmem, ⟨25, _⟩ => ⟨S256x1024, .bf16⟩
  | .local _ .vmem, ⟨26, _⟩ => ⟨S256x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference17Ideal.lean ====
abbrev S2048x1024 : Shape := ⟨2, ![2048, 1024]⟩
abbrev S2048x6144 : Shape := ⟨2, ![2048, 6144]⟩
abbrev S_ : Shape := ⟨0, ![]⟩
abbrev S1024x2048 : Shape := ⟨2, ![1024, 2048]⟩
abbrev S2048x2048 : Shape := ⟨2, ![2048, 2048]⟩
abbrev S2048x3x2048 : Shape := ⟨3, ![2048, 3, 2048]⟩
abbrev S2048x1x2048 : Shape := ⟨3, ![2048, 1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S2048x6144, .f32⟩
  | .hbm, ⟨5, _⟩ => ⟨S2048x1024, .bf16⟩
  | .hbm, ⟨6, _⟩ => ⟨S2048x1024, .bf16⟩
  | .hbm, ⟨7, _⟩ => ⟨S2048x1024, .bf16⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S1024x2048, .f32⟩
  | .hbm, ⟨22, _⟩ => ⟨S2048x1024, .f32⟩
  | .hbm, ⟨23, _⟩ => ⟨S1024x2048, .f32⟩
  | .hbm, ⟨24, _⟩ => ⟨S2048x1024, .f32⟩
  | .hbm, ⟨25, _⟩ => ⟨S1024x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x3x2048, .f32⟩
  | .hbm, ⟨30, _⟩ => ⟨S2048x3x2048, .f32⟩
  | .hbm, ⟨31, _⟩ => ⟨S2048x3x2048, .f32⟩
  | .hbm, ⟨32, _⟩ => ⟨S_, .f32⟩
  | .hbm, ⟨33, _⟩ => ⟨S2048x3x2048, .f32⟩
  | .hbm, ⟨34, _⟩ => ⟨S2048x3x2048, .f32⟩
  | .hbm, ⟨35, _⟩ => ⟨S_, .f32⟩
  | .hbm, ⟨36, _⟩ => ⟨S2048x3x2048, .f32⟩
  | .hbm, ⟨37, _⟩ => ⟨S2048x3x2048, .f32⟩
  | .hbm, ⟨38, _⟩ => ⟨S2048x1x2048, .f32⟩
  | .hbm, ⟨39, _⟩ => ⟨S2048x2048, .f32⟩
  | .hbm, ⟨40, _⟩ => ⟨S2048x2048, .f32⟩
  | .hbm, ⟨41, _⟩ => ⟨S2048x1x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x1x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .bf16⟩
  | .hbm, ⟨50, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_cst_0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Kernel18.lean ====
abbrev S2048x1024 : Shape := ⟨2, ![2048, 1024]⟩
abbrev S2048x6400 : Shape := ⟨2, ![2048, 6400]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x6400, .f32⟩
  | .hbm, ⟨2, _⟩ => ⟨S1024x1024, .bf16⟩
  | .hbm, ⟨3, _⟩ => ⟨S1024, .f32⟩
  | .hbm, ⟨4, _⟩ => ⟨S1x1024, .f32⟩
  | .hbm, ⟨5, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference18Ideal.lean ====
abbrev S2048x1024 : Shape := ⟨2, ![2048, 1024]⟩
abbrev S2048x6400 : Shape := ⟨2, ![2048, 6400]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x6400, .f32⟩
  | .hbm, ⟨2, _⟩ => ⟨S1024x1024, .bf16⟩
  | .hbm, ⟨3, _⟩ => ⟨S1024, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== Kernel19.lean ====
abbrev S2048x6400 : Shape := ⟨2, ![2048, 6400]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S8x128x1 : Shape := ⟨3, ![8, 128, 1]⟩
abbrev S2048x1024 : Shape := ⟨2, ![2048, 1024]⟩
abbrev S128x1024 : Shape := ⟨2, ![128, 1024]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S128 : Shape := ⟨1, ![128]⟩

abbrev nBuf : Space → Nat
  | .hbm => 9
  | .vmem => 12
  | .smem => 0
  | _ => 0

abbrev bufTy : (tb : Table) → Fin (tcTables nBuf tb) → BufTy
  | .hbm, ⟨0, _⟩ => ⟨S2048x6400, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1x1024, .f32⟩
  | .hbm, ⟨6, _⟩ => ⟨S1x1024, .f32⟩
  | .hbm, ⟨7, _⟩ => ⟨S8x128x1, .f32⟩
  | .hbm, ⟨8, _⟩ => ⟨S2048x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S8x128x1, .f32⟩
  | .local _ .vmem, ⟨10, _⟩ => ⟨S128x1024, .bf16⟩
  | .local _ .vmem, ⟨11, _⟩ => ⟨S128x1024, .bf16⟩
  | _, _ => ⟨S2048x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S2048x6400 : Shape := ⟨2, ![2048, 6400]⟩
abbrev S1024 : Shape := ⟨1, ![1024]⟩
abbrev S8x128x128 : Shape := ⟨3, ![8, 128, 128]⟩
abbrev S8x128 : Shape := ⟨2, ![8, 128]⟩
abbrev S2048x1024 : Shape := ⟨2, ![2048, 1024]⟩
abbrev S1x2048x1024 : Shape := ⟨3, ![1, 2048, 1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x16x128x8x128 : Shape := ⟨5, ![1, 16, 128, 8, 128]⟩
abbrev S128x128 : Shape := ⟨2, ![128, 128]⟩
abbrev S1x128x128 : Shape := ⟨3, ![1, 128, 128]⟩
abbrev S8x1x16x128x128 : Shape := ⟨5, ![8, 1, 16, 128, 128]⟩
abbrev S128x8 : Shape := ⟨2, ![128, 8]⟩
abbrev S128x8x1 : Shape := ⟨3, ![128, 8, 1]⟩
abbrev S1x1x128x8x1 : Shape := ⟨5, ![1, 1, 128, 8, 1]⟩

abbrev nBuf : Space → Nat
  | .hbm => 112
  | .vmem => 0
  | .smem => 0
  | _ => 0

abbrev bufTy : (tb : Table) → Fin (tcTables nBuf tb) → BufTy
  | .hbm, ⟨0, _⟩ => ⟨S2048x6400, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S2048x1024, .f32⟩
  | .hbm, ⟨6, _⟩ => ⟨S1x2048x1024, .f32⟩
  | .hbm, ⟨7, _⟩ => ⟨S2048x1024, .f32⟩
  | .hbm, ⟨8, _⟩ => ⟨S1x2048x1024, .f32⟩
  | .hbm, ⟨9, _⟩ => ⟨S2048x1024, .f32⟩
  | .hbm, ⟨10, _⟩ => ⟨S1x2048x1024, .f32⟩
  | .hbm, ⟨11, _⟩ => ⟨S1x2048x1024, .f32⟩
  | .hbm, ⟨12, _⟩ => ⟨S1x2048x1024, .f32⟩
  | .hbm, ⟨13, _⟩ => ⟨S_, .f32⟩
  | .hbm, ⟨14, _⟩ => ⟨S1x2048x1024, .f32⟩
  | .hbm, ⟨15, _⟩ => ⟨S1x2048x1024, .f32⟩
  | .hbm, ⟨16, _⟩ => ⟨S1x2048x1024, .f32⟩
  | .hbm, ⟨17, _⟩ => ⟨S_, .f32⟩
  | .hbm, ⟨18, _⟩ => ⟨S1x2048x1024, .f32⟩
  | .hbm, ⟨19, _⟩ => ⟨S1x2048x1024, .f32⟩
  | .hbm, ⟨20, _⟩ => ⟨S1x2048x1024, .f32⟩
  | .hbm, ⟨21, _⟩ => ⟨S_, .f32⟩
  | .hbm, ⟨22, _⟩ => ⟨S1x2048x1024, .f32⟩
  | .hbm, ⟨23, _⟩ => ⟨S1x2048x1024, .f32⟩
  | .hbm, ⟨24, _⟩ => ⟨S_, .f32⟩
  | .hbm, ⟨25, _⟩ => ⟨S1x2048x1024, .f32⟩
  | .hbm, ⟨26, _⟩ => ⟨S1x2048x1024, .f32⟩
  | .hbm, ⟨27, _⟩ => ⟨S1x2048x1024, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x2048x1024, .f32⟩
  | .hbm, ⟨32, _⟩ => ⟨S1x2048x1024, .f32⟩
  | .hbm, ⟨33, _⟩ => ⟨S1x2048x1024, .f32⟩
  | .hbm, ⟨34, _⟩ => ⟨S_, .f32⟩
  | .hbm, ⟨35, _⟩ => ⟨S1x2048x1024, .f32⟩
  | .hbm, ⟨36, _⟩ => ⟨S1x2048x1024, .f32⟩
  | .hbm, ⟨37, _⟩ => ⟨S1x2048x1024, .f32⟩
  | .hbm, ⟨38, _⟩ => ⟨S_, .f32⟩
  | .hbm, ⟨39, _⟩ => ⟨S1x2048x1024, .f32⟩
  | .hbm, ⟨40, _⟩ => ⟨S1x2048x1024, .f32⟩
  | .hbm, ⟨41, _⟩ => ⟨S_, .f32⟩
  | .hbm, ⟨42, _⟩ => ⟨S1x2048x1024, .f32⟩
  | .hbm, ⟨43, _⟩ => ⟨S1x2048x1024, .f32⟩
  | .hbm, ⟨44, _⟩ => ⟨S1x2048x1024, .f32⟩
  | .hbm, ⟨45, _⟩ => ⟨S_, .f32⟩
  | .hbm, ⟨46, _⟩ => ⟨S1x2048, .f32⟩
  | .hbm, ⟨47, _⟩ => ⟨S1x2048x1, .f32⟩
  | .hbm, ⟨48, _⟩ => ⟨S_, .f32⟩
  | .hbm, ⟨49, _⟩ => ⟨S1x2048x1, .f32⟩
  | .hbm, ⟨50, _⟩ => ⟨S1x2048x1, .f32⟩
  | .hbm, ⟨51, _⟩ => ⟨S1x2048x1024, .f32⟩
  | .hbm, ⟨52, _⟩ => ⟨S1x2048x1024, .f32⟩
  | .hbm, ⟨53, _⟩ => ⟨S1x2048x1024, .f32⟩
  | .hbm, ⟨54, _⟩ => ⟨S_, .f32⟩
  | .hbm, ⟨55, _⟩ => ⟨S1x2048, .f32⟩
  | .hbm, ⟨56, _⟩ => ⟨S1x2048x1, .f32⟩
  | .hbm, ⟨57, _⟩ => ⟨S_, .f32⟩
  | .hbm, ⟨58, _⟩ => ⟨S1x2048x1, .f32⟩
  | .hbm, ⟨59, _⟩ => ⟨S1x2048x1, .f32⟩
  | .hbm, ⟨60, _⟩ => ⟨S1x2048x1024, .f32⟩
  | .hbm, ⟨61, _⟩ => ⟨S1x2048x1024, .f32⟩
  | .hbm, ⟨62, _⟩ => ⟨S_, .f32⟩
  | .hbm, ⟨63, _⟩ => ⟨S1x2048x1, .f32⟩
  | .hbm, ⟨64, _⟩ => ⟨S1x2048x1, .f32⟩
  | .hbm, ⟨65, _⟩ => ⟨S1x2048x1, .f32⟩
  | .hbm, ⟨66, _⟩ => ⟨S1x2048x1024, .f32⟩
  | .hbm, ⟨67, _⟩ => ⟨S1x2048x1024, .f32⟩
  | .hbm, ⟨68, _⟩ => ⟨S1x1x1024, .f32⟩
  | .hbm, ⟨69, _⟩ => ⟨S1x2048x1024, .f32⟩
  | .hbm, ⟨70, _⟩ => ⟨S1x2048x1024, .f32⟩
  | .hbm, ⟨71, _⟩ => ⟨S1x1x1024, .f32⟩
  | .hbm, ⟨72, _⟩ => ⟨S1x2048x1024, .f32⟩
  | .hbm, ⟨73, _⟩ => ⟨S1x2048x1024, .f32⟩
  | .hbm, ⟨74, _⟩ => ⟨S1x16x128x8x128, .f32⟩
  | .hbm, ⟨75, _⟩ => ⟨S_, .i1⟩
  | .hbm, ⟨76, _⟩ => ⟨S128x128, .i1⟩
  | .hbm, ⟨77, _⟩ => ⟨S128x128, .i32⟩
  | .hbm, ⟨78, _⟩ => ⟨S_, .i32⟩
  | .hbm, ⟨79, _⟩ => ⟨S128x128, .i32⟩
  | .hbm, ⟨80, _⟩ => ⟨S128x128, .i32⟩
  | .hbm, ⟨81, _⟩ => ⟨S128x128, .i32⟩
  | .hbm, ⟨82, _⟩ => ⟨S128x128, .i1⟩
  | .hbm, ⟨83, _⟩ => ⟨S_, .i1⟩
  | .hbm, ⟨84, _⟩ => ⟨S128x128, .i1⟩
  | .hbm, ⟨85, _⟩ => ⟨S128x128, .i1⟩
  | .hbm, ⟨86, _⟩ => ⟨S1x128x128, .i1⟩
  | .hbm, ⟨87, _⟩ => ⟨S_, .f32⟩
  | .hbm, ⟨88, _⟩ => ⟨S8x128x128, .f32⟩
  | .hbm, ⟨89, _⟩ => ⟨S8x128x128, .i1⟩
  | .hbm, ⟨90, _⟩ => ⟨S8x128x128, .f32⟩
  | .hbm, ⟨91, _⟩ => ⟨S8x1x16x128x128, .f32⟩
  | .hbm, ⟨92, _⟩ => ⟨S1x16x128x8x128, .f32⟩
  | .hbm, ⟨93, _⟩ => ⟨S128x8, .f32⟩
  | .hbm, ⟨94, _⟩ => ⟨S128x8x1, .f32⟩
  | .hbm, ⟨95, _⟩ => ⟨S1x1x128x8x1, .f32⟩
  | .hbm, ⟨96, _⟩ => ⟨S1x16x128x8x128, .f32⟩
  | .hbm, ⟨97, _⟩ => ⟨S1x16x128x8x128, .f32⟩
  | .hbm, ⟨98, _⟩ => ⟨S1x2048x1024, .f32⟩
  | .hbm, ⟨99, _⟩ => ⟨S1x2048x1024, .f32⟩
  | .hbm, ⟨100, _⟩ => ⟨S1x2048x1024, .f32⟩
  | .hbm, ⟨101, _⟩ => ⟨S1x2048x1024, .f32⟩
  | .hbm, ⟨102, _⟩ => ⟨S_, .f32⟩
  | .hbm, ⟨103, _⟩ => ⟨S1x2048x1024, .f32⟩
  | .hbm, ⟨104, _⟩ => ⟨S1x2048x1024, .f32⟩
  | .hbm, ⟨105, _⟩ => ⟨S_, .f32⟩
  | .hbm, ⟨106, _⟩ => ⟨S1x2048x1024, .f32⟩
  | .hbm, ⟨107, _⟩ => ⟨S1x2048x1024, .f32⟩
  | .hbm, ⟨108, _⟩ => ⟨S1x2048x1024, .f32⟩
  | .hbm, ⟨109, _⟩ => ⟨S1x2048x1024, .f32⟩
  | .hbm, ⟨110, _⟩ => ⟨S2048x1024, .f32⟩
  | .hbm, ⟨111, _⟩ => ⟨S2048x1024, .bf16⟩
  | _, _ => ⟨S2048x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c : Ref sig .tc := ⟨.hbm, 75, rfl⟩
abbrev main_v57 : Ref sig .tc := ⟨.hbm, 76, rfl⟩
abbrev main_call0_v0 : Ref sig .tc := ⟨.hbm, 77, rfl⟩
abbrev main_call0_c : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_c_0 : Ref sig .tc := ⟨.hbm, 83, rfl⟩
abbrev main_call0_v5 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_call1_v0 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_call2_v0 : Ref sig .tc := ⟨.hbm, 100, rfl⟩
abbrev main_call2_v1 : Ref sig .tc := ⟨.hbm, 101, rfl⟩
abbrev main_call2_cst : Ref sig .tc := ⟨.hbm, 102, rfl⟩
abbrev main_call2_v2 : Ref sig .tc := ⟨.hbm, 103, rfl⟩
abbrev main_call2_v3 : Ref sig .tc := ⟨.hbm, 104, rfl⟩
abbrev main_call2_cst_0 : Ref sig .tc := ⟨.hbm, 105, rfl⟩
abbrev main_call2_v4 : Ref sig .tc := ⟨.hbm, 106, rfl⟩
abbrev main_call2_v5 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩

abbrev nD : Nat := 1
abbrev τ : Topo := Topo.v7x

variable {F : FTy → Type} [FloatOps F]
-- ==== Kernel20.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel21.lean ====
abbrev S2048x2048 : Shape := ⟨2, ![2048, 2048]⟩
abbrev S2048 : Shape := ⟨1, ![2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S1x2048, .f32⟩
  | .hbm, ⟨4, _⟩ => ⟨S8x128, .f32⟩
  | .hbm, ⟨5, _⟩ => ⟨S2048x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S8x128, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference21Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x2048, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x2048, .f32⟩
  | .hbm, ⟨59, _⟩ => ⟨S2048x2048, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S8x128, .f32⟩
  | .hbm, ⟨72, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel22.lean ====
abbrev S2048x1024 : Shape := ⟨2, ![2048, 1024]⟩
abbrev S2048x128 : Shape := ⟨2, ![2048, 128]⟩
abbrev S16 : Shape := ⟨1, ![16]⟩
abbrev S64x64 : Shape := ⟨2, ![64, 64]⟩
abbrev S8 : Shape := ⟨1, ![8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S2048x16x64 : Shape := ⟨3, ![2048, 16, 64]⟩
abbrev S16x2048x64 : Shape := ⟨3, ![16, 2048, 64]⟩
abbrev S2048x2x64 : Shape := ⟨3, ![2048, 2, 64]⟩
abbrev S2x2048x64 : Shape := ⟨3, ![2, 2048, 64]⟩
abbrev S16x1x1 : Shape := ⟨3, ![16, 1, 1]⟩
abbrev S2x2048x128 : Shape := ⟨3, ![2, 2048, 128]⟩
abbrev S16x128x64 : Shape := ⟨3, ![16, 128, 64]⟩
abbrev S128x64 : Shape := ⟨2, ![128, 64]⟩
abbrev S2x256x64 : Shape := ⟨3, ![2, 256, 64]⟩
abbrev S2x256x128 : Shape := ⟨3, ![2, 256, 128]⟩
abbrev S256x64 : Shape := ⟨2, ![256, 64]⟩
abbrev S1x128x64 : Shape := ⟨3, ![1, 128, 64]⟩
abbrev S512x64 : Shape := ⟨2, ![512, 64]⟩
abbrev S1x256x64 : Shape := ⟨3, ![1, 256, 64]⟩
abbrev S1x128x256 : Shape := ⟨3, ![1, 128, 256]⟩
abbrev S8x128x64 : Shape := ⟨3, ![8, 128, 64]⟩
abbrev S1024x64 : Shape := ⟨2, ![1024, 64]⟩
abbrev S1024x256 : Shape := ⟨2, ![1024, 256]⟩
abbrev S8x128x256 : Shape := ⟨3, ![8, 128, 256]⟩
abbrev S1x256x128 : Shape := ⟨3, ![1, 256, 128]⟩
abbrev S256x128 : Shape := ⟨2, ![256, 128]⟩
abbrev S8x1x1 : Shape := ⟨3, ![8, 1, 1]⟩
abbrev S8x128 : Shape := ⟨2, ![8, 128]⟩
abbrev S8x128x1 : Shape := ⟨3, ![8, 128, 1]⟩
abbrev S1024x128 : Shape := ⟨2, ![1024, 128]⟩
abbrev S1024x1 : Shape := ⟨2, ![1024, 1]⟩

abbrev nBuf : Space → Nat
  | .hbm => 46
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S2048x128, .f32⟩
  | .hbm, ⟨2, _⟩ => ⟨S2048x128, .f32⟩
  | .hbm, ⟨3, _⟩ => ⟨S16, .f32⟩
  | .hbm, ⟨4, _⟩ => ⟨S64x64, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S2048, .f32⟩
  | .hbm, ⟨20, _⟩ => ⟨S2048x1, .f32⟩
  | .hbm, ⟨21, _⟩ => ⟨S1x8, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S2048x8, .f32⟩
  | .hbm, ⟨26, _⟩ => ⟨S2048x8, .f32⟩
  | .hbm, ⟨27, _⟩ => ⟨S_, .f32⟩
  | .hbm, ⟨28, _⟩ => ⟨S2048x48, .f32⟩
  | .hbm, ⟨29, _⟩ => ⟨S2048x64, .f32⟩
  | .hbm, ⟨30, _⟩ => ⟨S_, .f32⟩
  | .hbm, ⟨31, _⟩ => ⟨S2048x48, .f32⟩
  | .hbm, ⟨32, _⟩ => ⟨S2048x48, .f32⟩
  | .hbm, ⟨33, _⟩ => ⟨S2048x64, .f32⟩
  | .hbm, ⟨34, _⟩ => ⟨S2048x16x64, .f32⟩
  | .hbm, ⟨35, _⟩ => ⟨S16x2048x64, .f32⟩
  | .hbm, ⟨36, _⟩ => ⟨S2048x2x64, .f32⟩
  | .hbm, ⟨37, _⟩ => ⟨S2x2048x64, .f32⟩
  | .hbm, ⟨38, _⟩ => ⟨S2048x2x64, .f32⟩
  | .hbm, ⟨39, _⟩ => ⟨S2x2048x64, .f32⟩
  | .hbm, ⟨40, _⟩ => ⟨S16x1x1, .f32⟩
  | .hbm, ⟨41, _⟩ => ⟨S_, .f32⟩
  | .hbm, ⟨42, _⟩ => ⟨S2x2048x64, .f32⟩
  | .hbm, ⟨43, _⟩ => ⟨S2x2048x128, .f32⟩
  | .hbm, ⟨44, _⟩ => ⟨S2x2048x128, .bf16⟩
  | .hbm, ⟨45, _⟩ => ⟨S16x2048x64, .f32⟩
  | .local _ .vmem, ⟨0, _⟩ => ⟨S16x128x64, .f32⟩
  | .local _ .vmem, ⟨1, _⟩ => ⟨S16x128x64, .f32⟩
  | .local _ .vmem, ⟨2, _⟩ => ⟨S2x2048x64, .f32⟩
  | .local _ .vmem, ⟨3, _⟩ => ⟨S2x2048x64, .f32⟩
  | .local _ .vmem, ⟨4, _⟩ => ⟨S16x1x1, .f32⟩
  | .local _ .vmem, ⟨5, _⟩ => ⟨S2x2048x128, .bf16⟩
  | .local _ .vmem, ⟨6, _⟩ => ⟨S128x64, .f32⟩
  | .local _ .vmem, ⟨7, _⟩ => ⟨S128x64, .f32⟩
  | .local _ .vmem, ⟨8, _⟩ => ⟨S128x64, .f32⟩
  | .local _ .vmem, ⟨9, _⟩ => ⟨S128x64, .f32⟩
  | .local _ .vmem, ⟨10, _⟩ => ⟨S2048x64, .f32⟩
  | .local _ .vmem, ⟨11, _⟩ => ⟨S2048x64, .f32⟩
  | .local _ .vmem, ⟨12, _⟩ => ⟨S64x64, .f32⟩
  | .local _ .vmem, ⟨13, _⟩ => ⟨S16x128x64, .f32⟩
  | .local _ .vmem, ⟨14, _⟩ => ⟨S16x128x64, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c128_i32 : BitVec 32 := 128#32
  let v2 : BitVec 32 := Scalar.muli v1 c128_i32
  v2
def k0_off1 (i : grid0.Coords) : Fin 3 → Nat :=
  let c0_2 : Index := 0#32
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v6 : Index := Scalar.indexCast v3
  let c0_3 : Index := 0#32
  ![0, v6.toNat, 0]
def k0_off2 (i : grid0.Coords) : Fin 3 → Nat :=
  let c0_9 : Index := 0#32
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v14 : Index := Scalar.indexCast v3
  let c0_10 : Index := 0#32
  ![0, v14.toNat, 0]
def k0_off3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v21 : Index := Scalar.indexCast v3
  let c0_15 : Index := 0#32
  ![v21.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S16x128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel22Ideal.lean ====
variable {F : FTy → Type} [FloatOps F] [Named F]
def κ : String → Option EReal := fun
  | "mask" => some ⊥
  | _ => none
-- ==== Reference22Ideal.lean ====
abbrev S2048x1024 : Shape := ⟨2, ![2048, 1024]⟩
abbrev S2048x128 : Shape := ⟨2, ![2048, 128]⟩
abbrev S16 : Shape := ⟨1, ![16]⟩
abbrev S1x2048x1024 : Shape := ⟨3, ![1, 2048, 1024]⟩
abbrev S1x2048x128 : Shape := ⟨3, ![1, 2048, 128]⟩
abbrev S2048 : Shape := ⟨1, ![2048]⟩
abbrev S1x2048x16x64 : Shape := ⟨4, ![1, 2048, 16, 64]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S1x2048x16x8 : Shape := ⟨4, ![1, 2048, 16, 8]⟩
abbrev S1x2048x16x48 : Shape := ⟨4, ![1, 2048, 16, 48]⟩
abbrev S1x2048x2x64 : Shape := ⟨4, ![1, 2048, 2, 64]⟩
abbrev S1x2048x2x8 : Shape := ⟨4, ![1, 2048, 2, 8]⟩
abbrev S1x2048x2x48 : Shape := ⟨4, ![1, 2048, 2, 48]⟩
abbrev S1x128x2x64 : Shape := ⟨4, ![1, 128, 2, 64]⟩
abbrev S1x2176x2x64 : Shape := ⟨4, ![1, 2176, 2, 64]⟩
abbrev S1x16x128x2x64 : Shape := ⟨5, ![1, 16, 128, 2, 64]⟩
abbrev S1x16x256x2x64 : Shape := ⟨5, ![1, 16, 256, 2, 64]⟩
abbrev S1x16x128x2x8x64 : Shape := ⟨6, ![1, 16, 128, 2, 8, 64]⟩
abbrev S1x16x2x256x128x8 : Shape := ⟨6, ![1, 16, 2, 256, 128, 8]⟩
abbrev S1x16x2x8x128x256 : Shape := ⟨6, ![1, 16, 2, 8, 128, 256]⟩
abbrev S16x1x1 : Shape := ⟨3, ![16, 1, 1]⟩
abbrev S128 : Shape := ⟨1, ![128]⟩
abbrev S1x128x1 : Shape := ⟨3, ![1, 128, 1]⟩
abbrev S16x128x1 : Shape := ⟨3, ![16, 128, 1]⟩
abbrev S256 : Shape := ⟨1, ![256]⟩
abbrev S1x1x256 : Shape := ⟨3, ![1, 1, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S2x8 : Shape := ⟨2, ![2, 8]⟩
abbrev S1x1x2x8x1x1 : Shape := ⟨6, ![1, 1, 2, 8, 1, 1]⟩
abbrev S1x16x2x8x128x1 : Shape := ⟨6, ![1, 16, 2, 8, 128, 1]⟩
abbrev S1x16x2x8x128x257 : Shape := ⟨6, ![1, 16, 2, 8, 128, 257]⟩
abbrev S1x16x2x8x128 : Shape := ⟨5, ![1, 16, 2, 8, 128]⟩
abbrev S1x16x2x64x8x128 : Shape := ⟨6, ![1, 16, 2, 64, 8, 128]⟩
abbrev S2048x16x64 : Shape := ⟨3, ![2048, 16, 64]⟩
abbrev S16x2048x64 : Shape := ⟨3, ![16, 2048, 64]⟩

abbrev nBuf : Space → Nat
  | .hbm => 173
  | .vmem => 0
  | .smem => 0
  | _ => 0

abbrev hbmTy0_0 (i : Nat) : BufTy := match i % 128 with
  | 0 => ⟨S2048x1024, .f32⟩
  | 1 => ⟨S2048x128, .f32⟩
  | 2 => ⟨S2048x128, .f32⟩
  | 3 => ⟨S16, .f32⟩
  | 4 => ⟨S1x2048x1024, .f32⟩
  | 5 => ⟨S1x2048x128, .f32⟩
  | 6 => ⟨S1x2048x128, .f32⟩
  | 7 => ⟨S2048, .i32⟩
  | 8 => ⟨S1x2048x16x64, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S2048, .f32⟩
  | 24 => ⟨S2048x1, .f32⟩
  | 25 => ⟨S1x8, .f32⟩
  | 26 => ⟨S2048x8, .f32⟩
  | 27 => ⟨S2048x8, .f32⟩
  | 28 => ⟨S2048x8, .f32⟩
  | 29 => ⟨S2048x8, .f32⟩
  | 30 => ⟨S1x2048x1x8, .f32⟩
  | 31 => ⟨S2048x8, .f32⟩
  | 32 => ⟨S1x2048x1x8, .f32⟩
  | 33 => ⟨S1x2048x16x8, .f32⟩
  | 34 => ⟨S1x2048x16x8, .f32⟩
  | 35 => ⟨S1x2048x16x8, .f32⟩
  | 36 => ⟨S1x2048x16x8, .f32⟩
  | 37 => ⟨S1x2048x16x8, .f32⟩
  | 38 => ⟨S1x2048x16x8, .f32⟩
  | 39 => ⟨S1x2048x16x8, .f32⟩
  | 40 => ⟨S1x2048x16x8, .f32⟩
  | 41 => ⟨S1x2048x16x8, .f32⟩
  | 42 => ⟨S1x2048x16x8, .f32⟩
  | 43 => ⟨S1x2048x16x8, .f32⟩
  | 44 => ⟨S1x2048x16x8, .f32⟩
  | 45 => ⟨S1x2048x16x48, .f32⟩
  | 46 => ⟨S1x2048x16x64, .f32⟩
  | 47 => ⟨S1x2048x2x64, .f32⟩
  | 48 => ⟨S8, .f32⟩
  | 49 => ⟨S_, .f32⟩
  | 50 => ⟨S8, .f32⟩
  | 51 => ⟨S8, .f32⟩
  | 52 => ⟨S_, .f32⟩
  | 53 => ⟨S8, .f32⟩
  | 54 => ⟨S8, .f32⟩
  | 55 => ⟨S8, .f32⟩
  | 56 => ⟨S_, .f32⟩
  | 57 => ⟨S8, .f32⟩
  | 58 => ⟨S8, .f32⟩
  | 59 => ⟨S_, .f32⟩
  | 60 => ⟨S8, .f32⟩
  | 61 => ⟨S8, .f32⟩
  | 62 => ⟨S2048, .f32⟩
  | 63 => ⟨S2048x1, .f32⟩
  | 64 => ⟨S1x8, .f32⟩
  | 65 => ⟨S2048x8, .f32⟩
  | 66 => ⟨S2048x8, .f32⟩
  | 67 => ⟨S2048x8, .f32⟩
  | 68 => ⟨S2048x8, .f32⟩
  | 69 => ⟨S1x2048x1x8, .f32⟩
  | 70 => ⟨S2048x8, .f32⟩
  | 71 => ⟨S1x2048x1x8, .f32⟩
  | 72 => ⟨S1x2048x2x8, .f32⟩
  | 73 => ⟨S1x2048x2x8, .f32⟩
  | 74 => ⟨S1x2048x2x8, .f32⟩
  | 75 => ⟨S1x2048x2x8, .f32⟩
  | 76 => ⟨S1x2048x2x8, .f32⟩
  | 77 => ⟨S1x2048x2x8, .f32⟩
  | 78 => ⟨S1x2048x2x8, .f32⟩
  | 79 => ⟨S1x2048x2x8, .f32⟩
  | 80 => ⟨S1x2048x2x8, .f32⟩
  | 81 => ⟨S1x2048x2x8, .f32⟩
  | 82 => ⟨S1x2048x2x8, .f32⟩
  | 83 => ⟨S1x2048x2x8, .f32⟩
  | 84 => ⟨S1x2048x2x48, .f32⟩
  | 85 => ⟨S1x2048x2x64, .f32⟩
  | 86 => ⟨S1x2048x2x64, .f32⟩
  | 87 => ⟨S_, .f32⟩
  | 88 => ⟨S1x128x2x64, .f32⟩
  | 89 => ⟨S1x2176x2x64, .f32⟩
  | 90 => ⟨S1x2048x2x64, .f32⟩
  | 91 => ⟨S1x16x128x2x64, .f32⟩
  | 92 => ⟨S1x16x128x2x64, .f32⟩
  | 93 => ⟨S1x16x256x2x64, .f32⟩
  | 94 => ⟨S_, .f32⟩
  | 95 => ⟨S1x128x2x64, .f32⟩
  | 96 => ⟨S1x2176x2x64, .f32⟩
  | 97 => ⟨S1x2048x2x64, .f32⟩
  | 98 => ⟨S1x16x128x2x64, .f32⟩
  | 99 => ⟨S1x16x128x2x64, .f32⟩
  | 100 => ⟨S1x16x256x2x64, .f32⟩
  | 101 => ⟨S1x16x128x2x8x64, .f32⟩
  | 102 => ⟨S1x16x2x256x128x8, .f32⟩
  | 103 => ⟨S1x16x2x8x128x256, .f32⟩
  | 104 => ⟨S_, .f32⟩
  | 105 => ⟨S1x16x2x8x128x256, .f32⟩
  | 106 => ⟨S1x16x2x8x128x256, .f32⟩
  | 107 => ⟨S16, .i32⟩
  | 108 => ⟨S16x1x1, .i32⟩
  | 109 => ⟨S_, .i32⟩
  | 110 => ⟨S16x1x1, .i32⟩
  | 111 => ⟨S16x1x1, .i32⟩
  | 112 => ⟨S128, .i32⟩
  | 113 => ⟨S1x128x1, .i32⟩
  | 114 => ⟨S16x128x1, .i32⟩
  | 115 => ⟨S16x128x1, .i32⟩
  | 116 => ⟨S16x128x1, .i32⟩
  | 117 => ⟨S_, .i32⟩
  | 118 => ⟨S16x1x1, .i32⟩
  | 119 => ⟨S16x1x1, .i32⟩
  | 120 => ⟨S_, .i32⟩
  | 121 => ⟨S16x1x1, .i32⟩
  | 122 => ⟨S16x1x1, .i32⟩
  | 123 => ⟨S256, .i32⟩
  | 124 => ⟨S1x1x256, .i32⟩
  | 125 => ⟨S16x1x256, .i32⟩
  | 126 => ⟨S16x1x256, .i32⟩
  | 127 => ⟨S16x1x256, .i32⟩
  | _ => ⟨S2048x1024, .f32⟩

abbrev hbmTy0_1 (i : Nat) : BufTy := match i % 128 with
  | 0 => ⟨S16x128x256, .i32⟩
  | 1 => ⟨S16x128x256, .i32⟩
  | 2 => ⟨S16x128x256, .i32⟩
  | 3 => ⟨S_, .i32⟩
  | 4 => ⟨S16x128x256, .i32⟩
  | 5 => ⟨S16x128x256, .i1⟩
  | 6 => ⟨S_, .i32⟩
  | 7 => ⟨S16x128x256, .i32⟩
  | 8 => ⟨S16x128x256, .i1⟩
  | 9 => ⟨S16x128x256, .i1⟩
  | 10 => ⟨S_, .i32⟩
  | 11 => ⟨S16x1x256, .i32⟩
  | 12 => ⟨S16x1x256, .i1⟩
  | 13 => ⟨S16x128x256, .i1⟩
  | 14 => ⟨S16x128x256, .i1⟩
  | 15 => ⟨S1x16x1x1x128x256, .i1⟩
  | 16 => ⟨S_, .f32⟩
  | 17 => ⟨S_, .f32⟩
  | 18 => ⟨S1x16x2x8x128x256, .i1⟩
  | 19 => ⟨S1x16x2x8x128x256, .f32⟩
  | 20 => ⟨S1x16x2x8x128x256, .f32⟩
  | 21 => ⟨S2x8, .f32⟩
  | 22 => ⟨S1x1x2x8x1x1, .f32⟩
  | 23 => ⟨S1x16x2x8x128x1, .f32⟩
  | 24 => ⟨S1x16x2x8x128x257, .f32⟩
  | 25 => ⟨S_, .f32⟩
  | 26 => ⟨S1x16x2x8x128, .f32⟩
  | 27 => ⟨S_, .f32⟩
  | 28 => ⟨S1x16x2x8x128, .f32⟩
  | 29 => ⟨S1x16x2x8x128, .f32⟩
  | 30 => ⟨S1x16x2x8x128x1, .f32⟩
  | 31 => ⟨S1x16x2x8x128x257, .f32⟩
  | 32 => ⟨S1x16x2x8x128x257, .f32⟩
  | 33 => ⟨S1x16x2x8x128x257, .f32⟩
  | 34 => ⟨S_, .f32⟩
  | 35 => ⟨S1x16x2x8x128, .f32⟩
  | 36 => ⟨S1x16x2x8x128x1, .f32⟩
  | 37 => ⟨S1x16x2x8x128x257, .f32⟩
  | 38 => ⟨S1x16x2x8x128x257, .f32⟩
  | 39 => ⟨S1x16x2x8x128x256, .f32⟩
  | 40 => ⟨S1x16x2x64x8x128, .f32⟩
  | 41 => ⟨S1x16x128x2x8x64, .f32⟩
  | 42 => ⟨S1x2048x1024, .f32⟩
  | 43 => ⟨S2048x16x64, .f32⟩
  | 44 => ⟨S16x2048x64, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_cst_7 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_cst_8 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_cst_9 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_c : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_c_10 : Ref sig .tc := ⟨.hbm, 117, rfl⟩
abbrev main_v101 : Ref sig .tc := ⟨.hbm, 118, rfl⟩
abbrev main_v102 : Ref sig .tc := ⟨.hbm, 119, rfl⟩
abbrev main_c_11 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_c_12 : Ref sig .tc := ⟨.hbm, 131, rfl⟩
abbrev main_v113 : Ref sig .tc := ⟨.hbm, 132, rfl⟩
abbrev main_v114 : Ref sig .tc := ⟨.hbm, 133, rfl⟩
abbrev main_c_13 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_c_14 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_cst_15 : Ref sig .tc := ⟨.hbm, 144, rfl⟩
abbrev main_call0_v0 : Ref sig .tc := ⟨.hbm, 145, rfl⟩
abbrev main_call0_v1 : Ref sig .tc := ⟨.hbm, 146, rfl⟩
abbrev main_call0_v2 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_cst_16 : Ref sig .tc := ⟨.hbm, 153, rfl⟩
abbrev main_v128 : Ref sig .tc := ⟨.hbm, 154, rfl⟩
abbrev main_cst_17 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_cst_18 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩

abbrev nD : Nat := 1
abbrev τ : Topo := Topo.v7x

variable {F : FTy → Type} [FloatOps F]

def κ : String → Option EReal := fun
  | "mask" => some ⊥
  | _ => none
-- ==== Proof.Attention.Math.lean ====
/- The sliding-window attention as plain functions of extended reals: a row's softmax with a sink, the rotation of a head's
   first 16 lanes, the scores of a window of 256 keys, and the facts that let the kernel's and the reference's forms meet:
   a masked key has weight zero, the keys of a window may be read in any order, and over finite scores the quotient by the
   row's sum may be taken before or after the sum of the values. -/
module

public import Idealize.ShloMosaic.PureOps.Ideal
public import Idealize.ShloMosaic.PureOps.Ideal.Laws

@[expose] public section

noncomputable section

namespace Cert.Attention

open Idealize.ShloMosaic

/-- The extended real an f32 word denotes. -/
abbrev lit (w : BitVec 32) : EReal := Scalar.ofBits (F := Ideal) .f32 w

/-! ## Real values -/

/-- The value is a real number. -/
def IsReal (x : EReal) : Prop := ∃ r : ℝ, x = (r : EReal)

/-- A sum of two reals is real. -/
theorem IsReal.add {x y : EReal} (hx : IsReal x) (hy : IsReal y) : IsReal (x + y) := by
  obtain ⟨a, rfl⟩ := hx; obtain ⟨b, rfl⟩ := hy; exact ⟨a + b, by push_cast; rfl⟩

/-- A difference of two reals is real. -/
theorem IsReal.sub {x y : EReal} (hx : IsReal x) (hy : IsReal y) : IsReal (x - y) := by
  obtain ⟨a, rfl⟩ := hx; obtain ⟨b, rfl⟩ := hy; exact ⟨a - b, by push_cast; rfl⟩

/-- A product of two reals is real. -/
theorem IsReal.mul {x y : EReal} (hx : IsReal x) (hy : IsReal y) : IsReal (x * y) := by
  obtain ⟨a, rfl⟩ := hx; obtain ⟨b, rfl⟩ := hy; exact ⟨a * b, by push_cast; rfl⟩

/-- A sum of reals, as an extended real. -/
theorem coe_sum {ι : Type} (S : Finset ι) (g : ι → ℝ) : ((∑ i ∈ S, g i : ℝ) : EReal) = ∑ i ∈ S, (g i : EReal) := by
  classical
  induction S using Finset.induction_on with
  | empty => simp
  | insert a S ha ih => rw [Finset.sum_insert ha, Finset.sum_insert ha, EReal.coe_add, ih]

/-- A finite sum of reals is real. -/
theorem IsReal.sum {ι : Type} [Fintype ι] {f : ι → EReal} (h : ∀ i, IsReal (f i)) : IsReal (∑ i, f i) := by
  choose g hg using h
  refine ⟨∑ i, g i, ?_⟩
  simp only [hg]
  exact (coe_sum _ _).symm

/-- A real is not plus infinity. -/
theorem IsReal.ne_top {x : EReal} (hx : IsReal x) : x ≠ ⊤ := by
  obtain ⟨a, rfl⟩ := hx; exact EReal.coe_ne_top a

/-- A real is not minus infinity. -/
theorem IsReal.ne_bot {x : EReal} (hx : IsReal x) : x ≠ ⊥ := by
  obtain ⟨a, rfl⟩ := hx; exact EReal.coe_ne_bot a

/-- An extended real that is neither infinity is real. -/
theorem isReal_of_ne {x : EReal} (ht : x ≠ ⊤) (hb : x ≠ ⊥) : IsReal x := ⟨x.toReal, (EReal.coe_toReal ht hb).symm⟩

/-! ## A row's softmax with a sink -/

section Row
variable (s : Fin 256 → EReal) (b : EReal) (v : Fin 256 → EReal)

/-- The greatest of a row's scores and its sink. -/
def top : EReal := max (Finset.univ.fold max ⊥ s) b

/-- A score's weight, before the division. -/
def wt (j : Fin 256) : EReal := Ideal.exp (s j - top s b)

/-- The row's sum of weights, the sink's among them. -/
def den : EReal := ∑ j, wt s b j + Ideal.exp (b - top s b)

/-- The weighted sum of the values, divided by the sum of the weights. -/
def soft : EReal := (∑ j, wt s b j * v j) * Ideal.div 1 (den s b)

/-- A masked key's weight is zero. -/
theorem wt_of_bot {j : Fin 256} (h : s j = ⊥) : wt s b j = 0 := by
  unfold wt; rw [h, EReal.bot_sub]; exact Ideal.exp_bot

variable {s b}

/-- The greatest score is real when no score is `⊤` and the sink is real. -/
theorem top_real (hs : ∀ j, s j ≠ ⊤) (hb : IsReal b) : IsReal (top s b) := by
  refine isReal_of_ne (ne_of_lt ?_) (ne_of_gt ?_)
  · unfold top
    refine max_lt ?_ (lt_top_iff_ne_top.2 hb.ne_top)
    rw [Finset.fold_max_lt]
    exact ⟨bot_lt_top, fun j _ => lt_top_iff_ne_top.2 (hs j)⟩
  · exact lt_of_lt_of_le (bot_lt_iff_ne_bot.2 hb.ne_bot) (le_max_right _ _)

/-- Every weight is a nonnegative real. -/
theorem wt_real (hs : ∀ j, s j ≠ ⊤) (hb : IsReal b) (j : Fin 256) : ∃ w : ℝ, 0 ≤ w ∧ wt s b j = (w : EReal) := by
  obtain ⟨M, hM⟩ := top_real hs hb
  by_cases h : s j = ⊥
  · exact ⟨0, le_refl 0, by rw [wt_of_bot s b h]; rfl⟩
  · obtain ⟨x, hx⟩ := isReal_of_ne (hs j) h
    refine ⟨Real.exp (x - M), (Real.exp_pos _).le, ?_⟩
    unfold wt
    rw [hM, hx, ← EReal.coe_sub, Ideal.exp_coe]

/-- The row's sum of weights is a positive real. -/
theorem den_real (hs : ∀ j, s j ≠ ⊤) (hb : IsReal b) : ∃ D : ℝ, 0 < D ∧ den s b = (D : EReal) := by
  choose w hw he using wt_real hs hb
  obtain ⟨M, hM⟩ := top_real hs hb
  obtain ⟨r, hr⟩ := hb
  refine ⟨∑ j, w j + Real.exp (r - M), add_pos_of_nonneg_of_pos (Finset.sum_nonneg fun j _ => hw j) (Real.exp_pos _), ?_⟩
  unfold den
  simp only [he]
  rw [hM, hr, ← EReal.coe_sub, Ideal.exp_coe, EReal.coe_add, coe_sum]

/-- A sum times a nonnegative real is the sum of the products. -/
theorem sum_mul_real {ι : Type} (S : Finset ι) (f : ι → EReal) {r : ℝ} (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha, ← ih]
    exact EReal.right_distrib_of_nonneg_of_ne_top (by exact_mod_cast hr) (EReal.coe_ne_top r) _ _

/-- Over real scores the division by the sum of the weights may be made term by term. -/
theorem soft_eq (hs : ∀ j, s j ≠ ⊤) (hb : IsReal b) : ∑ j, v j * Ideal.div (wt s b j) (den s b) = soft s b v := by
  obtain ⟨D, hD, he⟩ := den_real hs hb
  unfold soft
  rw [he, Ideal.div_coe hD.ne', one_mul, sum_mul_real _ _ (by positivity)]
  refine Finset.sum_congr rfl fun j _ => ?_
  rw [Ideal.div_coe hD.ne', mul_comm, mul_assoc, mul_comm (_ : EReal) (v j), mul_assoc]

/-- The keys may be read in another order, and a masked key's value does not matter. -/
theorem soft_congr (σ : Fin 256 ≃ Fin 256) {s' v' : Fin 256 → EReal} (h : ∀ j, s' j = s (σ j))
    (hv : ∀ j, s' j ≠ ⊥ → v' j = v (σ j)) : soft s' b v' = soft s b v := by
  have ht : top s' b = top s b := by
    unfold top
    congr 1
    refine eq_of_forall_lt_iff fun c => ?_
    simp only [Finset.lt_fold_max, Finset.mem_univ, true_and, h]
    exact or_congr Iff.rfl ⟨fun ⟨j, hj⟩ => ⟨σ j, hj⟩, fun ⟨j, hj⟩ => ⟨σ.symm j, by simpa using hj⟩⟩
  have hw : ∀ j, wt s' b j = wt s b (σ j) := fun j => by unfold wt; rw [ht, h]
  have hd : den s' b = den s b := by
    unfold den
    rw [ht]
    simp only [hw]
    rw [Equiv.sum_comp σ (wt s b)]
  unfold soft
  rw [hd]
  congr 1
  rw [← Equiv.sum_comp σ fun j => wt s b j * v j]
  refine Finset.sum_congr rfl fun j _ => ?_
  by_cases hj : s' j = ⊥
  · rw [← hw, wt_of_bot s' b hj, zero_mul, zero_mul]
  · rw [hw, hv j hj]

end Row

/-! ## The rotation -/

/-- The rotation of a head's row: lanes 0 … 7 and 8 … 15 as the two coordinates of eight planes, the others kept. -/
def rope (c s : Fin 8 → EReal) (t : Fin 64 → EReal) (d : Fin 64) : EReal :=
  if h : d.val < 8 then t d * c ⟨d.val, h⟩ - t ⟨d.val + 8, by omega⟩ * s ⟨d.val, h⟩
  else if h' : d.val < 16 then t d * c ⟨d.val - 8, by omega⟩ + t ⟨d.val - 8, by omega⟩ * s ⟨d.val - 8, by omega⟩
  else t d

/-- The rotation of a real row by real tables is real. -/
theorem rope_real {c s : Fin 8 → EReal} {t : Fin 64 → EReal} (hc : ∀ i, IsReal (c i)) (hs : ∀ i, IsReal (s i))
    (ht : ∀ d, IsReal (t d)) (d : Fin 64) : IsReal (rope c s t d) := by
  unfold rope
  split
  · exact ((ht _).mul (hc _)).sub ((ht _).mul (hs _))
  · split
    · exact ((ht _).mul (hc _)).add ((ht _).mul (hs _))
    · exact ht _

/-- The matrix of signs that the kernel multiplies a row by. -/
def sgn (a d : Fin 64) : EReal :=
  if a.val = d.val + 8 ∧ d.val < 8 then -1 else if d.val = a.val + 8 ∧ a.val < 8 then 1 else 0

/-- A table's row of 64 lanes: the eight entries twice, then a constant. -/
def lanes (c : Fin 8 → EReal) (z : EReal) (d : Fin 64) : EReal :=
  if h : d.val < 8 then c ⟨d.val, h⟩ else if h' : d.val < 16 then c ⟨d.val - 8, by omega⟩ else z

/-- The product of a row and the matrix of signs: at most one term is not zero. -/
theorem sum_sgn (t : Fin 64 → EReal) (d : Fin 64) : ∑ a, t a * sgn a d
    = if h : d.val < 8 then -t ⟨d.val + 8, by omega⟩ else if h' : d.val < 16 then t ⟨d.val - 8, by omega⟩ else 0 := by
  split
  · rename_i h
    rw [Finset.sum_eq_single (⟨d.val + 8, by omega⟩ : Fin 64)]
    · simp [sgn, h]
    · intro a _ ha
      have : a.val ≠ d.val + 8 := fun e => ha (Fin.ext e)
      unfold sgn
      rw [if_neg (by omega), if_neg (by omega), mul_zero]
    · intro hn; exact absurd (Finset.mem_univ _) hn
  · split
    · rename_i h h'
      rw [Finset.sum_eq_single (⟨d.val - 8, by omega⟩ : Fin 64)]
      · unfold sgn
        rw [if_neg (by omega), if_pos (by simp; omega), mul_one]
      · intro a _ ha
        have : a.val ≠ d.val - 8 := fun e => ha (Fin.ext e)
        unfold sgn
        rw [if_neg (by omega), if_neg (by omega), mul_zero]
      · intro hn; exact absurd (Finset.mem_univ _) hn
    · rename_i h h'
      refine Finset.sum_eq_zero fun a _ => ?_
      unfold sgn
      rw [if_neg (by omega), if_neg (by omega), mul_zero]

/-- The kernel's form of the rotation: the row times the cosines, plus the row's product with the signs times the sines. -/
theorem rope_eq (c s : Fin 8 → EReal) (t : Fin 64 → EReal) (d : Fin 64) :
    t d * lanes c 1 d + (∑ a, t a * sgn a d) * lanes s 0 d = rope c s t d := by
  rw [sum_sgn]
  unfold lanes rope
  split
  · rw [EReal.neg_mul, sub_eq_add_neg]
  · split
    · rfl
    · rw [mul_one, mul_zero, add_zero]

/-- The angle of position `P` in plane `i`: the position times the plane's frequency. -/
def ang (P : Fin 2048) (i : Fin 8) : EReal :=
  Scalar.sitofp (F := Ideal) .f32 (BitVec.ofNat 32 P.val)
    * Ideal.pow (lit 0x48F42400#32)
        (Ideal.div (-(lit 0x40000000#32 * Scalar.sitofp (F := Ideal) .f32 (BitVec.ofNat 32 i.val))) (lit 0x41800000#32))

/-- The words of the constants 500000, 2, 16 and 1/8 denote real numbers. -/
theorem consts_real : IsReal (lit 0x48F42400#32) ∧ IsReal (lit 0x40000000#32) ∧ (∃ x : ℝ, x ≠ 0 ∧ lit 0x41800000#32 = (x : EReal))
    ∧ IsReal (lit 0x3E000000#32) := by
  refine ⟨⟨_, by simp [lit, Scalar.ofBits, Ideal.ofBits, Ideal.ieee]; rfl⟩, ⟨_, by simp [lit, Scalar.ofBits, Ideal.ofBits, Ideal.ieee]; rfl⟩, ⟨16, by norm_num, ?_⟩, ⟨_, by simp [lit, Scalar.ofBits, Ideal.ofBits, Ideal.ieee]; rfl⟩⟩
  simp [lit, Scalar.ofBits, Ideal.ofBits, Ideal.ieee]
  rw [← EReal.coe_mul]
  norm_num

/-- An angle is a real number. -/
theorem ang_real (P : Fin 2048) (i : Fin 8) : IsReal (ang P i) := by
  obtain ⟨⟨a, ha⟩, ⟨b, hb⟩, ⟨x, hx, hx'⟩, _⟩ := consts_real
  have hn : IsReal (Scalar.sitofp (F := Ideal) .f32 (BitVec.ofNat 32 i.val)) := ⟨_, rfl⟩
  obtain ⟨n, hn⟩ := hn
  have e : -((b : EReal) * (n : EReal)) * ((1 / x : ℝ) : EReal) = ((-(b * n) * (1 / x) : ℝ) : EReal) := by
    rw [EReal.coe_mul, EReal.coe_neg, EReal.coe_mul]
  unfold ang
  rw [ha, hb, hx', hn, Ideal.div_coe hx, e, Ideal.pow_coe_coe]
  exact IsReal.mul ⟨_, rfl⟩ ⟨_, rfl⟩

/-- The cosine of an angle is a real number. -/
theorem cos_real (P : Fin 2048) (i : Fin 8) : IsReal (Ideal.cos (ang P i)) := by
  obtain ⟨a, ha⟩ := ang_real P i
  rw [ha]
  exact ⟨_, Ideal.cos_coe _⟩

/-- The sine of an angle is a real number. -/
theorem sin_real (P : Fin 2048) (i : Fin 8) : IsReal (Ideal.sin (ang P i)) := by
  obtain ⟨a, ha⟩ := ang_real P i
  rw [ha]
  exact ⟨_, Ideal.sin_coe _⟩

/-! ## The attention -/

/-- The arguments as plain functions: queries of 16 heads, keys and values of 2, the sinks, and the rotation's tables. -/
structure Args where
  q : Fin 2048 → Fin 16 → Fin 64 → EReal
  k : Fin 2048 → Fin 2 → Fin 64 → EReal
  v : Fin 2048 → Fin 2 → Fin 64 → EReal
  b : Fin 16 → EReal
  cs : Fin 2048 → Fin 8 → EReal
  sn : Fin 2048 → Fin 8 → EReal

namespace Args
variable (A : Args)

/-- The query's row, rotated. -/
def qr (P : Fin 2048) (h : Fin 16) (d : Fin 64) : EReal := rope (A.cs P) (A.sn P) (A.q P h) d

/-- The key's row, rotated. -/
def kr (p : Fin 2048) (g : Fin 2) (d : Fin 64) : EReal := rope (A.cs p) (A.sn p) (A.k p g) d

/-- A head's key-value head. -/
def grp (h : Fin 16) : Fin 2 := ⟨h.val / 8, by omega⟩

/-- The score of the key at position `p` for the query at `P`: `⊥` unless `p` is among the 128 positions up to `P`. -/
def sc (P : Fin 2048) (h : Fin 16) (p : Fin 2048) : EReal :=
  if p.val ≤ P.val ∧ P.val < p.val + 128 then (∑ d, A.qr P h d * A.kr p (grp h) d) * lit 0x3E000000#32 else ⊥

/-- The first position of the kernel's window of 256 keys at block `n`. -/
def k0 (n : Nat) : Nat := (n - 1) * 128

/-- Position `j` of the kernel's window at the block of the query's row. -/
def pos (P : Fin 2048) (j : Fin 256) : Fin 2048 := ⟨k0 (P.val / 128) + j.val, by unfold k0; omega⟩

/-- The attention's result. -/
def out (P : Fin 2048) (h : Fin 16) (d : Fin 64) : EReal :=
  soft (fun j => A.sc P h (pos P j)) (A.b h) fun j => A.v (pos P j) (grp h) d

/-- Queries, keys, sinks and tables are real. -/
structure Finite : Prop where
  q : ∀ P h d, IsReal (A.q P h d)
  k : ∀ P g d, IsReal (A.k P g d)
  b : ∀ h, IsReal (A.b h)
  cs : ∀ P i, IsReal (A.cs P i)
  sn : ∀ P i, IsReal (A.sn P i)

variable {A}

/-- Over real arguments no score is plus infinity: it is a real or, where masked, minus infinity. -/
theorem sc_ne_top (hl : IsReal (lit 0x3E000000#32)) (hA : A.Finite) (P : Fin 2048) (h : Fin 16) (p : Fin 2048) : A.sc P h p ≠ ⊤ := by
  unfold sc
  split
  · exact (IsReal.mul (IsReal.sum fun d => IsReal.mul (rope_real (hA.cs P) (hA.sn P) (hA.q P h) d)
      (rope_real (hA.cs p) (hA.sn p) (hA.k p _) d)) hl).ne_top
  · exact bot_ne_top

/-- The reference's score of entry `j` of its window, whose position is `128·n + j - 128` when that is not negative. -/
def rsc (A : Args) (P : Fin 2048) (h : Fin 16) (j : Fin 256) : EReal :=
  if hj : 128 ≤ P.val / 128 * 128 + j.val then A.sc P h ⟨P.val / 128 * 128 + j.val - 128, by omega⟩ else ⊥

/-- The reference's value of entry `j` of its window. -/
def rv (A : Args) (P : Fin 2048) (g : Fin 2) (j : Fin 256) (d : Fin 64) : EReal :=
  if hj : 128 ≤ P.val / 128 * 128 + j.val then A.v ⟨P.val / 128 * 128 + j.val - 128, by omega⟩ g d else 0

/-- The windows' halves exchanged. -/
def halves : Fin 256 ≃ Fin 256 where
  toFun j := ⟨(j.val + 128) % 256, by omega⟩
  invFun j := ⟨(j.val + 128) % 256, by omega⟩
  left_inv j := Fin.ext (by simp only; omega)
  right_inv j := Fin.ext (by simp only; omega)

/-- The reference's window and the kernel's give the same result: they are the same window, but for the first block, where
    the kernel's has its keys in the first half and the reference's in the second. -/
theorem out_eq (P : Fin 2048) (h : Fin 16) (d : Fin 64) :
    A.out P h d = soft (A.rsc P h) (A.b h) fun j => A.rv P (grp h) j d := by
  unfold out
  by_cases hn : P.val / 128 = 0
  · have hP : P.val < 128 := by omega
    refine soft_congr _ halves (fun j => ?_) fun j hj => ?_
    · unfold rsc
      by_cases hj : j.val < 128
      · have e : (halves j).val = j.val + 128 := by show (j.val + 128) % 256 = _; omega
        rw [dif_pos (by omega)]
        congr 1
        exact Fin.ext (by show k0 _ + _ = _; unfold k0; simp only [e]; omega)
      · have e : (halves j).val = j.val - 128 := by show (j.val + 128) % 256 = _; omega
        rw [dif_neg (by omega)]
        unfold sc
        rw [if_neg]
        show ¬ (k0 _ + j.val ≤ P.val ∧ _)
        unfold k0; omega
    · have hj' : j.val < 128 := by
        by_contra hc
        refine hj ?_
        unfold sc
        rw [if_neg]
        show ¬ (k0 _ + j.val ≤ P.val ∧ _)
        unfold k0; omega
      have e : (halves j).val = j.val + 128 := by show (j.val + 128) % 256 = _; omega
      unfold rv
      rw [dif_pos (by omega)]
      congr 1
      exact Fin.ext (by show k0 _ + _ = _; unfold k0; simp only [e]; omega)
  · refine soft_congr _ (Equiv.refl _) (fun j => ?_) fun j hj => ?_
    · unfold rsc
      rw [dif_pos (by simp only [Equiv.refl_apply]; omega)]
      congr 1
      exact Fin.ext (by show k0 _ + _ = _; unfold k0; simp only [Equiv.refl_apply]; omega)
    · unfold rv
      rw [dif_pos (by simp only [Equiv.refl_apply]; omega)]
      congr 1
      exact Fin.ext (by show k0 _ + _ = _; unfold k0; simp only [Equiv.refl_apply]; omega)

end Args
end Cert.Attention

end
-- ==== Proof.Attention.Words.lean ====
/- The integer words of the attention's mask: positions as 32-bit words, and what their comparisons say. -/
module

public import Idealize.ShloMosaic.Lib.Pointwise

@[expose] public section

set_option maxRecDepth 100000

open Idealize.ShloMosaic

namespace Cert.Attention

/-- Two bits are both set exactly when each is. -/
theorem and_bit (x y : BitVec 1) : IntOp.andi x y = 1#1 ↔ x = 1#1 ∧ y = 1#1 := by
  revert x y
  decide

/-- A bit made of a truth value is set exactly when the value is true. -/
theorem ofBool_bit (b : Bool) : BitVec.ofBool b = 1#1 ↔ b = true := by
  cases b <;> decide

/-- The word of a small integer, read back. -/
theorem word_toInt (a : ℤ) (h : -2 ^ 30 ≤ a) (h' : a < 2 ^ 30) : (BitVec.ofInt 32 a).toInt = a := by
  rw [BitVec.toInt_ofInt]
  exact Int.bmod_eq_of_le (by norm_num; omega) (by norm_num; omega)

/-- `z ≤ x` as words. -/
theorem word_ge (a z : ℤ) (h : -2 ^ 30 ≤ a) (h' : a < 2 ^ 30) (g : -2 ^ 30 ≤ z) (g' : z < 2 ^ 30) :
    IntOp.cmpi .sge (BitVec.ofInt 32 a) (BitVec.ofInt 32 z) = 1#1 ↔ z ≤ a := by
  unfold IntOp.cmpi
  rw [ofBool_bit, BitVec.sle_iff_toInt_le, word_toInt a h h', word_toInt z g g']

/-- `x < z` as words. -/
theorem word_lt (a z : ℤ) (h : -2 ^ 30 ≤ a) (h' : a < 2 ^ 30) (g : -2 ^ 30 ≤ z) (g' : z < 2 ^ 30) :
    IntOp.cmpi .slt (BitVec.ofInt 32 a) (BitVec.ofInt 32 z) = 1#1 ↔ a < z := by
  unfold IntOp.cmpi
  rw [ofBool_bit, BitVec.slt_iff_toInt_lt, word_toInt a h h', word_toInt z g g']

/-- A number's word is the word of the integer. -/
theorem word_nat (n : Nat) : BitVec.ofNat 32 n = BitVec.ofInt 32 (n : ℤ) := (BitVec.ofInt_natCast 32 n).symm

/-- The sum of two words is the word of the sum. -/
theorem word_add (a b : ℤ) : IntOp.addi (BitVec.ofInt 32 a) (BitVec.ofInt 32 b) = BitVec.ofInt 32 (a + b) :=
  (BitVec.ofInt_add _ _).symm

/-- The product of two words is the word of the product. -/
theorem word_mul (a b : ℤ) : IntOp.muli (BitVec.ofInt 32 a) (BitVec.ofInt 32 b) = BitVec.ofInt 32 (a * b) :=
  (BitVec.ofInt_mul _ _).symm

/-- The difference of two words is the word of the difference. -/
theorem word_sub (a b : ℤ) : IntOp.subi (BitVec.ofInt 32 a) (BitVec.ofInt 32 b) = BitVec.ofInt 32 (a - b) := by
  unfold IntOp.subi
  rw [BitVec.sub_eq_add_neg, Int.sub_eq_add_neg, BitVec.ofInt_add, BitVec.ofInt_neg]

/-- The mask's two comparisons: the key at `b` is not after the query at `a`, and less than 128 before it. -/
theorem word_band (a b : ℤ) (h : -2 ^ 28 ≤ a) (h' : a < 2 ^ 28) (g : -2 ^ 28 ≤ b) (g' : b < 2 ^ 28) :
    IntOp.andi (IntOp.cmpi .sge (IntOp.subi (BitVec.ofInt 32 a) (BitVec.ofInt 32 b)) 0#32)
        (IntOp.cmpi .slt (IntOp.subi (BitVec.ofInt 32 a) (BitVec.ofInt 32 b)) 128#32) = 1#1
      ↔ b ≤ a ∧ a < b + 128 := by
  rw [word_sub, and_bit, show (0#32) = BitVec.ofInt 32 0 from by decide, show (128#32) = BitVec.ofInt 32 128 from by decide,
    word_ge _ _ (by omega) (by omega) (by omega) (by omega), word_lt _ _ (by omega) (by omega) (by omega) (by omega)]
  omega

end Cert.Attention

end
-- ==== Proof.Attention.Payload.lean ====
/- The kernel's values at an index: the rotation, the masked scores, and the output of a half of the heads. -/
module

public import proofs.«01_k».proof.Proof.Attention.Math
public import proofs.«01_k».proof.Proof.Attention.Words
public import proofs.«01_k».proof.Proof.Gen.Kernel22Ideal.Skeleton
public import Idealize.ShloMosaic.Lib.Pointwise

@[expose] public section

noncomputable section

namespace Cert.Attention

open Idealize.ShloMosaic Cert.Kernel22Ideal Cert.Kernel22Ideal.Gen

/-- A selection by a bit is a conditional on the bit. -/
theorem select_bit {α : Type} (b : BitVec 1) (x y : α) : Scalar.select b x y = if b = 1#1 then x else y := by
  unfold Scalar.select
  split <;> rename_i h
  · exact (if_pos h).symm
  · exact (if_neg h).symm

/-- The masking constant is minus infinity. -/
theorem mask_const : Named.named (F := Ideal) κ "mask" (φ := .f32) 0xF149F2CA#32 = ⊥ := by
  simp [Named.named, κ]

/-- The word of minus infinity. -/
theorem neg_inf : Ideal.ofBits .f32 0xFF800000#32 = ⊥ := by
  simp [Ideal.ofBits, Ideal.ieee]

/-- The queries' rotation at an index. -/
theorem q_at (v4 : Vec Ideal S16x128x64 .f32) (v17 v19 : Vec Ideal S128x64 .f32) (v27 : Vec Ideal S64x64 .f32)
    (h : Fin 16) (r : Fin 128) (d : Fin 64) :
    k0_pay12 (F := Ideal) (k0_pay2 v4) (k0_pay7 v19) (k0_pay10 v4 v27) (k0_pay11 v17) (ix3 h r d)
      = v4 (ix3 h r d) * v17 (ix2 r d) + (∑ a : Fin 64, v4 (ix3 h r a) * v27 (ix2 a d)) * v19 (ix2 r d) := by
  pointwise [k0_pay12, k0_pay2, k0_pay7, k0_pay10, k0_pay11]

/-- The keys' rotation at an index. -/
theorem k_at (v7 : Vec Ideal S2x256x64 .f32) (v22 v25 : Vec Ideal S256x64 .f32) (v27 : Vec Ideal S64x64 .f32)
    (g : Fin 2) (j : Fin 256) (d : Fin 64) :
    k0_pay13 (F := Ideal) (k0_pay3 v7) (k0_pay8 v22) (k0_pay9 v25) v27 (ix3 g j d)
      = v7 (ix3 g j d) * v22 (ix2 j d) + (∑ a : Fin 64, v7 (ix3 g j a) * v27 (ix2 a d)) * v25 (ix2 j d) := by
  pointwise [k0_pay13, k0_pay3, k0_pay8, k0_pay9]

/-- The masked scores of a block, from its rotated queries and keys and its mask. -/
def bsc (qr : FVec Ideal S16x128x64 .f32) (kr : FVec Ideal S2x256x64 .f32) (mk : IVec S1x128x256 1) (h : Fin 16) (r : Fin 128)
    (j : Fin 256) : EReal :=
  if mk (ix3 0 r j) = 1#1 then (∑ d : Fin 64, qr (ix3 h r d) * kr (ix3 (Args.grp h) j d)) * lit 0x3E000000#32 else ⊥

section Block
variable (v3 v28 : BitVec 32) (v5 : FVec Ideal S16x128x64 .f32) (v8 : FVec Ideal S2x256x64 .f32) (v13 : FVec Ideal S16x1x1 .f32)
  (v16 : FVec Ideal S2x256x128 .bf16) (v20 : FVec Ideal S128x64 .f32) (v23 v26 : FVec Ideal S256x64 .f32)
  (v27 : Vec Ideal S64x64 .f32) (v31 v33 : FVec Ideal S16x128x64 .f32)
  (v38 : FVec Ideal S16x128x64 .f32) (v48 : FVec Ideal S2x256x64 .f32) (v60 : IVec S1x128x256 1)

/-- The first half's scores at an index. -/
theorem score_lo (h : Fin 8) (r : Fin 128) (j : Fin 256) :
    k0_pay15 (F := Ideal) v3 v5 v8 v20 v23 v26 v27 v28 v31 v33 (ix3 h r j)
      = bsc (k0_pay12 v5 v20 v31 v33) (k0_pay13 v8 v23 v26 v27) (k0_pay14 v3 v28) ⟨h.val, by omega⟩ r j := by
  unfold bsc
  have e : Args.grp ⟨h.val, by omega⟩ = 0 := Fin.ext (by show h.val / 8 = 0; omega)
  rw [e, ← select_bit, ← mask_const]
  pointwise [k0_pay15]

/-- The second half's scores at an index. -/
theorem score_hi (h : Fin 8) (r : Fin 128) (j : Fin 256) :
    k0_pay21 (F := Ideal) v38 v48 v60 (ix3 h r j) = bsc v38 v48 v60 ⟨8 + h.val, by omega⟩ r j := by
  unfold bsc
  have e : Args.grp ⟨8 + h.val, by omega⟩ = 1 := Fin.ext (by show (8 + h.val) / 8 = 1; omega)
  rw [e, ← select_bit, ← mask_const]
  pointwise [k0_pay21]

/-- The first half's greatest score of a row. -/
theorem top_lo (h : Fin 8) (r : Fin 128) :
    k0_pay18 (F := Ideal) v3 v5 v8 v13 v20 v23 v26 v27 v28 v31 v33 (ix3 h r 0)
      = top (bsc (k0_pay12 v5 v20 v31 v33) (k0_pay13 v8 v23 v26 v27) (k0_pay14 v3 v28) ⟨h.val, by omega⟩ r)
          (v13 (ix3 ⟨h.val, by omega⟩ 0 0)) := by
  unfold top
  rw [← neg_inf, ← funext fun j => score_lo v3 v28 v5 v8 v20 v23 v26 v27 v31 v33 h r j]
  pointwise [k0_pay18, k0_pay17]

/-- The second half's greatest score of a row. -/
theorem top_hi (h : Fin 8) (r : Fin 128) :
    k0_pay23 (F := Ideal) v13 v38 v48 v60 (ix3 h r 0)
      = top (bsc v38 v48 v60 ⟨8 + h.val, by omega⟩ r) (v13 (ix3 ⟨8 + h.val, by omega⟩ 0 0)) := by
  unfold top
  rw [← neg_inf, ← funext fun j => score_hi v38 v48 v60 h r j]
  pointwise [k0_pay23, k0_pay22]

/-- The first half's output: the softmax of the scores, applied to the values. -/
theorem out_lo (ones : ∀ g j, v16 (ix3 g j 64) = 1) (h : Fin 8) (r : Fin 128) (d : Fin 64) :
    k0_pay20 (F := Ideal) (k0_pay16 v16) (k0_pay17 v13) (k0_pay18 v3 v5 v8 v13 v20 v23 v26 v27 v28 v31 v33)
        (k0_pay19 v3 v5 v8 v13 v20 v23 v26 v27 v28 v31 v33) (ix3 h r d)
      = soft (bsc (k0_pay12 v5 v20 v31 v33) (k0_pay13 v8 v23 v26 v27) (k0_pay14 v3 v28) ⟨h.val, by omega⟩ r)
          (v13 (ix3 ⟨h.val, by omega⟩ 0 0)) fun j => v16 (ix3 0 j ⟨d.val, by omega⟩) := by
  unfold soft den wt
  rw [← top_lo]
  simp only [← score_lo]
  pointwise [k0_pay20, k0_pay19, k0_pay17, k0_pay16]
  simp only [ones, mul_one]

/-- The second half's output. -/
theorem out_hi (ones : ∀ g j, v16 (ix3 g j 64) = 1) (v102 : FVec Ideal S8x128x64 .f32) (h : Fin 8) (r : Fin 128) (d : Fin 64) :
    k0_pay1 (F := Ideal) v102 (k0_pay24 v13 v16 v38 v48 v60) (k0_pay25 v13 v16 v38 v48 v60) k0_pay26 (ix3 ⟨8 + h.val, by omega⟩ r d)
      = soft (bsc v38 v48 v60 ⟨8 + h.val, by omega⟩ r) (v13 (ix3 ⟨8 + h.val, by omega⟩ 0 0))
          fun j => v16 (ix3 1 j ⟨d.val, by omega⟩) := by
  unfold soft den wt
  rw [← top_hi]
  simp only [← score_hi]
  pointwise [k0_pay1, k0_pay26, k0_pay25, k0_pay24, k0_pay22]
  simp only [ones, mul_one]

/-- The first half of the heads is stored as it is. -/
theorem first_half (v102 : FVec Ideal S8x128x64 .f32) (v134 : FVec Ideal S1024x128 .f32) (v137 v138 : FVec Ideal S8x128x1 .f32)
    (h : Fin 8) (r : Fin 128) (d : Fin 64) :
    k0_pay1 (F := Ideal) v102 v134 v137 v138 (ix3 ⟨h.val, by omega⟩ r d) = v102 (ix3 h r d) := by
  pointwise [k0_pay1]

/-- The block's output at an index. -/
theorem out_at (ones : ∀ g j, v16 (ix3 g j 64) = 1) (h : Fin 16) (r : Fin 128) (d : Fin 64) :
    k0_pay1 (F := Ideal) (k0_pay20 (k0_pay16 v16) (k0_pay17 v13) (k0_pay18 v3 v5 v8 v13 v20 v23 v26 v27 v28 v31 v33)
        (k0_pay19 v3 v5 v8 v13 v20 v23 v26 v27 v28 v31 v33))
        (k0_pay24 v13 v16 (k0_pay12 v5 v20 v31 v33) (k0_pay13 v8 v23 v26 v27) (k0_pay14 v3 v28))
        (k0_pay25 v13 v16 (k0_pay12 v5 v20 v31 v33) (k0_pay13 v8 v23 v26 v27) (k0_pay14 v3 v28)) k0_pay26 (ix3 h r d)
      = soft (bsc (k0_pay12 v5 v20 v31 v33) (k0_pay13 v8 v23 v26 v27) (k0_pay14 v3 v28) h r)
          (v13 (ix3 h 0 0)) fun j => v16 (ix3 (Args.grp h) j ⟨d.val, by omega⟩) := by
  by_cases hh : h.val < 8
  · have e : Args.grp h = 0 := Fin.ext (by show h.val / 8 = 0; omega)
    rw [e]
    refine Eq.trans ?_ (out_lo v3 v28 v5 v8 v13 v16 v20 v23 v26 v27 v31 v33 ones ⟨h.val, hh⟩ r d)
    exact first_half _ _ _ _ ⟨h.val, hh⟩ r d
  · have e : Args.grp h = 1 := Fin.ext (by show h.val / 8 = 1; omega)
    have e' : h = ⟨8 + (⟨h.val - 8, by omega⟩ : Fin 8).val, by show 8 + (h.val - 8) < 16; omega⟩ := Fin.ext (by show h.val = 8 + (h.val - 8); omega)
    rw [e]
    have := out_hi v13 v16 (k0_pay12 v5 v20 v31 v33) (k0_pay13 v8 v23 v26 v27) (k0_pay14 v3 v28) ones
      (k0_pay20 (k0_pay16 v16) (k0_pay17 v13) (k0_pay18 v3 v5 v8 v13 v20 v23 v26 v27 v28 v31 v33)
        (k0_pay19 v3 v5 v8 v13 v20 v23 v26 v27 v28 v31 v33)) ⟨h.val - 8, by omega⟩ r d
    rw [← e'] at this
    exact this

end Block

/-- The first key position of block `n`, as the kernel computes it. -/
theorem first_key (n : Nat) (hn : n < 16) :
    Scalar.muli (Scalar.maxsi (Scalar.subi (BitVec.ofNat 32 n) 1#32) 0#32) 128#32 = BitVec.ofInt 32 (Args.k0 n) := by
  have key : ∀ n : Fin 16, Scalar.muli (Scalar.maxsi (Scalar.subi (BitVec.ofNat 32 n.val) 1#32) 0#32) 128#32
      = BitVec.ofInt 32 (Args.k0 n.val) := by decide
  exact key ⟨n, hn⟩

/-- The first query position of block `n`. -/
theorem first_query (n : Nat) : Scalar.muli (BitVec.ofNat 32 n) 128#32 = BitVec.ofInt 32 (n * 128) := by
  rw [word_nat, show (128#32) = BitVec.ofInt 32 128 from by decide]
  unfold Scalar.muli
  exact word_mul _ _

/-- The mask of block `n` at an index: the key's position is not after the query's, and less than 128 before it. -/
theorem mask_at (n : Nat) (hn : n < 16) (r : Fin 128) (j : Fin 256) :
    (k0_pay14 (Scalar.muli (Scalar.maxsi (Scalar.subi (BitVec.ofNat 32 n) 1#32) 0#32) 128#32)
        (Scalar.muli (BitVec.ofNat 32 n) 128#32) (ix3 0 r j) = 1#1)
      ↔ (Args.k0 n + j.val ≤ n * 128 + r.val ∧ n * 128 + r.val < Args.k0 n + j.val + 128) := by
  have hk : Args.k0 n ≤ 2048 := by unfold Args.k0; omega
  rw [first_key n hn, first_query]
  pointwise [k0_pay14]
  rw [word_nat r.val, word_nat j.val, word_add, word_add, word_band _ _ (by omega) (by omega) (by omega) (by omega)]
  omega

/-- Position `r` of block `n`. -/
abbrev posq (n : Nat) (hn : n < 16) (r : Fin 128) : Fin 2048 := ⟨n * 128 + r.val, by omega⟩

/-- Position `j` of block `n`'s window. -/
abbrev posk (n : Nat) (hn : n < 16) (j : Fin 256) : Fin 2048 := ⟨Args.k0 n + j.val, by unfold Args.k0; omega⟩

/-- What block `n` computes from the pieces of the arrays that it loads: the attention of its 128 positions. -/
theorem block_at (A : Args) (n : Nat) (hn : n < 16) (xq : Vec Ideal S16x128x64 .f32) (xk : Vec Ideal S2x256x64 .f32)
    (xv : Vec Ideal S2x256x128 .bf16) (xb : Vec Ideal S16x1x1 .f32) (qc qs : Vec Ideal S128x64 .f32) (kc ks : Vec Ideal S256x64 .f32)
    (rot : Vec Ideal S64x64 .f32)
    (hq : ∀ h r d, xq (ix3 h r d) = A.q (posq n hn r) h d) (hk : ∀ g j d, xk (ix3 g j d) = A.k (posk n hn j) g d)
    (hv : ∀ g j (d : Fin 64), xv (ix3 g j ⟨d.val, by omega⟩) = A.v (posk n hn j) g d) (h1 : ∀ g j, xv (ix3 g j 64) = (1 : EReal))
    (hb : ∀ h, xb (ix3 h 0 0) = A.b h) (hqc : ∀ r d, qc (ix2 r d) = lanes (A.cs (posq n hn r)) 1 d)
    (hqs : ∀ r d, qs (ix2 r d) = lanes (A.sn (posq n hn r)) 0 d) (hkc : ∀ j d, kc (ix2 j d) = lanes (A.cs (posk n hn j)) 1 d)
    (hks : ∀ j d, ks (ix2 j d) = lanes (A.sn (posk n hn j)) 0 d) (hr : ∀ a d, rot (ix2 a d) = sgn a d)
    (h : Fin 16) (r : Fin 128) (d : Fin 64) :
    let v3 := Scalar.muli (Scalar.maxsi (Scalar.subi (BitVec.ofNat 32 n) 1#32) 0#32) 128#32
    let v28 := Scalar.muli (BitVec.ofNat 32 n) 128#32
    let Q := k0_pay12 (F := Ideal) (k0_pay2 xq) (k0_pay7 qs) (k0_pay10 xq rot) (k0_pay11 qc)
    let K := k0_pay13 (F := Ideal) (k0_pay3 xk) (k0_pay8 kc) (k0_pay9 ks) rot
    k0_pay1 (F := Ideal) (k0_pay20 (k0_pay16 (k0_pay6 xv)) (k0_pay17 (k0_pay5 xb))
        (k0_pay18 v3 (k0_pay2 xq) (k0_pay3 xk) (k0_pay5 xb) (k0_pay7 qs) (k0_pay8 kc) (k0_pay9 ks) rot v28 (k0_pay10 xq rot) (k0_pay11 qc))
        (k0_pay19 v3 (k0_pay2 xq) (k0_pay3 xk) (k0_pay5 xb) (k0_pay7 qs) (k0_pay8 kc) (k0_pay9 ks) rot v28 (k0_pay10 xq rot) (k0_pay11 qc)))
        (k0_pay24 (k0_pay5 xb) (k0_pay6 xv) Q K (k0_pay14 v3 v28))
        (k0_pay25 (k0_pay5 xb) (k0_pay6 xv) Q K (k0_pay14 v3 v28)) k0_pay26 (ix3 h r d)
      = A.out (posq n hn r) h d := by
  have hv6 : ∀ i, k0_pay6 (F := Ideal) xv i = xv i := fun i => by pointwise [k0_pay6]
  have hb5 : ∀ i, k0_pay5 (F := Ideal) xb i = xb i := fun i => by pointwise [k0_pay5]
  have hd : (n * 128 + r.val) / 128 = n := by omega
  have hp : ∀ j, Args.pos (posq n hn r) j = posk n hn j := fun j =>
    Fin.ext (by show Args.k0 ((n * 128 + r.val) / 128) + _ = _; rw [hd])
  have hs : ∀ (s s' : Fin 256 → EReal) (b b' : EReal) (v v' : Fin 256 → EReal), s = s' → b = b' → v = v' → soft s b v = soft s' b' v' := by
    rintro s _ b _ v _ rfl rfl rfl; rfl
  intro v3 v28 Q K
  rw [out_at]
  · unfold Args.out
    refine hs _ _ _ _ _ _ (funext fun j => ?_) ((hb5 _).trans (hb h)) (funext fun j => ?_)
    · unfold bsc Args.sc
      rw [hp]
      refine if_congr (mask_at n hn r j) ?_ rfl
      congr 1
      refine Finset.sum_congr rfl fun a _ => ?_
      congr 1
      · rw [q_at]
        simp only [hq, hqc, hqs, hr]
        exact rope_eq _ _ _ _
      · rw [k_at]
        simp only [hk, hkc, hks, hr]
        exact rope_eq _ _ _ _
    · rw [hp]
      exact (hv6 _).trans (hv _ j d)
  · exact fun g j => (hv6 _).trans (h1 g j)

end Cert.Attention

end
-- ==== Proof.Attention.Block.lean ====
/- The attention kernel's result array: block `n` of 128 positions, from the arrays its windows read. -/
module

public import proofs.«01_k».proof.Proof.Attention.Payload
public import proofs.«01_k».proof.Proof.Gen.Kernel22Ideal.Value
public import Idealize.ShloMosaic.Lib.Pipeline.ValueKit

@[expose] public section

set_option maxRecDepth 100000

noncomputable section

open Idealize.ShloMosaic Idealize.ShloMosaic.TcCoe Idealize.SL.Sem Idealize.ShloMosaic.StableHlo

namespace Cert.Attention

open Cert.Kernel22Ideal Cert.Kernel22Ideal.Gen

variable (m : (ℓ : Loc nD τ sig) → Buf (Elt Ideal) ℓ) (c : Dev nD)

/-- The windows' block indices at a grid point. -/
theorem idx : ∀ t : Fin cfg0.N, win0_0.index t = ![0, t.val, 0] ∧ win0_1.index t = ![0, 0, 0] ∧ win0_2.index t = ![0, 0, 0]
    ∧ win0_3.index t = ![0, 0, 0] ∧ win0_4.index t = ![0, 0, 0] ∧ win0_5.index t = ![t.val, 0] ∧ win0_6.index t = ![t.val, 0]
    ∧ win0_7.index t = ![0, 0] ∧ win0_8.index t = ![0, 0] ∧ win0_9.index t = ![0, 0] ∧ win0_10.index t = ![0, t.val, 0] :=
  (by decide +kernel : ∀ t : Fin grid0.N, _)

/-- The queries, heads first. -/
theorem V_q (h : Fin 16) (P : Fin 2048) (d : Fin 64) : V m c main_v24 (ix3 h P d)
    = m ((c : Thread nD τ).loc main_arg0) (ix2 P ⟨h.val * 64 + d.val, by omega⟩) := by
  entry_read
  pointwise

theorem V_k (g : Fin 2) (p : Fin 2048) (d : Fin 64) : V m c main_v26 (ix3 g p d)
    = m ((c : Thread nD τ).loc main_arg1) (ix2 p ⟨g.val * 64 + d.val, by omega⟩) := by
  entry_read
  pointwise

theorem V_v (g : Fin 2) (p : Fin 2048) (d : Fin 64) : V m c main_v32 (ix3 g p ⟨d.val, by omega⟩)
    = m ((c : Thread nD τ).loc main_arg2) (ix2 p ⟨g.val * 64 + d.val, by omega⟩) := by
  entry_read
  pointwise

theorem V_one (g : Fin 2) (p : Fin 2048) : V m c main_v32 (ix3 g p 64) = (1 : EReal) := by
  entry_read
  pointwise

theorem V_b (h : Fin 16) : V m c main_v29 (ix3 h 0 0) = m ((c : Thread nD τ).loc main_arg3) (ix1 h) := by
  entry_read
  pointwise

theorem V_cos (P : Fin 2048) (i : Fin 8) : V m c main_v16 (ix2 P i) = Ideal.cos (ang P i) := by
  entry_read
  pointwise [ang]
  rfl

theorem V_sin (P : Fin 2048) (i : Fin 8) : V m c main_v17 (ix2 P i) = Ideal.sin (ang P i) := by
  entry_read
  pointwise [ang]
  rfl

theorem V_ones (P : Fin 2048) (i : Fin 48) : V m c main_v18 (ix2 P i) = (1 : EReal) := by
  entry_read
  pointwise

theorem V_zeros (P : Fin 2048) (i : Fin 48) : V m c main_v21 (ix2 P i) = (0 : EReal) := by
  entry_read
  pointwise

/-- The operations up to the tables' assembly, and those from it on. -/
theorem V_split (n : Nat) (b) : V m c b = after ((hostOps0 (F := Ideal)).drop n) (after ((hostOps0 (F := Ideal)).take n) fun b => m (c, b)) b := by
  rw [← after_append, List.take_append_drop]

theorem tail_c (F : Valuation τ sig (Elt Ideal)) : after ((hostOps0 (F := Ideal)).drop 25) F main_v19
    = concatenate S2048x64 1 [⟨S2048x8, F main_v16⟩, ⟨S2048x8, F main_v16⟩, ⟨S2048x48, F main_v18⟩]
        concatenates_S2048x8_S2048x8_S2048x48_S2048x64_d1 := by
  simp only [hostOps0, List.drop]
  after_results
  rfl

theorem tail_s (F : Valuation τ sig (Elt Ideal)) : after ((hostOps0 (F := Ideal)).drop 29) F main_v22
    = concatenate S2048x64 1 [⟨S2048x8, F main_v17⟩, ⟨S2048x8, F main_v17⟩, ⟨S2048x48, F main_v21⟩]
        concatenates_S2048x8_S2048x8_S2048x48_S2048x64_d1 := by
  simp only [hostOps0, List.drop]
  after_results
  rfl

/-- An assembled table at an index: the eight entries of the position twice, then the rest. -/
theorem table_at (x : FVec Ideal S2048x8 .f32) (o : FVec Ideal S2048x48 .f32) (P : Fin 2048) (d : Fin 64) :
    concatenate S2048x64 1 [⟨S2048x8, x⟩, ⟨S2048x8, x⟩, ⟨S2048x48, o⟩] concatenates_S2048x8_S2048x8_S2048x48_S2048x64_d1 (ix2 P d)
      = if h : d.val < 8 then x (ix2 P ⟨d.val, h⟩) else if h' : d.val < 16 then x (ix2 P ⟨d.val - 8, by omega⟩)
        else o (ix2 P ⟨d.val - 16, by omega⟩) := by
  by_cases h : d.val < 8
  · rw [dif_pos h]
    pointwise
    rw [dif_pos h]
  · rw [dif_neg h]
    by_cases h' : d.val < 16
    · rw [dif_pos h']
      pointwise
      rw [dif_neg h, dif_pos (by omega)]
    · rw [dif_neg h']
      pointwise
      rw [dif_neg h, dif_neg (by omega)]
      exact congrArg o (congrArg (ix2 P) (Fin.ext (by show d.val - 8 - 8 = d.val - 16; omega)))

/-- The table of cosines. -/
theorem V_c (P : Fin 2048) (d : Fin 64) : V m c main_v19 (ix2 P d) = lanes (fun i => Ideal.cos (ang P i)) 1 d := by
  have e : V m c main_v19 = concatenate S2048x64 1 [⟨S2048x8, V m c main_v16⟩, ⟨S2048x8, V m c main_v16⟩, ⟨S2048x48, V m c main_v18⟩]
      concatenates_S2048x8_S2048x8_S2048x48_S2048x64_d1 := by
    rw [V_split m c 25, V_split m c 25 main_v16, V_split m c 25 main_v18]
    generalize after ((hostOps0 (F := Ideal)).take 25) (fun b => m (c, b)) = F
    rw [tail_c]
    have h16 : after ((hostOps0 (F := Ideal)).drop 25) F main_v16 = F main_v16 := by
      simp only [hostOps0, List.drop]; after_results
    have h18 : after ((hostOps0 (F := Ideal)).drop 25) F main_v18 = F main_v18 := by
      simp only [hostOps0, List.drop]; after_results
    rw [h16, h18]
  rw [e]
  refine (table_at _ _ P d).trans ?_
  unfold lanes
  split_ifs
  · exact V_cos m c P _
  · exact V_cos m c P _
  · exact V_ones m c P _

/-- The table of sines. -/
theorem V_s (P : Fin 2048) (d : Fin 64) : V m c main_v22 (ix2 P d) = lanes (fun i => Ideal.sin (ang P i)) 0 d := by
  have e : V m c main_v22 = concatenate S2048x64 1 [⟨S2048x8, V m c main_v17⟩, ⟨S2048x8, V m c main_v17⟩, ⟨S2048x48, V m c main_v21⟩]
      concatenates_S2048x8_S2048x8_S2048x48_S2048x64_d1 := by
    rw [V_split m c 29, V_split m c 29 main_v17, V_split m c 29 main_v21]
    generalize after ((hostOps0 (F := Ideal)).take 29) (fun b => m (c, b)) = F
    rw [tail_s]
    have h17 : after ((hostOps0 (F := Ideal)).drop 29) F main_v17 = F main_v17 := by
      simp only [hostOps0, List.drop]; after_results
    have h21 : after ((hostOps0 (F := Ideal)).drop 29) F main_v21 = F main_v21 := by
      simp only [hostOps0, List.drop]; after_results
    rw [h17, h21]
  rw [e]
  refine (table_at _ _ P d).trans ?_
  unfold lanes
  split_ifs
  · exact V_sin m c P _
  · exact V_sin m c P _
  · exact V_zeros m c P _

/-- The matrix of signs. -/
theorem V_rot (a d : Fin 64) : V m c main_cst (ix2 a d) = sgn a d := by
  entry_read
  have key : ∀ a d : Fin 64, lit0 (S64x64.rowMajor (ix2 a d))
      = if a.val = d.val + 8 ∧ d.val < 8 then 0xBF800000#32 else if d.val = a.val + 8 ∧ a.val < 8 then 0x3F800000#32 else 0#32 := by
    decide +kernel
  show Ideal.ofBits .f32 _ = _
  rw [key]
  unfold sgn
  split
  · simp [Ideal.ofBits, Ideal.ieee]
    rw [← EReal.coe_mul]
    norm_num
  · split
    · exact Ideal.ofBits_one_f32
    · exact Ideal.ofBits_zero_f32

/-- The kernel's arguments as plain functions. -/
def kargs : Args where
  q P h d := m ((c : Thread nD τ).loc main_arg0) (ix2 P ⟨h.val * 64 + d.val, by omega⟩)
  k p g d := m ((c : Thread nD τ).loc main_arg1) (ix2 p ⟨g.val * 64 + d.val, by omega⟩)
  v p g d := m ((c : Thread nD τ).loc main_arg2) (ix2 p ⟨g.val * 64 + d.val, by omega⟩)
  b h := m ((c : Thread nD τ).loc main_arg3) (ix1 h)
  cs P i := Ideal.cos (ang P i)
  sn P i := Ideal.sin (ang P i)

/-- The grid's coordinate is the point's number, and the three kinds of loads start at the block's first key. -/
theorem offs : ∀ t : Fin cfg0.N, (grid0.coords t 0).val = t.val ∧ k0_off1 (grid0.coords t) = ![0, Args.k0 t.val, 0]
    ∧ k0_off2 (grid0.coords t) = ![0, Args.k0 t.val, 0] ∧ k0_off3 (grid0.coords t) = ![Args.k0 t.val, 0] :=
  (by decide +kernel : ∀ t : Fin grid0.N, _)

/-- Window 0's block at an index: a row of queries. -/
theorem b_q (t : Fin cfg0.N) (h : Fin 16) (r : Fin 128) (d : Fin 64) : iblk m c 0 t (ix3 h r d) = (kargs m c).q (posq t.val t.isLt r) h d := by
  refine Eq.trans ?_ (V_q m c h (posq t.val t.isLt r) d)
  unfold iblk
  rw [View.read_apply]
  show V m c main_v24 _ = _
  congr 1
  blk_ext [idx t]

/-- Window 1's block is the keys, whole. -/
theorem b_k (t : Fin cfg0.N) (g : Fin 2) (p : Fin 2048) (d : Fin 64) : iblk m c 1 t (ix3 g p d) = (kargs m c).k p g d := by
  refine Eq.trans ?_ (V_k m c g p d)
  unfold iblk
  rw [View.read_apply]
  show V m c main_v26 _ = _
  congr 1
  blk_ext [idx t]

/-- Window 4's block is the values, whole, in its first 64 lanes … -/
theorem b_v (t : Fin cfg0.N) (g : Fin 2) (p : Fin 2048) (d : Fin 64) : iblk m c 4 t (ix3 g p ⟨d.val, by omega⟩) = (kargs m c).v p g d := by
  refine Eq.trans ?_ (V_v m c g p d)
  unfold iblk
  rw [View.read_apply]
  show V m c main_v32 _ = _
  congr 1
  blk_ext [idx t]

/-- … and one in the lane after them. -/
theorem b_one (t : Fin cfg0.N) (g : Fin 2) (p : Fin 2048) : iblk m c 4 t (ix3 g p 64) = (1 : EReal) := by
  refine Eq.trans ?_ (V_one m c g p)
  unfold iblk
  rw [View.read_apply]
  show V m c main_v32 _ = _
  congr 1
  blk_ext [idx t]

/-- Window 3's block is the sinks, whole. -/
theorem b_b (t : Fin cfg0.N) (h : Fin 16) : iblk m c 3 t (ix3 h 0 0) = (kargs m c).b h := by
  refine Eq.trans ?_ (V_b m c h)
  unfold iblk
  rw [View.read_apply]
  show V m c main_v29 _ = _
  congr 1
  blk_ext [idx t]

/-- Window 5's block: the cosines of the block's positions. -/
theorem b_qc (t : Fin cfg0.N) (r : Fin 128) (d : Fin 64) : iblk m c 5 t (ix2 r d) = lanes ((kargs m c).cs (posq t.val t.isLt r)) 1 d := by
  refine Eq.trans ?_ (V_c m c (posq t.val t.isLt r) d)
  unfold iblk
  rw [View.read_apply]
  show V m c main_v19 _ = _
  congr 1
  blk_ext [idx t]

/-- Window 6's block: the sines of the block's positions. -/
theorem b_qs (t : Fin cfg0.N) (r : Fin 128) (d : Fin 64) : iblk m c 6 t (ix2 r d) = lanes ((kargs m c).sn (posq t.val t.isLt r)) 0 d := by
  refine Eq.trans ?_ (V_s m c (posq t.val t.isLt r) d)
  unfold iblk
  rw [View.read_apply]
  show V m c main_v22 _ = _
  congr 1
  blk_ext [idx t]

/-- Window 7's block is the table of cosines, whole. -/
theorem b_kc (t : Fin cfg0.N) (p : Fin 2048) (d : Fin 64) : iblk m c 7 t (ix2 p d) = lanes ((kargs m c).cs p) 1 d := by
  refine Eq.trans ?_ (V_c m c p d)
  unfold iblk
  rw [View.read_apply]
  show V m c main_v19 _ = _
  congr 1
  blk_ext [idx t]

/-- Window 8's block is the table of sines, whole. -/
theorem b_ks (t : Fin cfg0.N) (p : Fin 2048) (d : Fin 64) : iblk m c 8 t (ix2 p d) = lanes ((kargs m c).sn p) 0 d := by
  refine Eq.trans ?_ (V_s m c p d)
  unfold iblk
  rw [View.read_apply]
  show V m c main_v22 _ = _
  congr 1
  blk_ext [idx t]

/-- Window 9's block is the matrix of signs, whole. -/
theorem b_rot (t : Fin cfg0.N) (a d : Fin 64) : iblk m c 9 t (ix2 a d) = sgn a d := by
  refine Eq.trans ?_ (V_rot m c a d)
  unfold iblk
  rw [View.read_apply]
  show V m c main_cst _ = _
  congr 1
  blk_ext [idx t]

/-- A load of 256 positions from `o` on out of a whole array of heads. -/
theorem ld3 {n : Nat} {φ : EltTy} (x : Vec Ideal ⟨3, ![2, 2048, n]⟩ φ) (off : Fin 3 → Nat) (o : Nat) (ho : o + 256 ≤ 2048) (e : off = ![0, o, 0])
    (inb : ∀ a, off a + (![2, 256, n] : Fin 3 → Nat) a ≤ (⟨3, ![2, 2048, n]⟩ : Shape).size a) (g : Fin 2) (j : Fin 256) (d : Fin n) :
    View.ld x (Rect.unit (s := ⟨3, ![2, 2048, n]⟩) off ![2, 256, n] inb) (ix3 g j d) = x (ix3 g ⟨o + j.val, by omega⟩ d) := by
  subst e
  exact congrArg x (funext fun a => Fin.ext (by
    match a with
    | ⟨0, _⟩ => show 0 + 1 * g.val = g.val; omega
    | ⟨1, _⟩ => show o + 1 * j.val = o + j.val; omega
    | ⟨2, _⟩ => show 0 + 1 * d.val = d.val; omega))

/-- A load of 256 positions from `o` on out of a table. -/
theorem ld2 (x : Vec Ideal S2048x64 .f32) (off : Fin 2 → Nat) (o : Nat) (ho : o + 256 ≤ 2048) (e : off = ![o, 0])
    (inb : ∀ a, off a + (![256, 64] : Fin 2 → Nat) a ≤ S2048x64.size a) (j : Fin 256) (d : Fin 64) :
    View.ld x (Rect.unit (s := S2048x64) off ![256, 64] inb) (ix2 j d) = x (ix2 ⟨o + j.val, by omega⟩ d) := by
  subst e
  pointwise

/-- What a grid point computes: the attention of its 128 positions. -/
theorem block (t : Fin cfg0.N) (h : Fin 16) (r : Fin 128) (d : Fin 64) : outsAt0 m c t (ix3 h r d) = (kargs m c).out (posq t.val t.isLt r) h d := by
  obtain ⟨o0, o1, o2, o3⟩ := offs t
  have hk : Args.k0 t.val + 256 ≤ 2048 := by have h : t.val < 16 := t.isLt; unfold Args.k0; omega
  unfold outsAt0
  frame_out
  rw [o0]
  exact block_at (kargs m c) t.val t.isLt _ _ _ _ _ _ _ _ _ (b_q m c t) (fun g j d => (ld3 _ _ _ hk o1 _ g j d).trans (b_k m c t g _ d))
    (fun g j d => (ld3 _ _ _ hk o2 _ g j _).trans (b_v m c t g _ d)) (fun g j => (ld3 _ _ _ hk o2 _ g j 64).trans (b_one m c t g _))
    (b_b m c t) (b_qc m c t) (b_qs m c t) (fun j d => (ld2 _ _ _ hk o3 _ j d).trans (b_kc m c t _ d))
    (fun j d => (ld2 _ _ _ hk o3 _ j d).trans (b_ks m c t _ d)) (b_rot m c t) h r d

/-- The kernel's result array is the attention of its arguments, heads first. -/
theorem final10 : (dats m 0 c).arrAt 10 cfg0.N = fun i => (kargs m c).out (i 1) (i 0) (i 2) := by
  refine (dats m 0 c).arrAt_eq_of_covers 10 _ (by decide +kernel) fun t hf y => ?_
  blk_simp
  rw [after0_10]
  have e : y = ix3 (y 0) (y 1) (y 2) := funext fun a => by
    match a with
    | ⟨0, _⟩ => rfl
    | ⟨1, _⟩ => rfl
    | ⟨2, _⟩ => rfl
  refine (congrArg (outsAt0 m c t) e).trans ((block m c t (y 0) (y 1) (y 2)).trans ?_)
  have e0 : y 0 = (win0_10.blk t).view.emb y 0 := Fin.ext (by blk_simp [idx t])
  have e1 : posq t.val t.isLt (y 1) = (win0_10.blk t).view.emb y 1 := Fin.ext (by blk_simp [idx t])
  have e2 : y 2 = (win0_10.blk t).view.emb y 2 := Fin.ext (by blk_simp [idx t])
  rw [← e0, ← e1, ← e2]

end Cert.Attention

end
-- ==== Proof.Attention.Stages.lean ====
/- The attention reference's stages at an index, up to the scores: the rotated queries and keys, the windows of 256 keys and
   values, and the mask. A head is a key-value head `g` and one of its eight query heads `e`; a position is a block `n` of
   128 and a row `r` in it. -/
module

public import proofs.«01_k».proof.Proof.Attention.Payload
public import proofs.«01_k».proof.Proof.Attention.Words
public import proofs.«01_k».proof.Proof.Gen.Reference22Ideal.Read
public import Idealize.ShloMosaic.Lib.Pointwise

@[expose] public section

set_option maxRecDepth 100000

noncomputable section

namespace Cert.Attention

open Idealize.ShloMosaic Cert.Reference22Ideal Cert.Reference22Ideal.Gen Cert.Reference22Ideal.Read

variable (x0 : FVec Ideal S2048x1024 .f32) (x1 x2 : FVec Ideal S2048x128 .f32) (x3 : FVec Ideal S16 .f32)

/-- The reference's arguments as plain functions. -/
abbrev rargs : Args where
  q P h d := x0 (ix2 P ⟨h.val * 64 + d.val, by omega⟩)
  k p g d := x1 (ix2 p ⟨g.val * 64 + d.val, by omega⟩)
  v p g d := x2 (ix2 p ⟨g.val * 64 + d.val, by omega⟩)
  b h := x3 (ix1 h)
  cs P i := Ideal.cos (ang P i)
  sn P i := Ideal.sin (ang P i)

/-- Query head `e` of key-value head `g`. -/
abbrev hd (g : Fin 2) (e : Fin 8) : Fin 16 := ⟨g.val * 8 + e.val, by omega⟩

/-- Row `r` of block `n`. -/
abbrev qpos (n : Fin 16) (r : Fin 128) : Fin 2048 := ⟨n.val * 128 + r.val, by omega⟩

/-- The table of cosines. -/
theorem at_v21 (P : Fin 2048) (i : Fin 8) : val_main_v21 (F := Ideal) (ix2 P i) = Ideal.cos (ang P i) := by
  pointwise [val_main_v21, val_main_v20, val_main_v19, val_main_v18, val_main_v17, val_main_v16, val_main_v15, val_main_v14,
    val_main_v13, val_main_cst_2, val_main_v12, val_main_v11, val_main_cst_1, val_main_v10, val_main_v9, val_main_v8, val_main_cst_0,
    val_main_v7, val_main_v6, val_main_cst, val_main_v5, val_main_v3, ang]
  rfl

/-- The table of sines. -/
theorem at_v23 (P : Fin 2048) (i : Fin 8) : val_main_v23 (F := Ideal) (ix2 P i) = Ideal.sin (ang P i) := by
  pointwise [val_main_v23, val_main_v20, val_main_v19, val_main_v18, val_main_v17, val_main_v16, val_main_v15, val_main_v14,
    val_main_v13, val_main_cst_2, val_main_v12, val_main_v11, val_main_cst_1, val_main_v10, val_main_v9, val_main_v8, val_main_cst_0,
    val_main_v7, val_main_v6, val_main_cst, val_main_v5, val_main_v3, ang]
  rfl

/-- The keys' table of cosines is the queries' again. -/
theorem v56_eq : val_main_v56 (F := Ideal) = val_main_v21 (F := Ideal) := rfl

/-- The keys' table of sines is the queries' again. -/
theorem v58_eq : val_main_v58 (F := Ideal) = val_main_v23 (F := Ideal) := rfl

/-- The rotated queries. -/
theorem at_v38 (P : Fin 2048) (h : Fin 16) (d : Fin 64) :
    val_main_v38 (F := Ideal) x0 (ix4 0 P h d) = (rargs x0 x1 x2 x3).qr P h d := by
  unfold Args.qr rope
  pointwise [val_main_v38, val_main_v37, val_main_v36, val_main_v35, val_main_v34, val_main_v33, val_main_v32, val_main_v31,
    val_main_v30, val_main_v29, val_main_v28, val_main_v27, val_main_v26, val_main_v25, val_main_v24, val_main_v22, val_main_v4,
    val_main_v0, at_v21, at_v23]
  by_cases h1 : d.val < 8
  · simp only [dif_pos h1, Nat.add_comm 8]
  · by_cases h2 : d.val < 16
    · simp only [dif_neg h1, dif_pos h2, dif_pos (show d.val - 8 < 8 by omega), show 8 + (d.val - 8) = d.val by omega]
    · simp only [dif_neg h1, dif_neg h2, dif_neg (show ¬d.val - 8 < 8 by omega), show 16 + (d.val - 8 - 8) = d.val by omega]

/-- The rotated keys. -/
theorem at_v73 (p : Fin 2048) (g : Fin 2) (d : Fin 64) :
    val_main_v73 (F := Ideal) x1 (ix4 0 p g d) = (rargs x0 x1 x2 x3).kr p g d := by
  unfold Args.kr rope
  pointwise [val_main_v73, val_main_v72, val_main_v71, val_main_v70, val_main_v69, val_main_v68, val_main_v67, val_main_v66,
    val_main_v65, val_main_v64, val_main_v63, val_main_v62, val_main_v61, val_main_v60, val_main_v59, val_main_v57, val_main_v39,
    val_main_v1, v56_eq, v58_eq, at_v21, at_v23]
  by_cases h1 : d.val < 8
  · simp only [dif_pos h1, Nat.add_comm 8]
  · by_cases h2 : d.val < 16
    · simp only [dif_neg h1, dif_pos h2, dif_pos (show d.val - 8 < 8 by omega), show 8 + (d.val - 8) = d.val by omega]
    · simp only [dif_neg h1, dif_neg h2, dif_neg (show ¬d.val - 8 < 8 by omega), show 16 + (d.val - 8 - 8) = d.val by omega]

/-- An entry of a block's window of 256 positions: the block before, then the block itself; zero before the first position. -/
def winOf (y : Fin 2048 → EReal) (n : Fin 16) (j : Fin 256) : EReal :=
  if hj : 128 ≤ n.val * 128 + j.val then y ⟨n.val * 128 + j.val - 128, by omega⟩ else 0

/-- The windows of the keys. -/
theorem at_v80 (n : Fin 16) (j : Fin 256) (g : Fin 2) (d : Fin 64) :
    val_main_v80 (F := Ideal) x1 (ix5 0 n j g d) = winOf (fun p => (rargs x0 x1 x2 x3).kr p g d) n j := by
  unfold winOf
  simp only [← at_v73]
  pointwise [val_main_v80, val_main_v79, val_main_v78, val_main_v77, val_main_v76, val_main_v75, val_main_cst_7]
  by_cases h1 : j.val < 128
  · by_cases h2 : n.val * 128 + j.val < 128
    · rw [dif_pos h1, dif_pos h2, dif_neg (by omega)]
    · rw [dif_pos h1, dif_neg h2, dif_pos (by omega)]
  · rw [dif_neg h1, dif_pos (by omega)]
    simp only [show n.val * 128 + (j.val - 128) = n.val * 128 + j.val - 128 by omega]

/-- The windows of the values. -/
theorem at_v86 (n : Fin 16) (j : Fin 256) (g : Fin 2) (d : Fin 64) :
    val_main_v86 (F := Ideal) x2 (ix5 0 n j g d) = winOf (fun p => (rargs x0 x1 x2 x3).v p g d) n j := by
  unfold winOf
  pointwise [val_main_v86, val_main_v85, val_main_v84, val_main_v83, val_main_v82, val_main_v81, val_main_cst_8, val_main_v74, val_main_v2]
  by_cases h1 : j.val < 128
  · by_cases h2 : n.val * 128 + j.val < 128
    · rw [dif_pos h1, dif_pos h2, dif_neg (by omega)]
    · rw [dif_pos h1, dif_neg h2, dif_pos (by omega)]
  · rw [dif_neg h1, dif_pos (by omega)]
    simp only [show n.val * 128 + (j.val - 128) = n.val * 128 + j.val - 128 by omega]

/-- The rotated queries by blocks and key-value heads. -/
theorem at_v87 (n : Fin 16) (r : Fin 128) (g : Fin 2) (e : Fin 8) (d : Fin 64) :
    val_main_v87 (F := Ideal) x0 (ix6 0 n r g e d) = (rargs x0 x1 x2 x3).qr (qpos n r) (hd g e) d := by
  rw [← at_v38]
  pointwise [val_main_v87]

/-- The mask: the key's position is not before the first, and it is among the 128 positions up to the query's. -/
theorem at_v121 (n : Fin 16) (r : Fin 128) (j : Fin 256) : (val_main_v121 (F := Ideal) (ix3 n r j) = 1#1)
    ↔ (128 ≤ n.val * 128 + j.val ∧ (n.val * 128 + j.val - 128 ≤ n.val * 128 + r.val
        ∧ n.val * 128 + r.val < n.val * 128 + j.val - 128 + 128)) := by
  pointwise [val_main_v121, val_main_v120, val_main_v119, val_main_v118, val_main_c_14, val_main_v117, val_main_v116, val_main_v115,
    val_main_c_13, val_main_v114, val_main_v113, val_main_c_12, val_main_v112, val_main_v111, val_main_v110, val_main_v109,
    val_main_v108, val_main_v107, val_main_v106, val_main_v105, val_main_v104, val_main_v103, val_main_c_11, val_main_v102,
    val_main_v101, val_main_c_10, val_main_v100, val_main_v99, val_main_v98, val_main_v97, val_main_v96, val_main_v95,
    val_main_v94, val_main_c, val_main_v93, val_main_v92]
  have hq : IntOp.addi (IntOp.muli (BitVec.ofNat 32 n.val) 128#32) (BitVec.ofNat 32 r.val)
      = BitVec.ofInt 32 ((n.val : ℤ) * 128 + (r.val : ℤ)) := by
    rw [word_nat n.val, word_nat r.val, show (128#32 : BitVec 32) = BitVec.ofInt 32 128 from rfl, word_mul, word_add]
  have hk : IntOp.addi (IntOp.muli (IntOp.subi (BitVec.ofNat 32 n.val) 1#32) 128#32) (BitVec.ofNat 32 j.val)
      = BitVec.ofInt 32 (((n.val : ℤ) - 1) * 128 + (j.val : ℤ)) := by
    rw [word_nat n.val, word_nat j.val, show (128#32 : BitVec 32) = BitVec.ofInt 32 128 from rfl,
      show (1#32 : BitVec 32) = BitVec.ofInt 32 1 from rfl, word_sub, word_mul, word_add]
  have hn := n.isLt
  have hr := r.isLt
  have hj := j.isLt
  rw [hq, hk, and_bit, word_band _ _ (by omega) (by omega) (by omega) (by omega),
    show (0#32 : BitVec 32) = BitVec.ofInt 32 0 from rfl, word_ge _ _ (by omega) (by omega) (by omega) (by omega)]
  omega

end Cert.Attention

end
-- ==== Proof.Attention.Softmax.lean ====
/- The attention reference's stages at an index, from the scores to the result: the masked scores, the softmax with the sink,
   and the weighted sum of the values. -/
module

public import proofs.«01_k».proof.Proof.Attention.Stages

@[expose] public section

set_option maxRecDepth 100000

noncomputable section

namespace Cert.Attention

open Idealize.ShloMosaic Cert.Reference22Ideal Cert.Reference22Ideal.Gen Cert.Reference22Ideal.Read

variable (x0 : FVec Ideal S2048x1024 .f32) (x1 x2 : FVec Ideal S2048x128 .f32) (x3 : FVec Ideal S16 .f32)

section Windows
variable (A : Args) (n : Fin 16) (r : Fin 128) (h : Fin 16) (g : Fin 2) (j : Fin 256) (d : Fin 64)

/-- The block of a position. -/
theorem block_of : (n.val * 128 + r.val) / 128 = n.val := by omega

/-- The score of a window's entry, by the block. -/
theorem rsc_at : A.rsc (qpos n r) h j
    = if hj : 128 ≤ n.val * 128 + j.val then A.sc (qpos n r) h ⟨n.val * 128 + j.val - 128, by omega⟩ else ⊥ := by
  unfold Args.rsc
  simp only [block_of]

/-- The value of a window's entry, by the block. -/
theorem rv_at : A.rv (qpos n r) g j d = winOf (fun p => A.v p g d) n j := by
  unfold Args.rv winOf
  simp only [block_of]

end Windows

/-- The products of queries and keys. -/
theorem at_v88 (n : Fin 16) (g : Fin 2) (e : Fin 8) (r : Fin 128) (j : Fin 256) :
    val_main_v88 (F := Ideal) x0 x1 (ix6 0 n g j r e) = ∑ d, (rargs x0 x1 x2 x3).qr (qpos n r) (hd g e) d
      * winOf (fun p => (rargs x0 x1 x2 x3).kr p g d) n j := by
  rw [val_main_v88_apply]
  refine Finset.sum_congr rfl fun d _ => ?_
  have hl : lidx_main_v88 (ix6 0 n g j r e) d = ix5 0 n j g d := funext fun a => by fin_cases a <;> rfl
  have hr : ridx_main_v88 (ix6 0 n g j r e) d = ix6 0 n r g e d := funext fun a => by fin_cases a <;> rfl
  rw [hl, hr, at_v80 x0 x1 x2 x3, at_v87 x0 x1 x2 x3, mul_comm]

/-- The masked scores. -/
theorem at_v123 (n : Fin 16) (g : Fin 2) (e : Fin 8) (r : Fin 128) (j : Fin 256) :
    val_main_v123 (F := Ideal) x0 x1 (ix6 0 n g e r j) = (rargs x0 x1 x2 x3).rsc (qpos n r) (hd g e) j := by
  pointwise [val_main_v123, val_main_call0_v2, val_main_call0_v1, val_main_call0_v0, val_main_cst_15, val_main_v122,
    val_main_v91, val_main_v90, val_main_cst_9, val_main_v89]
  have hg : Args.grp (hd g e) = g := Fin.ext (by show (g.val * 8 + e.val) / 8 = g.val; omega)
  rw [select_bit, rsc_at]
  unfold Args.sc
  by_cases hv : val_main_v121 (F := Ideal) (ix3 n r j) = 1#1
  · obtain ⟨h1, h2⟩ := (at_v121 n r j).1 hv
    rw [if_pos hv, dif_pos h1, if_pos h2, at_v88 x0 x1 x2 x3, hg]
    unfold winOf
    simp only [dif_pos h1]
    rfl
  · rw [if_neg hv]
    have hm : ∀ h1 : 128 ≤ n.val * 128 + j.val, ¬(n.val * 128 + j.val - 128 ≤ n.val * 128 + r.val
        ∧ n.val * 128 + r.val < n.val * 128 + j.val - 128 + 128) := fun h1 h2 => hv ((at_v121 n r j).2 ⟨h1, h2⟩)
    refine Eq.trans neg_inf ?_
    split
    · next h1 => rw [if_neg (hm h1)]
    · rfl

/-- The scores with the sink behind them. -/
theorem at_v127 (n : Fin 16) (g : Fin 2) (e : Fin 8) (r : Fin 128) (k : Fin 257) :
    val_main_v127 (F := Ideal) x0 x1 x3 (ix6 0 n g e r k)
      = if h : k.val < 256 then val_main_v123 (F := Ideal) x0 x1 (ix6 0 n g e r ⟨k.val, h⟩) else x3 (ix1 (hd g e)) := by
  pointwise [val_main_v127, val_main_v126, val_main_v125, val_main_v124]

/-- A score among them. -/
theorem at_score (n : Fin 16) (g : Fin 2) (e : Fin 8) (r : Fin 128) (j : Fin 256) :
    val_main_v127 (F := Ideal) x0 x1 x3 (ix6 0 n g e r j.castSucc) = (rargs x0 x1 x2 x3).rsc (qpos n r) (hd g e) j := by
  rw [at_v127, dif_pos (show j.castSucc.val < 256 from j.isLt), ← at_v123 x0 x1 x2 x3]
  rfl

/-- The sink among them. -/
theorem at_sink (n : Fin 16) (g : Fin 2) (e : Fin 8) (r : Fin 128) :
    val_main_v127 (F := Ideal) x0 x1 x3 (ix6 0 n g e r (Fin.last 256)) = x3 (ix1 (hd g e)) := by
  rw [at_v127, dif_neg (by decide)]

/-- The greatest of 257 values: that of the first 256, and the last. -/
theorem fold_last (f : Fin 257 → EReal) : Finset.univ.fold max ⊥ f
    = max (Finset.univ.fold max ⊥ fun j : Fin 256 => f j.castSucc) (f (Fin.last 256)) := by
  refine eq_of_forall_gt_iff fun c => ?_
  rw [max_lt_iff, Finset.fold_max_lt, Finset.fold_max_lt]
  simp only [Finset.mem_univ, true_implies, Fin.forall_fin_succ' (n := 256)]
  tauto

/-- The greatest over the last axis. -/
theorem reduce_last (y : FVec Ideal S1x16x2x8x128x257 .f32) (n : Fin 16) (g : Fin 2) (e : Fin 8) (r : Fin 128) :
    Host.reduce FloatOps.maximumf y (val_main_cst_16 (F := Ideal)) reducesTo_S1x16x2x8x128x257_S1x16x2x8x128_d5 h_S_ (ix5 0 n g e r)
      = Finset.univ.fold max ⊥ fun k : Fin 257 => y (ix6 0 n g e r k) := by
  refine (Host.reduce_eq_fold_single (max : EReal → EReal → EReal) y _ reducesTo_S1x16x2x8x128x257_S1x16x2x8x128_d5
    (by decide) h_S_ (ix5 0 n g e r)).trans ?_
  rw [show (val_main_cst_16 (F := Ideal) (Shape.Idx.first h_S_) : EReal) = ⊥ from neg_inf]
  refine congrArg (Finset.univ.fold max ⊥) (funext fun k => congrArg y (funext fun a => ?_))
  fin_cases a <;> rfl

variable (n : Fin 16) (g : Fin 2) (e : Fin 8) (r : Fin 128)

/-- The row's scores in the reference's order. -/
abbrev srow : Fin 256 → EReal := (rargs x0 x1 x2 x3).rsc (qpos n r) (hd g e)

/-- The greatest of the scores and the sink. -/
theorem at_v130 : val_main_v130 (F := Ideal) x0 x1 x3 (ix5 0 n g e r) = top (srow x0 x1 x2 x3 n g e r) (x3 (ix1 (hd g e))) := by
  have h : val_main_v128 (F := Ideal) x0 x1 x3 (ix5 0 n g e r) = top (srow x0 x1 x2 x3 n g e r) (x3 (ix1 (hd g e))) := by
    unfold val_main_v128
    rw [reduce_last, fold_last, at_sink]
    simp only [at_score x0 x1 x2 x3]
    rfl
  rw [← h, val_main_v130_apply]
  generalize val_main_v128 (F := Ideal) x0 x1 x3 (ix5 0 n g e r) = y
  rw [val_main_v129_apply]
  exact max_eq_right (le_of_eq_of_le neg_inf bot_le)

/-- The exponentials of the scores and the sink, less the greatest. -/
theorem at_v134 (k : Fin 257) : val_main_v134 (F := Ideal) x0 x1 x3 (ix6 0 n g e r k)
    = Ideal.exp (val_main_v127 (F := Ideal) x0 x1 x3 (ix6 0 n g e r k) - top (srow x0 x1 x2 x3 n g e r) (x3 (ix1 (hd g e)))) := by
  rw [← at_v130]
  pointwise [val_main_v134, val_main_v133, val_main_v132, val_main_v131]

/-- The sum of the weights, the sink's among them. -/
theorem at_v135 : val_main_v135 (F := Ideal) x0 x1 x3 (ix5 0 n g e r) = den (srow x0 x1 x2 x3 n g e r) (x3 (ix1 (hd g e))) := by
  have hi : ∀ k, idx_main_v135 (ix5 0 n g e r) k = ix6 0 n g e r k := fun k => funext fun a => by fin_cases a <;> rfl
  rw [val_main_v135_apply, show (val_main_cst_18 (F := Ideal) (Shape.Idx.first h_S_) : EReal) = 0 from Ideal.ofBits_zero_f32, zero_add]
  simp only [hi, at_v134 x0 x1 x2 x3]
  rw [Fin.sum_univ_castSucc]
  simp only [at_score x0 x1 x2 x3, at_sink]
  rfl

/-- The weights, divided by their sum. -/
theorem at_v139 (j : Fin 256) : val_main_v139 (F := Ideal) x0 x1 x3 (ix6 0 n g e r j)
    = Ideal.div (wt (srow x0 x1 x2 x3 n g e r) (x3 (ix1 (hd g e))) j) (den (srow x0 x1 x2 x3 n g e r) (x3 (ix1 (hd g e)))) := by
  unfold wt
  have hs : srow x0 x1 x2 x3 n g e r j = val_main_v127 (F := Ideal) x0 x1 x3 (ix6 0 n g e r j.castSucc) :=
    (at_score x0 x1 x2 x3 n g e r j).symm
  rw [← at_v135, hs, ← at_v134]
  pointwise [val_main_v139, val_main_v138, val_main_v137, val_main_v136]
  rfl

/-- The weighted sum of the values. -/
theorem at_v140 (d : Fin 64) : val_main_v140 (F := Ideal) x0 x1 x2 x3 (ix6 0 n g d e r)
    = ∑ j, (rargs x0 x1 x2 x3).rv (qpos n r) g j d
      * Ideal.div (wt (srow x0 x1 x2 x3 n g e r) (x3 (ix1 (hd g e))) j) (den (srow x0 x1 x2 x3 n g e r) (x3 (ix1 (hd g e)))) := by
  rw [val_main_v140_apply]
  refine Finset.sum_congr rfl fun j _ => ?_
  have hl : lidx_main_v140 (ix6 0 n g d e r) j = ix5 0 n j g d := funext fun a => by fin_cases a <;> rfl
  have hr : ridx_main_v140 (ix6 0 n g d e r) j = ix6 0 n g e r j := funext fun a => by fin_cases a <;> rfl
  rw [hl, hr, at_v86 x0 x1 x2 x3, at_v139 x0 x1 x2 x3, rv_at]

/-- Over real queries, keys and sinks, the reference's result is the attention's. -/
theorem at_v144 (hA : (rargs x0 x1 x2 x3).Finite) (h : Fin 16) (P : Fin 2048) (d : Fin 64) :
    val_main_v144 (F := Ideal) x0 x1 x2 x3 (ix3 h P d) = (rargs x0 x1 x2 x3).out P h d := by
  pointwise [val_main_v144, val_main_v143, val_main_v142, val_main_v141]
  have hP : ∀ a b, qpos ⟨P.val / 128, a⟩ ⟨P.val % 128, b⟩ = P := fun a b => Fin.ext (by
    show P.val / 128 * 128 + P.val % 128 = P.val
    omega)
  have hh : ∀ a b, hd ⟨h.val / 8, a⟩ ⟨h.val % 8, b⟩ = h := fun a b => Fin.ext (by
    show h.val / 8 * 8 + h.val % 8 = h.val
    omega)
  rw [at_v140, Args.out_eq]
  unfold srow
  rw [hP, hh]
  refine soft_eq _ (fun j => ?_) (hA.b h)
  unfold Args.rsc
  split
  · exact Args.sc_ne_top consts_real.2.2.2 hA _ _ _
  · exact bot_ne_top

end Cert.Attention

end
-- ==== Proof.Attention.Claims.lean ====
/- The claims about the attention's forward call: the precondition gives real queries, keys and sinks, over which the kernel's
   result and the reference's are the same plain function of the arguments. -/
module

public import proofs.«01_k».proof.Proof.Attention.Block
public import proofs.«01_k».proof.Proof.Attention.Softmax
public import proofs.«01_k».proof.Defs
public import proofs.«01_k».proof.Proof.Gen.Kernel22Ideal.Value
public import proofs.«01_k».proof.Proof.Gen.Reference22Ideal.Run
public import Idealize.ShloMosaic.Lib.Claim
public import Idealize.ShloMosaic.Lib.Quiescent

@[expose] public section

set_option maxRecDepth 100000

noncomputable section

namespace Cert.Attention

open Idealize.ShloMosaic Idealize.ShloMosaic.TcCoe Idealize.SL.Sem Idealize.ShloMosaic.StableHlo

/-- The shapes of the precondition's operations fit. -/
theorem pre_facts : Cert.Pre_finite_scores.Facts := ⟨by decide, by decide, by decide⟩

/-- A value whose magnitude compares less than infinity is real. -/
theorem real_of_lt (x : EReal) (h : FloatOps.cmpf (F := Ideal) (φ := .f32) .olt (FloatOps.absf (F := Ideal) (φ := .f32) x)
    (FloatOps.ofBits (F := Ideal) .f32 0x7F800000#32) = 1#1) : IsReal x := by
  have ht : Ideal.ofBits .f32 0x7F800000#32 = ⊤ := by simp [Ideal.ofBits, Ideal.ieee]
  have hl : max x (-x) < ⊤ := by
    rw [← ht]
    exact of_decide_eq_true ((ofBool_bit _).1 h)
  refine isReal_of_ne (ne_of_lt (lt_of_le_of_lt (le_max_left _ _) hl)) fun hb => ?_
  rw [hb, EReal.neg_bot] at hl
  exact absurd (lt_of_le_of_lt (le_max_right _ _) hl) (lt_irrefl _)

variable (m : (ℓ : Loc Cert.Kernel22Ideal.nD Cert.Kernel22Ideal.τ Cert.Kernel22Ideal.sig) → Buf (Elt Ideal) ℓ)
  (c : Dev Cert.Kernel22Ideal.nD)

/-- Under the precondition the kernel's queries, keys and sinks are real; the tables always are. -/
theorem finite (h : Cert.Pre_Kernel22Ideal_finite_scores (hPre_finite_scores := pre_facts) m) : (kargs m c).Finite := by
  obtain ⟨hq, hk, hb⟩ := h c
  exact ⟨fun P h d => real_of_lt _ (congrFun hq (ix2 P ⟨h.val * 64 + d.val, by omega⟩)),
    fun P g d => real_of_lt _ (congrFun hk (ix2 P ⟨g.val * 64 + d.val, by omega⟩)),
    fun h => real_of_lt _ (congrFun hb (ix1 h)), fun P i => cos_real P i, fun P i => sin_real P i⟩

/-- The kernel's result array is the reference's. -/
theorem result (h : Cert.Pre_Kernel22Ideal_finite_scores (hPre_finite_scores := pre_facts) m) :
    (Cert.Kernel22Ideal.Gen.dats m 0 c).arrAt 10 Cert.Kernel22Ideal.cfg0.N
      = Cert.Reference22Ideal.Read.val_main_v144 (F := Ideal)
        (m ((c : Thread Cert.Kernel22Ideal.nD Cert.Kernel22Ideal.τ).loc Cert.Kernel22Ideal.main_arg0))
        (m ((c : Thread Cert.Kernel22Ideal.nD Cert.Kernel22Ideal.τ).loc Cert.Kernel22Ideal.main_arg1))
        (m ((c : Thread Cert.Kernel22Ideal.nD Cert.Kernel22Ideal.τ).loc Cert.Kernel22Ideal.main_arg2))
        (m ((c : Thread Cert.Kernel22Ideal.nD Cert.Kernel22Ideal.τ).loc Cert.Kernel22Ideal.main_arg3)) := by
  rw [final10]
  funext i
  have e : i = ix3 (i 0) (i 1) (i 2) := funext fun a => by fin_cases a <;> rfl
  refine Eq.trans ?_ (congrArg _ e.symm)
  exact (at_v144 _ _ _ _ (finite m c h) (i 0) (i 1) (i 2)).symm

/-- From equal arguments with finite queries, keys and sinks the two programs end with equal results. -/
theorem same_results : Cert.algebraic_Kernel22Ideal_Reference22Ideal_pre_finite_scores
    (hKernel22Ideal := Cert.Kernel22Ideal.Gen.facts) (hReference22Ideal := Cert.Reference22Ideal.Gen.facts)
    (hPre_finite_scores := pre_facts) := by
  pair_intro
  · run_from Cert.Kernel22Ideal.Value.run_blocks m g
  · refine (θ_run _ _ _).mono (fun r h c => ?_) (Cert.Reference22Ideal.Value.run m' g')
    obtain ⟨h0, k⟩ := h c
    obtain ⟨a0, a1, a2, a3⟩ := hagree c
    rw [Cert.Reference22Ideal.Read.val_main_v144_eq, a0, a1, a2, a3] at h0
    exact ⟨h0.trans (result m c hpre).symm, k⟩

/-- The reference runs to its end, keeps its arguments, and leaves every semaphore at zero: it has none. -/
theorem reference_frame : Cert.quiescent_Reference22Ideal (hReference22Ideal := Cert.Reference22Ideal.Gen.facts) := fun m ρ _ =>
  (θ_run _ _ _).mono (fun r h => ⟨fun c => (h c).2, sem_eq_zero_of_no_sems rfl _⟩)
    (Cert.Reference22Ideal.Value.run m ρ)

/-- The kernel's mask constant is the named one, minus infinity in the ideal program. -/
theorem mask_named : Cert.preserves_Kernel22_Kernel22Ideal :=
  IdealRules.named_const.statement _ _ _ _ _ rfl

end Cert.Attention

end
-- ==== Proof.SpatialGating.Math.lean ====
/- The gradient of the spatial gating, written as plain functions of extended reals: the scalar pieces (gelu, silu and
   their cotangents), one row's layer norm and its cotangent, and the mixing of one block of 128 rows by the lower
   triangles of the eight heads. Lane `j` of 1024 belongs to head `j / 128`. Both programs are read against these. -/
module

public import Idealize.ShloMosaic.PureOps.Ideal
public import Idealize.ShloMosaic.PureOps.Ideal.Laws

@[expose] public section

noncomputable section

namespace Cert.SpatialGating

open Idealize.ShloMosaic

/-- The extended real an f32 word denotes. -/
abbrev lit (w : BitVec 32) : EReal := Scalar.ofBits (F := Ideal) .f32 w

/-- The hyperbolic tangent of the tanh-form gelu: `tanh (0.7978… · (x + 0.044715 · x³))`. -/
def gth (x : EReal) : EReal := Ideal.tanh (lit 0x3F4C422A#32 * (x + lit 0x3D372713#32 * (x * (x * x))))

/-- The gate of gelu, `(1 + tanh …) / 2`. -/
def ghalf (x : EReal) : EReal := lit 0x3F000000#32 * (lit 0x3F800000#32 + gth x)

/-- gelu in its tanh form. -/
def gel (x : EReal) : EReal := x * ghalf x

/-- `1 - tanh²`, as the product the derivative of tanh is printed as. -/
def gsech (x : EReal) : EReal := (lit 0x3F800000#32 + gth x) * (lit 0x3F800000#32 - gth x)

/-- The cotangent that reaches the argument of the tanh, scaled by `0.7978…`. -/
def gin (x g : EReal) : EReal := lit 0x3F4C422A#32 * (lit 0x3F000000#32 * (x * g) * gsech x)

/-- The cotangent of gelu: at `x`, from the cotangent `g` of its result. -/
def gback (x g : EReal) : EReal :=
  g * ghalf x + gin x g + lit 0x3D372713#32 * gin x g * (lit 0x40400000#32 * (x * x))

/-- silu. -/
def sil (z : EReal) : EReal := z * Ideal.logistic z

/-- The cotangent of silu: at `z`, from the cotangent `g` of its result. -/
def silback (z g : EReal) : EReal :=
  g * Ideal.logistic z + z * g * (Ideal.logistic z * (lit 0x3F800000#32 - Ideal.logistic z))

section Row
variable (x : Fin 1024 → EReal)

/-- The mean of a row after gelu. -/
def mean : EReal := Ideal.div (∑ j, gel (x j)) (lit 0x44800000#32)

/-- A row after gelu, less its mean. -/
def cen (j : Fin 1024) : EReal := gel (x j) - mean x

/-- The variance of a row after gelu, plus epsilon. -/
def vareps : EReal := Ideal.div (∑ j, cen x j * cen x j) (lit 0x44800000#32) + lit 0x358637BD#32

/-- The reciprocal square root of the variance. -/
def rstd : EReal := Ideal.rsqrt (vareps x)

/-- The normalised row. -/
def xhat (j : Fin 1024) : EReal := cen x j * rstd x

/-- The layer norm of a row after gelu, with weight `w` and bias `b`. -/
def lnorm (w b : Fin 1024 → EReal) (j : Fin 1024) : EReal := xhat x j * w j + b j

variable (w d : Fin 1024 → EReal)

/-- The cotangent `d` of the layer norm's result, times its weight. -/
def dxh (j : Fin 1024) : EReal := d j * w j

/-- The part of the cotangent that passes through the normalised row only. -/
def dcen (j : Fin 1024) : EReal := dxh w d j * rstd x

/-- The cotangent of the variance, divided by the length of the row. -/
def dvar : EReal :=
  Ideal.div ((∑ j, cen x j * dxh w d j) * (lit 0xBF000000#32 * Ideal.div (rstd x) (vareps x))) (lit 0x44800000#32)

/-- The part of the cotangent that passes through the variance. -/
def dsq (j : Fin 1024) : EReal := dvar x w d * (lit 0x40000000#32 * cen x j)

/-- The cotangent of the mean, divided by the length of the row. -/
def dmean : EReal := Ideal.div ((∑ j, -dcen x w d j) + ∑ j, -dsq x w d j) (lit 0x44800000#32)

/-- The cotangent of the row after gelu. -/
def dgel (j : Fin 1024) : EReal := dcen x w d j + dsq x w d j + dmean x w d

/-- The cotangent of the row before gelu. -/
def dvrow (j : Fin 1024) : EReal := gback (x j) (dgel x w d j)

end Row

/-- The head a lane belongs to. -/
abbrev head (j : Fin 1024) : Fin 8 := ⟨j.val / 128, by omega⟩

/-- Lane `c` of head `h`. -/
abbrev lane (h : Fin 8) (c : Fin 128) : Fin 1024 := ⟨128 * h.val + c.val, by omega⟩

theorem head_lane (h : Fin 8) (c : Fin 128) : head (lane h c) = h := Fin.ext (by show (128 * h.val + c.val) / 128 = h.val; omega)

/-- The lower triangle of a head's mixing matrix. -/
def tri (W : Fin 8 → Fin 128 → Fin 128 → EReal) (h : Fin 8) (t s : Fin 128) : EReal :=
  if s ≤ t then W h t s else 0

/-- The mixed block: row `t` of each head is the triangle's row `t` against the block's rows, plus the row's bias. -/
def mixed (W : Fin 8 → Fin 128 → Fin 128 → EReal) (B : Fin 8 → Fin 128 → EReal) (V : Fin 128 → Fin 1024 → EReal)
    (t : Fin 128) (j : Fin 1024) : EReal := (∑ s, tri W (head j) t s * V s j) + B (head j) t

/-- The cotangent of the block that was mixed, from the cotangent `D` of the mixed block. -/
def dmixed (W : Fin 8 → Fin 128 → Fin 128 → EReal) (D : Fin 128 → Fin 1024 → EReal) (s : Fin 128) (j : Fin 1024) : EReal :=
  ∑ t, tri W (head j) t s * D t j

/-- What one block contributes to the cotangent of a head's mixing matrix, before the triangle is taken. -/
def dweight (D V : Fin 128 → Fin 1024 → EReal) (h : Fin 8) (t s : Fin 128) : EReal :=
  ∑ c, D t (lane h c) * V s (lane h c)

/-- What one block contributes to the cotangent of a head's bias. -/
def dbias (D : Fin 128 → Fin 1024 → EReal) (h : Fin 8) (t : Fin 128) : EReal := ∑ c, D t (lane h c)

/-- The cotangent of the mixed block: the incoming cotangent times silu of the gate times gelu of the other factor. -/
def dmix (dy u z : EReal) : EReal := gel u * (dy * sil z)

/-- The cotangent of `u`. -/
def du (dy u z mix : EReal) : EReal := gback u (dy * sil z * mix)

/-- The cotangent of `z`. -/
def dz (dy u z mix : EReal) : EReal := silback z (gel u * mix * dy)

end Cert.SpatialGating

end
-- ==== Proof.SpatialGating.Block.lean ====
module

public import proofs.«01_k».proof.Proof.SpatialGating.Math
public import proofs.«01_k».proof.Proof.Gen.KernelIdeal.Skeleton
public import Idealize.ShloMosaic.Lib.Pointwise

@[expose] public section

noncomputable section

namespace Cert.SpatialGating

open Idealize.ShloMosaic Cert.KernelIdeal Cert.KernelIdeal.Gen

/-- A block of 128 rows as the kernel holds it. -/
abbrev BlockV := FVec Ideal S128x1024 .f32

/-- Row `r` of a block. -/
abbrev row (x : BlockV) (r : Fin 128) (j : Fin 1024) : EReal := x (ix2 r j)

/-- A one-row array as a function of the lane. -/
abbrev lanes (w : FVec Ideal S1x1024 .f32) (j : Fin 1024) : EReal := w (ix2 0 j)

section Elementwise
variable (x : BlockV) (i : S128x1024.Idx)

theorem pay24_apply : (k0_pay24 (F := Ideal) x (k0_pay21 x) (lit 0x3F800000#32) i : EReal) = gel (x i) := rfl

theorem pay29_apply : (k0_pay29 (F := Ideal) x i : EReal) = gel (x i) := rfl

end Elementwise

section Row
variable (x : BlockV) (r : Fin 128) (j : Fin 1024) (q : Fin 1)

theorem pay30_apply : (k0_pay30 (F := Ideal) x (ix2 r q) : EReal) = mean (row x r) := by
  unfold k0_pay30
  pointwise [pay29_apply]
  rfl

theorem pay31_apply : (k0_pay31 (F := Ideal) x (ix2 r j) : EReal) = cen (row x r) j := by
  unfold k0_pay31
  pointwise [pay29_apply, pay30_apply]
  rfl

theorem pay33_apply : (k0_pay33 (F := Ideal) x (ix2 r j) : EReal) = cen (row x r) j := by
  unfold k0_pay33
  pointwise [pay29_apply, pay30_apply]
  rfl

theorem pay34_apply : (k0_pay34 (F := Ideal) x (ix2 r q) : EReal) = vareps (row x r) := by
  unfold k0_pay34
  pointwise [pay31_apply]
  rfl

theorem pay35_apply : (k0_pay35 (F := Ideal) x (ix2 r q) : EReal) = rstd (row x r) := by
  unfold k0_pay35
  pointwise [pay34_apply]
  rfl

theorem pay36_apply : (k0_pay36 (F := Ideal) x (ix2 r q) : EReal) = Ideal.div (rstd (row x r)) (vareps (row x r)) := by
  unfold k0_pay36
  pointwise [pay34_apply, pay35_apply]

theorem pay38_apply : (k0_pay38 (F := Ideal) (k0_pay33 x) (k0_pay35 x) (ix2 r j) : EReal) = xhat (row x r) j := by
  unfold k0_pay38
  pointwise [pay33_apply, pay35_apply]
  rfl

variable (w b : FVec Ideal S1x1024 .f32)

theorem pay39_apply :
    (k0_pay39 (F := Ideal) w b (k0_pay33 x) (k0_pay35 x) (ix2 r j) : EReal) = lnorm (row x r) (lanes w) (lanes b) j := by
  unfold k0_pay39
  pointwise [pay38_apply]
  rfl

end Row

theorem pay40_apply (t s : Fin 128) : k0_pay40 (ix2 t s) = BitVec.ofBool (decide (s ≤ t)) := by
  unfold k0_pay40
  pointwise
  have hs := s.isLt
  have ht := t.isLt
  simp only [IntOp.cmpi, BitVec.sle, BitVec.toInt_eq_toNat_cond, BitVec.toNat_ofNat]
  congr 1
  rw [decide_eq_decide, Fin.le_def]
  split_ifs <;> omega

section Mix
variable (v : BlockV) (w b : FVec Ideal S1x1024 .f32) (A : Fin 8 → FVec Ideal S128x128 .f32) (B : Fin 8 → FVec Ideal S128x1 .f32)
variable (t : Fin 128) (h : Fin 8) (c : Fin 128)

/-- The mixed block. -/
def kmix : BlockV :=
  k0_pay63 (A 5) (A 6) (A 7) (B 5) (B 6) (B 7) (k0_pay39 w b (k0_pay33 v) (k0_pay35 v)) k0_pay40
    (k0_pay43 (A 0) (B 0) w b (k0_pay33 v) (k0_pay35 v)) (k0_pay46 (A 1) (B 1) w b (k0_pay33 v) (k0_pay35 v))
    (k0_pay49 (A 2) (B 2) w b (k0_pay33 v) (k0_pay35 v)) (k0_pay52 (A 3) (B 3) w b (k0_pay33 v) (k0_pay35 v))
    (k0_pay55 (A 4) w b (k0_pay33 v) (k0_pay35 v)) (k0_pay56 (B 4))

set_option maxHeartbeats 1600000 in
theorem kmix_apply : (kmix v w b A B (ix2 t (lane h c)) : EReal) =
    mixed (fun h t s => A h (ix2 t s)) (fun h t => B h (ix2 t 0)) (fun s => lnorm (row v s) (lanes w) (lanes b)) t (lane h c) := by
  unfold kmix
  generalize hV : k0_pay39 w b (k0_pay33 v) (k0_pay35 v) = V
  unfold k0_pay63 k0_pay43 k0_pay46 k0_pay49 k0_pay52 k0_pay55 k0_pay56 k0_pay41 k0_pay44 k0_pay47 k0_pay50 k0_pay53 k0_pay42 k0_pay45 k0_pay48 k0_pay51 k0_pay54 k0_pay57 k0_pay59 k0_pay61 k0_pay58 k0_pay60 k0_pay62
  simp only [hV]
  pointwise [pay40_apply]
  have hV' : ∀ s j, (V (ix2 s j) : EReal) = lnorm (row v s) (lanes w) (lanes b) j := fun s j => by rw [← hV, pay39_apply]
  unfold mixed tri
  rw [head_lane]
  simp only [hV']
  obtain ⟨h, hh⟩ := h
  have hc := c.isLt
  interval_cases h <;>
    simp (disch := omega) only [dif_pos, dif_neg, lane, Nat.sub_sub, Nat.reduceAdd, Nat.reduceMul, Nat.add_sub_cancel_left,
      Nat.zero_add] <;> rfl
end Mix

section Back
variable (A D : Fin 8 → FVec Ideal S128x128 .f32)

theorem pay99_apply (s : Fin 128) (h : Fin 8) (c : Fin 128) :
    (k0_pay99 (A 0) (A 1) (D 0) (D 1) (k0_pay92 (A 2) (A 3) (A 4) (D 2) (D 3) (D 4) (k0_pay83 (A 5) (A 6) (A 7) (D 5) (D 6) (D 7)))
      (ix2 s (lane h c)) : EReal) = ∑ t, A h (ix2 t s) * D h (ix2 t c) := by
  unfold k0_pay83 k0_pay92 k0_pay99
  pointwise
  obtain ⟨h, hh⟩ := h
  have hc := c.isLt
  interval_cases h <;>
    simp (disch := omega) only [dif_pos, dif_neg, lane, Nat.sub_sub, Nat.reduceAdd, Nat.reduceMul, Nat.add_sub_cancel_left,
      Nat.zero_add, zero_add, add_zero] <;> rfl
end Back

end Cert.SpatialGating

end
-- ==== Proof.SpatialGating.Payload.lean ====
module

public import proofs.«01_k».proof.Proof.SpatialGating.Block

@[expose] public section

noncomputable section

namespace Cert.SpatialGating

open Idealize.ShloMosaic Cert.KernelIdeal Cert.KernelIdeal.Gen

variable (dy u v z : BlockV) (w b : FVec Ideal S1x1024 .f32) (A : Fin 8 → FVec Ideal S128x128 .f32) (B : Fin 8 → FVec Ideal S128x1 .f32)

/-- gelu of the block `u`. -/
abbrev kgel : BlockV := k0_pay24 u (k0_pay21 u) (lit 0x3F800000#32)

/-- The lanes of head `h` of the mixed block's cotangent. -/
def kD : Fin 8 → FVec Ideal S128x128 .f32
  | 0 => k0_pay69 z (kgel u) dy
  | 1 => k0_pay70 z (kgel u) dy
  | 2 => k0_pay71 z (kgel u) dy
  | 3 => k0_pay72 z (kgel u) dy
  | 4 => k0_pay73 z (kgel u) dy
  | 5 => k0_pay74 z (kgel u) dy
  | 6 => k0_pay75 z (kgel u) dy
  | 7 => k0_pay76 z (kgel u) dy

/-- The lower triangle of head `h`'s matrix. -/
def kT : Fin 8 → FVec Ideal S128x128 .f32
  | 0 => k0_pay41 (A 0)
  | 1 => k0_pay44 (A 1)
  | 2 => k0_pay47 (A 2)
  | 3 => k0_pay50 (A 3)
  | 4 => k0_pay53 (A 4)
  | 5 => k0_pay57 (A 5) k0_pay40
  | 6 => k0_pay59 (A 6) k0_pay40
  | 7 => k0_pay61 (A 7) k0_pay40

/-- The lanes of head `h` of the normalised block. -/
def kV : Fin 8 → FVec Ideal S128x128 .f32
  | 0 => k0_pay42 w b (k0_pay33 v) (k0_pay35 v)
  | 1 => k0_pay45 w b (k0_pay33 v) (k0_pay35 v)
  | 2 => k0_pay48 w b (k0_pay33 v) (k0_pay35 v)
  | 3 => k0_pay51 w b (k0_pay33 v) (k0_pay35 v)
  | 4 => k0_pay54 w b (k0_pay33 v) (k0_pay35 v)
  | 5 => k0_pay58 (k0_pay39 w b (k0_pay33 v) (k0_pay35 v))
  | 6 => k0_pay60 (k0_pay39 w b (k0_pay33 v) (k0_pay35 v))
  | 7 => k0_pay62 (k0_pay39 w b (k0_pay33 v) (k0_pay35 v))

theorem kD_apply (h : Fin 8) (t c : Fin 128) :
    (kD dy u z h (ix2 t c) : EReal) = dmix (dy (ix2 t (lane h c))) (u (ix2 t (lane h c))) (z (ix2 t (lane h c))) := by
  have key : ∀ i, k0_pay67 (F := Ideal) z (kgel u) dy i = dmix (dy i) (u i) (z i) := fun i => rfl
  fin_cases h <;>
    (unfold kD; simp only [k0_pay69, k0_pay70, k0_pay71, k0_pay72, k0_pay73, k0_pay74, k0_pay75, k0_pay76]
     generalize k0_pay67 (F := Ideal) z (kgel u) dy = y at key
     pointwise [key]
     first | rfl | simp [lane])

theorem kT_apply (h : Fin 8) (t s : Fin 128) : (kT A h (ix2 t s) : EReal) = tri (fun h t s => A h (ix2 t s)) h t s := by
  fin_cases h <;>
    (unfold kT; simp only [k0_pay41, k0_pay44, k0_pay47, k0_pay50, k0_pay53, k0_pay57, k0_pay59, k0_pay61]
     pointwise [pay40_apply]
     rfl)

theorem kV_apply (h : Fin 8) (s c : Fin 128) :
    (kV v w b h (ix2 s c) : EReal) = lnorm (row v s) (lanes w) (lanes b) (lane h c) := by
  rw [← pay39_apply]
  fin_cases h <;>
    (unfold kV; simp only [k0_pay42, k0_pay45, k0_pay48, k0_pay51, k0_pay54, k0_pay58, k0_pay60, k0_pay62]
     generalize k0_pay39 (F := Ideal) w b (k0_pay33 v) (k0_pay35 v) = y
     pointwise
     first | rfl | simp [lane])

/-- The sum of the padded cotangents of heads 2 to 7. -/
abbrev k92 : BlockV := k0_pay92 (kT A 2) (kT A 3) (kT A 4) (kD dy u z 2) (kD dy u z 3) (kD dy u z 4)
  (k0_pay83 (kT A 5) (kT A 6) (kT A 7) (kD dy u z 5) (kD dy u z 6) (kD dy u z 7))

/-- The cotangent of the mixed block, row by row. -/
abbrev bD (t : Fin 128) (j : Fin 1024) : EReal := dmix (row dy t j) (row u t j) (row z t j)

/-- The heads' matrices as functions of head, row and column. -/
abbrev bW (h : Fin 8) (t s : Fin 128) : EReal := A h (ix2 t s)

/-- The heads' biases as functions of head and row. -/
abbrev bB (h : Fin 8) (t : Fin 128) : EReal := B h (ix2 t 0)

/-- The normalised block, row by row. -/
abbrev bV (s : Fin 128) : Fin 1024 → EReal := lnorm (row v s) (lanes w) (lanes b)

/-- The cotangent of the normalised block, row by row. -/
abbrev bdV : Fin 128 → Fin 1024 → EReal := dmixed (bW A) (bD dy u z)

theorem lane_head (j : Fin 1024) : j = lane (head j) ⟨j.val % 128, by omega⟩ :=
  Fin.ext (by show j.val = 128 * (j.val / 128) + j.val % 128; omega)

theorem kmix_apply' (t : Fin 128) (j : Fin 1024) : (kmix v w b A B (ix2 t j) : EReal) = mixed (bW A) (bB B) (bV v w b) t j := by
  rw [lane_head j, kmix_apply]

theorem dV_apply (s : Fin 128) (j : Fin 1024) :
    k0_pay99 (F := Ideal) (kT A 0) (kT A 1) (kD dy u z 0) (kD dy u z 1) (k92 dy u z A) (ix2 s j) = bdV dy u z A s j := by
  rw [lane_head j, pay99_apply]
  unfold bdV dmixed
  rw [head_lane]
  simp only [kT_apply, kD_apply]

/-- The stored block of `u`'s cotangent. -/
theorem out_du (t : Fin 128) (j : Fin 1024) :
    k0_pay108 (F := Ideal) u (k0_pay20 u) (k0_pay22 u) (k0_pay23 (k0_pay21 u) (lit 0x3F800000#32))
      (k0_pay68 (A 5) (A 6) (A 7) (B 5) (B 6) (B 7) z (k0_pay39 w b (k0_pay33 v) (k0_pay35 v)) k0_pay40
        (k0_pay43 (A 0) (B 0) w b (k0_pay33 v) (k0_pay35 v)) (k0_pay46 (A 1) (B 1) w b (k0_pay33 v) (k0_pay35 v))
        (k0_pay49 (A 2) (B 2) w b (k0_pay33 v) (k0_pay35 v)) (k0_pay52 (A 3) (B 3) w b (k0_pay33 v) (k0_pay35 v))
        (k0_pay55 (A 4) w b (k0_pay33 v) (k0_pay35 v)) (k0_pay56 (B 4)) dy) (ix2 t j)
      = du (row dy t j) (row u t j) (row z t j) (mixed (bW A) (bB B) (bV v w b) t j) := by
  rw [← kmix_apply']
  rfl

/-- The stored block of `z`'s cotangent. -/
theorem out_dz (t : Fin 128) (j : Fin 1024) :
    k0_pay66 (F := Ideal) (A 5) (A 6) (A 7) (B 5) (B 6) (B 7) z (kgel u) (k0_pay39 w b (k0_pay33 v) (k0_pay35 v)) k0_pay40
        (k0_pay43 (A 0) (B 0) w b (k0_pay33 v) (k0_pay35 v)) (k0_pay46 (A 1) (B 1) w b (k0_pay33 v) (k0_pay35 v))
        (k0_pay49 (A 2) (B 2) w b (k0_pay33 v) (k0_pay35 v)) (k0_pay52 (A 3) (B 3) w b (k0_pay33 v) (k0_pay35 v))
        (k0_pay55 (A 4) w b (k0_pay33 v) (k0_pay35 v)) (k0_pay56 (B 4)) dy (ix2 t j)
      = dz (row dy t j) (row u t j) (row z t j) (mixed (bW A) (bB B) (bV v w b) t j) := by
  rw [← kmix_apply']
  rfl

/-- One block's contribution to the cotangent of the layer norm's bias. -/
theorem out_dlnb (q : Fin 1) (j : Fin 1024) :
    k0_pay101 (F := Ideal) (kT A 0) (kT A 1) (kD dy u z 0) (kD dy u z 1) (k92 dy u z A) (ix2 q j) = ∑ s, bdV dy u z A s j := by
  unfold k0_pay101
  pointwise [dV_apply]

/-- One block's contribution to the cotangent of the layer norm's weight. -/
theorem out_dlnw (q : Fin 1) (j : Fin 1024) :
    k0_pay102 (F := Ideal) (k0_pay38 (k0_pay33 v) (k0_pay35 v)) (kT A 0) (kT A 1) (kD dy u z 0) (kD dy u z 1) (k92 dy u z A) (ix2 q j)
      = ∑ s, xhat (row v s) j * bdV dy u z A s j := by
  unfold k0_pay102
  pointwise [dV_apply, pay38_apply]

theorem pay103_apply (s : Fin 128) (j : Fin 1024) :
    k0_pay103 (F := Ideal) w (kT A 0) (kT A 1) (kD dy u z 0) (kD dy u z 1) (k92 dy u z A) (ix2 s j)
      = dxh (lanes w) (bdV dy u z A s) j := by
  unfold k0_pay103
  pointwise [dV_apply]
  rfl

theorem pay104_apply (s : Fin 128) (j : Fin 1024) :
    k0_pay104 (F := Ideal) w (k0_pay35 v) (kT A 0) (kT A 1) (kD dy u z 0) (kD dy u z 1) (k92 dy u z A) (ix2 s j)
      = dcen (row v s) (lanes w) (bdV dy u z A s) j := by
  unfold k0_pay104
  pointwise [pay103_apply, pay35_apply]
  rfl

theorem pay105_apply (s : Fin 128) (q : Fin 1) :
    k0_pay105 (F := Ideal) w (k0_pay35 v) (kT A 0) (kT A 1) (kD dy u z 0) (kD dy u z 1) (k92 dy u z A) (ix2 s q)
      = ∑ j, -dcen (row v s) (lanes w) (bdV dy u z A s) j := by
  unfold k0_pay105
  pointwise [pay104_apply]
  simp only [zero_sub]

theorem pay106_apply (s : Fin 128) :
    k0_pay106 (F := Ideal) w (k0_pay33 v) (k0_pay37 (k0_pay36 v) (lit 0xBF000000#32)) (kT A 0) (kT A 1) (kD dy u z 0) (kD dy u z 1) (k92 dy u z A) (ix1 s)
      = dvar (row v s) (lanes w) (bdV dy u z A s) := by
  unfold k0_pay106 k0_pay37
  pointwise [pay103_apply, pay33_apply, pay36_apply]
  simp only [Fin.sum_univ_one]
  rfl

/-- The stored block of `v`'s cotangent. -/
theorem out_dv (s : Fin 128) (j : Fin 1024) :
    k0_pay107 (F := Ideal) v (k0_pay25 v) (k0_pay27 v) (k0_pay28 v) (k0_pay32 v)
      (k0_pay104 w (k0_pay35 v) (kT A 0) (kT A 1) (kD dy u z 0) (kD dy u z 1) (k92 dy u z A))
      (k0_pay105 w (k0_pay35 v) (kT A 0) (kT A 1) (kD dy u z 0) (kD dy u z 1) (k92 dy u z A))
      (k0_pay106 w (k0_pay33 v) (k0_pay37 (k0_pay36 v) (lit 0xBF000000#32)) (kT A 0) (kT A 1) (kD dy u z 0) (kD dy u z 1) (k92 dy u z A)) (ix2 s j)
      = dvrow (row v s) (lanes w) (bdV dy u z A s) j := by
  have h32 : ∀ s j, k0_pay32 (F := Ideal) v (ix2 s j) = lit 0x40000000#32 * cen (row v s) j := fun s j => by
    unfold k0_pay32; pointwise [pay31_apply]
  have h106 := pay106_apply dy u v z w A
  have h105 := pay105_apply dy u v z w A
  have h104 := pay104_apply dy u v z w A
  generalize k0_pay106 (F := Ideal) w (k0_pay33 v) (k0_pay37 (k0_pay36 v) (lit 0xBF000000#32)) (kT A 0) (kT A 1) (kD dy u z 0) (kD dy u z 1) (k92 dy u z A) = y106 at *
  generalize k0_pay105 (F := Ideal) w (k0_pay35 v) (kT A 0) (kT A 1) (kD dy u z 0) (kD dy u z 1) (k92 dy u z A) = y105 at *
  generalize k0_pay104 (F := Ideal) w (k0_pay35 v) (kT A 0) (kT A 1) (kD dy u z 0) (kD dy u z 1) (k92 dy u z A) = y104 at *
  unfold k0_pay107
  pointwise [h104, h105, h106, h32]
  simp only [zero_sub, Fin.sum_univ_one]
  rfl

/-- The lower triangle of one block's contribution to the cotangent of head `h`'s matrix. -/
def kdW : Fin 8 → FVec Ideal S128x128 .f32
  | 0 => k0_pay100 k0_pay40 (kV v w b 0) (kD dy u z 0)
  | 1 => k0_pay97 k0_pay40 (k0_pay95 (kD dy u z 1)) (k0_pay96 (kV v w b 1))
  | 2 => k0_pay93 k0_pay40 (kV v w b 2) (kD dy u z 2)
  | 3 => k0_pay90 k0_pay40 (kV v w b 3) (kD dy u z 3)
  | 4 => k0_pay88 k0_pay40 (k0_pay86 (kD dy u z 4)) (k0_pay87 (kV v w b 4))
  | 5 => k0_pay84 k0_pay40 (kV v w b 5) (kD dy u z 5)
  | 6 => k0_pay81 k0_pay40 (kV v w b 6) (kD dy u z 6)
  | 7 => k0_pay79 k0_pay40 (kV v w b 7) (kD dy u z 7)

theorem kdW_apply (h : Fin 8) (t s : Fin 128) : (kdW dy u v z w b h (ix2 t s) : EReal) =
    if s ≤ t then dweight (bD dy u z) (bV v w b) h t s else 0 := by
  unfold dweight
  simp only [← kV_apply, ← kD_apply]
  fin_cases h <;>
    (unfold kdW; simp only [k0_pay100, k0_pay97, k0_pay93, k0_pay90, k0_pay88, k0_pay84, k0_pay81, k0_pay79, k0_pay95, k0_pay96, k0_pay86, k0_pay87]
     pointwise [pay40_apply]
     try rfl)

/-- One block's contribution to the cotangent of head `h`'s bias. -/
def kdB : Fin 8 → FVec Ideal S128x1 .f32
  | 0 => k0_pay98 (kD dy u z 0)
  | 1 => k0_pay94 (kD dy u z 1)
  | 2 => k0_pay91 (kD dy u z 2)
  | 3 => k0_pay89 (kD dy u z 3)
  | 4 => k0_pay85 (kD dy u z 4)
  | 5 => k0_pay82 (kD dy u z 5)
  | 6 => k0_pay80 (kD dy u z 6)
  | 7 => k0_pay78 (k0_pay77 z (kgel u) dy)

theorem kdB_apply (h : Fin 8) (t : Fin 128) (q : Fin 1) : (kdB dy u z h (ix2 t q) : EReal) = dbias (bD dy u z) h t := by
  unfold dbias
  simp only [← kD_apply]
  fin_cases h <;>
    (unfold kdB; simp only [k0_pay98, k0_pay94, k0_pay91, k0_pay89, k0_pay85, k0_pay82, k0_pay80, k0_pay78, k0_pay77]
     pointwise
     try rfl)

end Cert.SpatialGating

end
-- ==== Proof.SpatialGating.Stage.lean ====
module

public import proofs.«01_k».proof.Proof.SpatialGating.Payload
public import proofs.«01_k».proof.Proof.Gen.KernelIdeal.Frame
public import Idealize.ShloMosaic.Lib.Pipeline.Value
public import Idealize.ShloMosaic.Lib.Tactic

@[expose] public section

noncomputable section

namespace Cert.SpatialGating

open Idealize.ShloMosaic Idealize.ShloMosaic.TcCoe Cert.KernelIdeal Cert.KernelIdeal.Gen

variable (m : (ℓ : Loc nD τ sig) → Buf (Elt Ideal) ℓ) (c : Dev nD) (t : Fin cfg0.N)

theorem hz : (![0, 0] : Fin 2 → Nat) = fun _ => 0 := funext fun a => by fin_cases a <;> rfl

/-- Head `h` of the mixing matrices. -/
def heads (x : FVec Ideal S8x128x128 .f32) (h : Fin 8) : FVec Ideal S128x128 .f32 := fun i => x (ix3 h (i 0) (i 1))

/-- Head `h` of the biases. -/
def biases (x : FVec Ideal S8x128x1 .f32) (h : Fin 8) : FVec Ideal S128x1 .f32 := fun i => x (ix3 h (i 0) (i 1))

theorem ld_heads_apply (x : FVec Ideal S8x128x128 .f32) (k : Nat) (hk : k < 8) (h) (h') (a b : Fin 128) :
    shapeCast (α := Ideal .f32) (s := S1x128x128) S128x128 (View.ld (Val := Elt Ideal) (e' := .f32) x (Rect.unit (s := S8x128x128) ![k, 0, 0] ![1, 128, 128] h)) h' (ix2 a b) = x (ix3 ⟨k, hk⟩ a b) := by
  have key : ∀ y : FVec Ideal S1x128x128 .f32, shapeCast S128x128 y h' (ix2 a b) = y (ix3 0 a b) := fun y => by pointwise
  refine (key _).trans (congrArg x (funext fun q => Fin.ext ?_))
  match q with
  | ⟨0, _⟩ => show k + 1 * 0 = k; omega
  | ⟨1, _⟩ => show 0 + 1 * a.val = a.val; omega
  | ⟨2, _⟩ => show 0 + 1 * b.val = b.val; omega

theorem ld_heads (x : FVec Ideal S8x128x128 .f32) (k : Nat) (hk : k < 8) (h) (h') :
    shapeCast (α := Ideal .f32) (s := S1x128x128) S128x128 (View.ld (Val := Elt Ideal) (e' := .f32) x (Rect.unit (s := S8x128x128) ![k, 0, 0] ![1, 128, 128] h)) h' = heads x ⟨k, hk⟩ :=
  funext fun i => by
    obtain ⟨a, b, rfl⟩ : ∃ a b, i = ix2 a b := ⟨i 0, i 1, eq_ix2 i⟩
    exact ld_heads_apply x k hk h h' a b

theorem ld_biases_apply (x : FVec Ideal S8x128x1 .f32) (k : Nat) (hk : k < 8) (h) (h') (a : Fin 128) (b : Fin 1) :
    shapeCast (α := Ideal .f32) (s := S1x128x1) S128x1 (View.ld (Val := Elt Ideal) (e' := .f32) x (Rect.unit (s := S8x128x1) ![k, 0, 0] ![1, 128, 1] h)) h' (ix2 a b) = x (ix3 ⟨k, hk⟩ a b) := by
  rw [Subsingleton.elim b 0]
  pointwise

theorem ld_biases (x : FVec Ideal S8x128x1 .f32) (k : Nat) (hk : k < 8) (h) (h') :
    shapeCast (α := Ideal .f32) (s := S1x128x1) S128x1 (View.ld (Val := Elt Ideal) (e' := .f32) x (Rect.unit (s := S8x128x1) ![k, 0, 0] ![1, 128, 1] h)) h' = biases x ⟨k, hk⟩ :=
  funext fun i => by
    obtain ⟨a, b, rfl⟩ : ∃ a b, i = ix2 a b := ⟨i 0, i 1, eq_ix2 i⟩
    exact ld_biases_apply x k hk h h' a b

theorem zero_word : (Ideal.ofBits .f32 0x00000000#32 : EReal) = 0 :=
  Ideal.ofBits_zero_f32

theorem hz3 : (![0, 0, 0] : Fin 3 → Nat) = fun _ => 0 := funext fun a => by fin_cases a <;> rfl

theorem canon_hit {k : Nat} (h : Fin 8) (hk : h.val = k) (inb) (w : (⟨3, ![1, 128, 128]⟩ : Shape).Idx → Elt Ideal .f32) (L : List (View.Piece (Elt Ideal) S8x128x128 .f32))
    (r : Fin 128) (j : Fin 128) :
    View.canon ((⟨Rect.unit (s := S8x128x128) ![k, 0, 0] ![1, 128, 128] inb, w⟩ : View.Piece (Elt Ideal) S8x128x128 .f32) :: L) (ix3 h r j) = w (ix3 0 r j) := by
  subst hk
  have e : (Rect.unit (s := S8x128x128) ![h.val, 0, 0] ![1, 128, 128] inb).emb (ix3 0 r j) = ix3 h r j := funext fun q => Fin.ext (by
    match q with
    | ⟨0, _⟩ => show h.val + 1 * 0 = h.val; omega
    | ⟨1, _⟩ => show 0 + 1 * r.val = r.val; omega
    | ⟨2, _⟩ => show 0 + 1 * j.val = j.val; omega)
  rw [← e]
  exact View.canon_cons_emb (Rect.unit (s := S8x128x128) ![h.val, 0, 0] ![1, 128, 128] inb) w L _

theorem canon_miss {k : Nat} (h : Fin 8) (hk : h.val ≠ k) (inb) (w : (⟨3, ![1, 128, 128]⟩ : Shape).Idx → Elt Ideal .f32) (L : List (View.Piece (Elt Ideal) S8x128x128 .f32))
    (r : Fin 128) (j : Fin 128) :
    View.canon ((⟨Rect.unit (s := S8x128x128) ![k, 0, 0] ![1, 128, 128] inb, w⟩ : View.Piece (Elt Ideal) S8x128x128 .f32) :: L) (ix3 h r j) = View.canon L (ix3 h r j) := by
  refine View.canon_cons_of_not_mem _ L fun hm => hk ?_
  have := (Rect.mem_set_unit (s := S8x128x128) (off := ![k, 0, 0]) (size := ![1, 128, 128]) (inb := inb)).mp hm 0
  have h1 : k ≤ h.val := this.1
  have h2 : h.val < k + 1 := this.2
  omega

theorem readCov_head {sg : RefSig} {κ : Kind} {sp : Space} (v : View sg κ sp S8x128x128 .f32) {k : Nat} (hk : k < 8) (inb) (L : List (View.Piece (Elt Ideal) S8x128x128 .f32)) (r : Fin 128) (j : Fin 128) :
    v.readCov L (Rect.unit (s := S8x128x128) ![k, 0, 0] ![1, 128, 128] inb).toLoadRect (ix3 0 r j) = View.canon L (ix3 ⟨k, hk⟩ r j) := by
  rw [View.readCov_eq_canon']
  exact congrArg (View.canon L) (funext fun q => Fin.ext (by
    match q with
    | ⟨0, _⟩ => show k + 1 * 0 = k; omega
    | ⟨1, _⟩ => show 0 + 1 * r.val = r.val; omega
    | ⟨2, _⟩ => show 0 + 1 * j.val = j.val; omega))

theorem ld_head (x : S8x128x128.Idx → Elt Ideal .f32) {k : Nat} (hk : k < 8) (inb) (r : Fin 128) (j : Fin 128) :
    View.ld (Val := Elt Ideal) (e' := .f32) x (Rect.unit (s := S8x128x128) ![k, 0, 0] ![1, 128, 128] inb) (ix3 0 r j) = x (ix3 ⟨k, hk⟩ r j) :=
  congrArg x (funext fun q => Fin.ext (by
    match q with
    | ⟨0, _⟩ => show k + 1 * 0 = k; omega
    | ⟨1, _⟩ => show 0 + 1 * r.val = r.val; omega
    | ⟨2, _⟩ => show 0 + 1 * j.val = j.val; omega))

theorem canon_hit' {k : Nat} (h : Fin 8) (hk : h.val = k) (inb) (w : (⟨3, ![1, 128, 1]⟩ : Shape).Idx → Elt Ideal .f32) (L : List (View.Piece (Elt Ideal) S8x128x1 .f32))
    (r : Fin 128) (j : Fin 1) :
    View.canon ((⟨Rect.unit (s := S8x128x1) ![k, 0, 0] ![1, 128, 1] inb, w⟩ : View.Piece (Elt Ideal) S8x128x1 .f32) :: L) (ix3 h r j) = w (ix3 0 r j) := by
  subst hk
  have e : (Rect.unit (s := S8x128x1) ![h.val, 0, 0] ![1, 128, 1] inb).emb (ix3 0 r j) = ix3 h r j := funext fun q => Fin.ext (by
    match q with
    | ⟨0, _⟩ => show h.val + 1 * 0 = h.val; omega
    | ⟨1, _⟩ => show 0 + 1 * r.val = r.val; omega
    | ⟨2, _⟩ => show 0 + 1 * j.val = j.val; omega)
  rw [← e]
  exact View.canon_cons_emb (Rect.unit (s := S8x128x1) ![h.val, 0, 0] ![1, 128, 1] inb) w L _

theorem canon_miss' {k : Nat} (h : Fin 8) (hk : h.val ≠ k) (inb) (w : (⟨3, ![1, 128, 1]⟩ : Shape).Idx → Elt Ideal .f32) (L : List (View.Piece (Elt Ideal) S8x128x1 .f32))
    (r : Fin 128) (j : Fin 1) :
    View.canon ((⟨Rect.unit (s := S8x128x1) ![k, 0, 0] ![1, 128, 1] inb, w⟩ : View.Piece (Elt Ideal) S8x128x1 .f32) :: L) (ix3 h r j) = View.canon L (ix3 h r j) := by
  refine View.canon_cons_of_not_mem _ L fun hm => hk ?_
  have := (Rect.mem_set_unit (s := S8x128x1) (off := ![k, 0, 0]) (size := ![1, 128, 1]) (inb := inb)).mp hm 0
  have h1 : k ≤ h.val := this.1
  have h2 : h.val < k + 1 := this.2
  omega

theorem readCov_head' {sg : RefSig} {κ : Kind} {sp : Space} (v : View sg κ sp S8x128x1 .f32) {k : Nat} (hk : k < 8) (inb) (L : List (View.Piece (Elt Ideal) S8x128x1 .f32)) (r : Fin 128) (j : Fin 1) :
    v.readCov L (Rect.unit (s := S8x128x1) ![k, 0, 0] ![1, 128, 1] inb).toLoadRect (ix3 0 r j) = View.canon L (ix3 ⟨k, hk⟩ r j) := by
  rw [View.readCov_eq_canon']
  exact congrArg (View.canon L) (funext fun q => Fin.ext (by
    match q with
    | ⟨0, _⟩ => show k + 1 * 0 = k; omega
    | ⟨1, _⟩ => show 0 + 1 * r.val = r.val; omega
    | ⟨2, _⟩ => show 0 + 1 * j.val = j.val; omega))

theorem ld_head' (x : S8x128x1.Idx → Elt Ideal .f32) {k : Nat} (hk : k < 8) (inb) (r : Fin 128) (j : Fin 1) :
    View.ld (Val := Elt Ideal) (e' := .f32) x (Rect.unit (s := S8x128x1) ![k, 0, 0] ![1, 128, 1] inb) (ix3 0 r j) = x (ix3 ⟨k, hk⟩ r j) :=
  congrArg x (funext fun q => Fin.ext (by
    match q with
    | ⟨0, _⟩ => show k + 1 * 0 = k; omega
    | ⟨1, _⟩ => show 0 + 1 * r.val = r.val; omega
    | ⟨2, _⟩ => show 0 + 1 * j.val = j.val; omega))

theorem stored_head (d : FVec Ideal S128x128 .f32) (y : FVec Ideal S1x128x128 .f32) (r j : Fin 128) :
    k0_pay115 (F := Ideal) d y (ix3 0 r j) = y (ix3 0 r j) + d (ix2 r j) := by
  unfold k0_pay115
  pointwise

theorem stored_head' (d : FVec Ideal S128x1 .f32) (y : FVec Ideal S1x128x1 .f32) (r : Fin 128) :
    k0_pay116 (F := Ideal) d y (ix3 0 r 0) = y (ix3 0 r 0) + d (ix2 r 0) := by
  unfold k0_pay116
  pointwise

/-- The point's block of the incoming cotangent. -/
abbrev pdy : BlockV := iblk m c 0 t
/-- The point's block of `u`. -/
abbrev pu : BlockV := X0_1 m c t
/-- The point's block of `v`. -/
abbrev pv : BlockV := X0_2 m c t
/-- The point's block of `z`. -/
abbrev pz : BlockV := X0_3 m c t
/-- The layer norm's weight. -/
abbrev pw : FVec Ideal S1x1024 .f32 := k0_pay18 (iblk m c 4 t)
/-- The layer norm's bias. -/
abbrev pb : FVec Ideal S1x1024 .f32 := k0_pay19 (iblk m c 5 t)
/-- The mixing matrices. -/
abbrev pA : Fin 8 → FVec Ideal S128x128 .f32 := heads (iblk m c 6 t)
/-- The biases. -/
abbrev pB : Fin 8 → FVec Ideal S128x1 .f32 := biases (iblk m c 7 t)

set_option maxHeartbeats 1000000 in
/-- After point `t` the first output's buffer holds the gradient of `u` for the point's chunk. -/
theorem stage_du (r : Fin 128) (j : Fin 1024) : (outsAt0 m c t.val t.isLt).1 (ix2 r j) = du (row (pdy m c t) r j) (row (pu m c t) r j) (row (pz m c t) r j) (mixed (bW (pA m c t)) (bB (pB m c t)) (bV (pv m c t) (pw m c t) (pb m c t)) r j) := by
  by_cases h0 : t.val % 16 = 0
  · rw [outsAt0_A m c t h0]
    dsimp only
    unfold out0_A_8
    rw [View.read_writes_eq_canon _ _ _ (fun y => cover0_A_8 (y := y) ..)]
    unfold kernelRun0_A
    dsimp only
    sl_unfold_words
    rw [View.canon_unit_zero hz]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread,
      View.ld_unit_zero (S := S128x1024) hz, View.ld_unit_zero (S := S1x1024) hz, k0_pay13, k0_pay14, k0_pay15, k0_pay16, k0_pay17,
      ld_heads, ld_biases, Nat.reduceLT]
    exact out_du (pdy m c t) (pu m c t) (pv m c t) (pz m c t) (pw m c t) (pb m c t) (pA m c t) (pB m c t) r j
  · rw [outsAt0_B m c t h0]
    dsimp only
    unfold out0_B_8
    rw [View.read_writes_eq_canon _ _ _ (fun y => cover0_B_8 (y := y) ..)]
    unfold kernelRun0_B
    dsimp only
    sl_unfold_words
    rw [View.canon_unit_zero hz]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread,
      View.ld_unit_zero (S := S128x1024) hz, View.ld_unit_zero (S := S1x1024) hz, k0_pay13, k0_pay14, k0_pay15, k0_pay16, k0_pay17,
      ld_heads, ld_biases, Nat.reduceLT]
    exact out_du (pdy m c t) (pu m c t) (pv m c t) (pz m c t) (pw m c t) (pb m c t) (pA m c t) (pB m c t) r j

set_option maxHeartbeats 1000000 in
/-- After point `t` the second output's buffer holds the gradient of `v` for the point's chunk. -/
theorem stage_dv (r : Fin 128) (j : Fin 1024) : (outsAt0 m c t.val t.isLt).2.1 (ix2 r j) = dvrow (row (pv m c t) r) (lanes (pw m c t)) (bdV (pdy m c t) (pu m c t) (pz m c t) (pA m c t) r) j := by
  by_cases h0 : t.val % 16 = 0
  · rw [outsAt0_A m c t h0]
    dsimp only
    unfold out0_A_9
    rw [View.read_writes_eq_canon _ _ _ (fun y => cover0_A_9 (y := y) ..)]
    unfold kernelRun0_A
    dsimp only
    sl_unfold_words
    rw [View.canon_unit_zero hz]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread,
      View.ld_unit_zero (S := S128x1024) hz, View.ld_unit_zero (S := S1x1024) hz, k0_pay13, k0_pay14, k0_pay15, k0_pay16, k0_pay17,
      ld_heads, ld_biases, Nat.reduceLT]
    exact out_dv (pdy m c t) (pu m c t) (pv m c t) (pz m c t) (pw m c t) (pA m c t) r j
  · rw [outsAt0_B m c t h0]
    dsimp only
    unfold out0_B_9
    rw [View.read_writes_eq_canon _ _ _ (fun y => cover0_B_9 (y := y) ..)]
    unfold kernelRun0_B
    dsimp only
    sl_unfold_words
    rw [View.canon_unit_zero hz]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread,
      View.ld_unit_zero (S := S128x1024) hz, View.ld_unit_zero (S := S1x1024) hz, k0_pay13, k0_pay14, k0_pay15, k0_pay16, k0_pay17,
      ld_heads, ld_biases, Nat.reduceLT]
    exact out_dv (pdy m c t) (pu m c t) (pv m c t) (pz m c t) (pw m c t) (pA m c t) r j

set_option maxHeartbeats 1000000 in
/-- After point `t` the third output's buffer holds the gradient of `z` for the point's chunk. -/
theorem stage_dz (r : Fin 128) (j : Fin 1024) : (outsAt0 m c t.val t.isLt).2.2.1 (ix2 r j) = dz (row (pdy m c t) r j) (row (pu m c t) r j) (row (pz m c t) r j) (mixed (bW (pA m c t)) (bB (pB m c t)) (bV (pv m c t) (pw m c t) (pb m c t)) r j) := by
  by_cases h0 : t.val % 16 = 0
  · rw [outsAt0_A m c t h0]
    dsimp only
    unfold out0_A_10
    rw [View.read_writes_eq_canon _ _ _ (fun y => cover0_A_10 (y := y) ..)]
    unfold kernelRun0_A
    dsimp only
    sl_unfold_words
    rw [View.canon_unit_zero hz]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread,
      View.ld_unit_zero (S := S128x1024) hz, View.ld_unit_zero (S := S1x1024) hz, k0_pay13, k0_pay14, k0_pay15, k0_pay16, k0_pay17,
      ld_heads, ld_biases, Nat.reduceLT]
    exact out_dz (pdy m c t) (pu m c t) (pv m c t) (pz m c t) (pw m c t) (pb m c t) (pA m c t) (pB m c t) r j
  · rw [outsAt0_B m c t h0]
    dsimp only
    unfold out0_B_10
    rw [View.read_writes_eq_canon _ _ _ (fun y => cover0_B_10 (y := y) ..)]
    unfold kernelRun0_B
    dsimp only
    sl_unfold_words
    rw [View.canon_unit_zero hz]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread,
      View.ld_unit_zero (S := S128x1024) hz, View.ld_unit_zero (S := S1x1024) hz, k0_pay13, k0_pay14, k0_pay15, k0_pay16, k0_pay17,
      ld_heads, ld_biases, Nat.reduceLT]
    exact out_dz (pdy m c t) (pu m c t) (pv m c t) (pz m c t) (pw m c t) (pb m c t) (pA m c t) (pB m c t) r j

/-- One point's share of the gradient of the layer norm's weight. -/
def add_dlnw (q : Fin 1) (j : Fin 1024) : EReal := ∑ s, xhat (row (pv m c t) s) j * bdV (pdy m c t) (pu m c t) (pz m c t) (pA m c t) s j

set_option maxHeartbeats 1000000 in
/-- The first point starts the sum over the chunks at zero: the gradient of the layer norm's weight. -/
theorem stage_dlnw_first (h0 : t.val % 16 = 0) (q : Fin 1) (j : Fin 1024) :
    (outsAt0 m c t.val t.isLt).2.2.2.1 (ix2 q j) = 0 + add_dlnw m c t q j := by
  rw [outsAt0_A m c t h0]
  dsimp only
  unfold out0_A_11
  rw [View.read_writes_eq_canon _ _ _ (fun y => cover0_A_11 (y := y) ..)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    View.ld_unit_zero (S := S128x1024) hz, View.ld_unit_zero (S := S1x1024) hz, k0_pay13, k0_pay14, k0_pay15, k0_pay16, k0_pay17,
    ld_heads, ld_biases, Nat.reduceLT]
  unfold k0_pay113
  rw [shapeCast_self]
  refine (congrArg (Ideal.ofBits .f32 0x00000000#32 + ·) (out_dlnw (pdy m c t) (pu m c t) (pv m c t) (pz m c t) (pA m c t) q j)).trans ?_
  rw [zero_word]
  rfl

set_option maxHeartbeats 1000000 in
/-- A later point adds its share to the sum: the gradient of the layer norm's weight. -/
theorem stage_dlnw_next (h0 : ¬t.val % 16 = 0) (q : Fin 1) (j : Fin 1024) :
    (outsAt0 m c t.val t.isLt).2.2.2.1 (ix2 q j) = (outsAt0 m c (t.val - 1) (by have := t.isLt; omega)).2.2.2.1 (ix2 q j) + add_dlnw m c t q j := by
  rw [outsAt0_B m c t h0]
  dsimp only
  unfold out0_B_11
  rw [View.read_writes_eq_canon _ _ _ (fun y => cover0_B_11 (y := y) ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_11 t).read_unread,
    View.ld_unit_zero (S := S128x1024) hz, View.ld_unit_zero (S := S1x1024) hz, k0_pay13, k0_pay14, k0_pay15, k0_pay16, k0_pay17,
    ld_heads, ld_biases, Nat.reduceLT]
  unfold k0_pay113
  rw [shapeCast_self]
  exact congrArg ((outsAt0 m c (t.val - 1) (by have := t.isLt; omega)).2.2.2.1 (ix2 q j) + ·) (out_dlnw (pdy m c t) (pu m c t) (pv m c t) (pz m c t) (pA m c t) q j)

/-- One point's share of the gradient of the layer norm's bias. -/
def add_dlnb (q : Fin 1) (j : Fin 1024) : EReal := ∑ s, bdV (pdy m c t) (pu m c t) (pz m c t) (pA m c t) s j

set_option maxHeartbeats 1000000 in
/-- The first point starts the sum over the chunks at zero: the gradient of the layer norm's bias. -/
theorem stage_dlnb_first (h0 : t.val % 16 = 0) (q : Fin 1) (j : Fin 1024) :
    (outsAt0 m c t.val t.isLt).2.2.2.2.1 (ix2 q j) = 0 + add_dlnb m c t q j := by
  rw [outsAt0_A m c t h0]
  dsimp only
  unfold out0_A_12
  rw [View.read_writes_eq_canon _ _ _ (fun y => cover0_A_12 (y := y) ..)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    View.ld_unit_zero (S := S128x1024) hz, View.ld_unit_zero (S := S1x1024) hz, k0_pay13, k0_pay14, k0_pay15, k0_pay16, k0_pay17,
    ld_heads, ld_biases, Nat.reduceLT]
  unfold k0_pay114
  rw [shapeCast_self]
  refine (congrArg (Ideal.ofBits .f32 0x00000000#32 + ·) (out_dlnb (pdy m c t) (pu m c t) (pz m c t) (pA m c t) q j)).trans ?_
  rw [zero_word]
  rfl

set_option maxHeartbeats 1000000 in
/-- A later point adds its share to the sum: the gradient of the layer norm's bias. -/
theorem stage_dlnb_next (h0 : ¬t.val % 16 = 0) (q : Fin 1) (j : Fin 1024) :
    (outsAt0 m c t.val t.isLt).2.2.2.2.1 (ix2 q j) = (outsAt0 m c (t.val - 1) (by have := t.isLt; omega)).2.2.2.2.1 (ix2 q j) + add_dlnb m c t q j := by
  rw [outsAt0_B m c t h0]
  dsimp only
  unfold out0_B_12
  rw [View.read_writes_eq_canon _ _ _ (fun y => cover0_B_12 (y := y) ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_12 t).read_unread,
    View.ld_unit_zero (S := S128x1024) hz, View.ld_unit_zero (S := S1x1024) hz, k0_pay13, k0_pay14, k0_pay15, k0_pay16, k0_pay17,
    ld_heads, ld_biases, Nat.reduceLT]
  unfold k0_pay114
  rw [shapeCast_self]
  exact congrArg ((outsAt0 m c (t.val - 1) (by have := t.isLt; omega)).2.2.2.2.1 (ix2 q j) + ·) (out_dlnb (pdy m c t) (pu m c t) (pz m c t) (pA m c t) q j)

/-- One point's share of the gradient of the mixing matrices. -/
def add_dw (h : Fin 8) (r j : Fin 128) : EReal := if j ≤ r then dweight (bD (pdy m c t) (pu m c t) (pz m c t)) (bV (pv m c t) (pw m c t) (pb m c t)) h r j else 0

set_option maxHeartbeats 1000000 in
/-- The first point starts the sum over the chunks at zero: the gradient of the mixing matrices. -/
theorem stage_dw_first (h0 : t.val % 16 = 0) (h : Fin 8) (r j : Fin 128) :
    (outsAt0 m c t.val t.isLt).2.2.2.2.2.1 (ix3 h r j) = 0 + add_dw m c t h r j := by
  rw [outsAt0_A m c t h0]
  dsimp only
  unfold out0_A_13
  rw [View.read_writes_eq_canon _ _ _ (fun y => cover0_A_13 (y := y) ..)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    View.ld_unit_zero (S := S128x1024) hz, View.ld_unit_zero (S := S1x1024) hz, k0_pay13, k0_pay14, k0_pay15, k0_pay16, k0_pay17,
    ld_heads, ld_biases, Nat.reduceLT]
  have key := kdW_apply (pdy m c t) (pu m c t) (pv m c t) (pz m c t) (pw m c t) (pb m c t) h r j
  fin_cases h <;> (
    repeat refine (canon_miss _ (by decide) _ _ _ _ _).trans ?_
    refine (canon_hit _ (by rfl) _ _ _ _ _).trans ?_
    refine (stored_head _ _ r j).trans (congrArg₂ (· + ·) ?_ ?_)
    · refine (readCov_head _ (by decide) _ _ _ _).trans ?_
      repeat with_reducible refine (canon_miss _ (by decide) _ _ _ _ _).trans ?_
      rw [View.canon_unit_zero hz3]
      exact zero_word
    · exact key)

set_option maxHeartbeats 1000000 in
/-- A later point adds its share to the sum: the gradient of the mixing matrices. -/
theorem stage_dw_next (h0 : ¬t.val % 16 = 0) (h : Fin 8) (r j : Fin 128) :
    (outsAt0 m c t.val t.isLt).2.2.2.2.2.1 (ix3 h r j) = (outsAt0 m c (t.val - 1) (by have := t.isLt; omega)).2.2.2.2.2.1 (ix3 h r j) + add_dw m c t h r j := by
  rw [outsAt0_B m c t h0]
  dsimp only
  unfold out0_B_13
  rw [View.read_writes_eq_canon _ _ _ (fun y => cover0_B_13 (y := y) ..)]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_13 t).read_unread,
    View.ld_unit_zero (S := S128x1024) hz, View.ld_unit_zero (S := S1x1024) hz, k0_pay13, k0_pay14, k0_pay15, k0_pay16, k0_pay17,
    ld_heads, ld_biases, Nat.reduceLT]
  have key := kdW_apply (pdy m c t) (pu m c t) (pv m c t) (pz m c t) (pw m c t) (pb m c t) h r j
  fin_cases h <;> (
    repeat refine (canon_miss _ (by decide) _ _ _ _ _).trans ?_
    refine (canon_hit _ (by rfl) _ _ _ _ _).trans ?_
    refine (stored_head _ _ r j).trans (congrArg₂ (· + ·) ?_ ?_)
    · exact ld_head _ (by decide) _ _ _
    · exact key)

/-- One point's share of the gradient of the mixing biases. -/
def add_db (h : Fin 8) (r : Fin 128) (q : Fin 1) : EReal := dbias (bD (pdy m c t) (pu m c t) (pz m c t)) h r

set_option maxHeartbeats 1000000 in
/-- The first point starts the sum over the chunks at zero: the gradient of the mixing biases. -/
theorem stage_db_first (h0 : t.val % 16 = 0) (h : Fin 8) (r : Fin 128) (q : Fin 1) :
    (outsAt0 m c t.val t.isLt).2.2.2.2.2.2 (ix3 h r q) = 0 + add_db m c t h r q := by
  rw [outsAt0_A m c t h0]
  dsimp only
  unfold out0_A_14
  rw [View.read_writes_eq_canon _ _ _ (fun y => cover0_A_14 (y := y) ..)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    View.ld_unit_zero (S := S128x1024) hz, View.ld_unit_zero (S := S1x1024) hz, k0_pay13, k0_pay14, k0_pay15, k0_pay16, k0_pay17,
    ld_heads, ld_biases, Nat.reduceLT]
  obtain rfl : q = 0 := Subsingleton.elim _ _
  have key := kdB_apply (pdy m c t) (pu m c t) (pz m c t) h r 0
  fin_cases h <;> (
    repeat refine (canon_miss' _ (by decide) _ _ _ _ _).trans ?_
    refine (canon_hit' _ (by rfl) _ _ _ _ _).trans ?_
    refine (stored_head' _ _ r).trans (congrArg₂ (· + ·) ?_ ?_)
    · refine (readCov_head' _ (by decide) _ _ _ _).trans ?_
      repeat with_reducible refine (canon_miss' _ (by decide) _ _ _ _ _).trans ?_
      rw [View.canon_unit_zero hz3]
      exact zero_word
    · exact key)

set_option maxHeartbeats 1000000 in
/-- A later point adds its share to the sum: the gradient of the mixing biases. -/
theorem stage_db_next (h0 : ¬t.val % 16 = 0) (h : Fin 8) (r : Fin 128) (q : Fin 1) :
    (outsAt0 m c t.val t.isLt).2.2.2.2.2.2 (ix3 h r q) = (outsAt0 m c (t.val - 1) (by have := t.isLt; omega)).2.2.2.2.2.2 (ix3 h r q) + add_db m c t h r q := by
  rw [outsAt0_B m c t h0]
  dsimp only
  unfold out0_B_14
  rw [View.read_writes_eq_canon _ _ _ (fun y => cover0_B_14 (y := y) ..)]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_14 t).read_unread,
    View.ld_unit_zero (S := S128x1024) hz, View.ld_unit_zero (S := S1x1024) hz, k0_pay13, k0_pay14, k0_pay15, k0_pay16, k0_pay17,
    ld_heads, ld_biases, Nat.reduceLT]
  obtain rfl : q = 0 := Subsingleton.elim _ _
  have key := kdB_apply (pdy m c t) (pu m c t) (pz m c t) h r 0
  fin_cases h <;> (
    repeat refine (canon_miss' _ (by decide) _ _ _ _ _).trans ?_
    refine (canon_hit' _ (by rfl) _ _ _ _ _).trans ?_
    refine (stored_head' _ _ r).trans (congrArg₂ (· + ·) ?_ ?_)
    · exact ld_head' _ (by decide) _ _ _
    · exact key)

end Cert.SpatialGating

end
-- ==== Proof.SpatialGating.Whole.lean ====
/- The seven gradients of the spatial gating as functions of whole arrays: 2048 rows in 16 chunks of 128. The three
   gradients with one entry per row are read chunk by chunk, the four parameter gradients are sums over the chunks. -/
module

public import proofs.«01_k».proof.Proof.SpatialGating.Math

@[expose] public section

noncomputable section

namespace Cert.SpatialGating

/-- Row `t` of chunk `n`. -/
abbrev rowOf (n : Fin 16) (t : Fin 128) : Fin 2048 := ⟨128 * n.val + t.val, by omega⟩

/-- The arrays the gradient is taken at: the cotangent, the three column blocks, and the parameters. -/
structure Args where
  dy : Fin 2048 → Fin 1024 → EReal
  u : Fin 2048 → Fin 1024 → EReal
  v : Fin 2048 → Fin 1024 → EReal
  z : Fin 2048 → Fin 1024 → EReal
  w : Fin 1024 → EReal
  b : Fin 1024 → EReal
  W : Fin 8 → Fin 128 → Fin 128 → EReal
  B : Fin 8 → Fin 128 → EReal

variable (a : Args) (n : Fin 16)

/-- The cotangent of chunk `n`'s mixed block. -/
def Args.D (t : Fin 128) (j : Fin 1024) : EReal := dmix (a.dy (rowOf n t) j) (a.u (rowOf n t) j) (a.z (rowOf n t) j)

/-- The normalised rows of chunk `n`. -/
def Args.V (s : Fin 128) : Fin 1024 → EReal := lnorm (a.v (rowOf n s)) a.w a.b

/-- The cotangent of chunk `n`'s normalised rows. -/
def Args.dV : Fin 128 → Fin 1024 → EReal := dmixed a.W (a.D n)

/-- The mixed block of chunk `n`. -/
def Args.mix : Fin 128 → Fin 1024 → EReal := mixed a.W a.B (a.V n)

/-- The gradient of `u`. -/
def Args.gu (t : Fin 128) (j : Fin 1024) : EReal :=
  du (a.dy (rowOf n t) j) (a.u (rowOf n t) j) (a.z (rowOf n t) j) (a.mix n t j)

/-- The gradient of `v`. -/
def Args.gv (s : Fin 128) (j : Fin 1024) : EReal := dvrow (a.v (rowOf n s)) a.w (a.dV n s) j

/-- The gradient of `z`. -/
def Args.gz (t : Fin 128) (j : Fin 1024) : EReal :=
  dz (a.dy (rowOf n t) j) (a.u (rowOf n t) j) (a.z (rowOf n t) j) (a.mix n t j)

/-- Chunk `n`'s share of the gradient of the layer norm's weight. -/
def Args.cw (j : Fin 1024) : EReal := ∑ s, xhat (a.v (rowOf n s)) j * a.dV n s j

/-- Chunk `n`'s share of the gradient of the layer norm's bias. -/
def Args.cb (j : Fin 1024) : EReal := ∑ s, a.dV n s j

/-- Chunk `n`'s share of the gradient of the mixing matrices. -/
def Args.cW (h : Fin 8) (t s : Fin 128) : EReal := if s ≤ t then dweight (a.D n) (a.V n) h t s else 0

/-- Chunk `n`'s share of the gradient of the mixing biases. -/
def Args.cB (h : Fin 8) (t : Fin 128) : EReal := dbias (a.D n) h t

end Cert.SpatialGating

end
-- ==== Proof.SpatialGating.Arrays.lean ====
/- What the seven result arrays of the kernel hold when it ends: the rows of each chunk from the point that computed
   them, and the four parameter gradients as the sum over the 16 points. -/
module

public import proofs.«01_k».proof.Proof.SpatialGating.Stage
public import proofs.«01_k».proof.Proof.SpatialGating.Whole
public import proofs.«01_k».proof.Proof.Gen.KernelIdeal.Value

@[expose] public section

noncomputable section

namespace Cert.SpatialGating

open Idealize.ShloMosaic Idealize.ShloMosaic.TcCoe Cert.KernelIdeal Cert.KernelIdeal.Gen Cert.KernelIdeal.Value

variable (m : (ℓ : Loc nD τ sig) → Buf (Elt Ideal) ℓ) (c : Dev nD)

/-- The grid point that computes chunk `n`. -/
abbrev point (n : Fin 16) : Fin cfg0.N := ⟨n.val, by rw [show cfg0.N = 16 from N_0]; exact n.isLt⟩

/-- The kernel's arguments as plain functions. -/
def kargs : Args where
  dy r j := m ((c : Thread nD τ).loc main_arg0) (ix2 r j)
  u r j := m ((c : Thread nD τ).loc main_arg1) (ix2 r ⟨2048 + j.val, by omega⟩)
  v r j := m ((c : Thread nD τ).loc main_arg1) (ix2 r ⟨3072 + j.val, by omega⟩)
  z r j := m ((c : Thread nD τ).loc main_arg1) (ix2 r ⟨4096 + j.val, by omega⟩)
  w j := m ((c : Thread nD τ).loc main_arg2) (ix1 j)
  b j := m ((c : Thread nD τ).loc main_arg3) (ix1 j)
  W h t s := m ((c : Thread nD τ).loc main_arg4) (ix3 h t s)
  B h t := m ((c : Thread nD τ).loc main_arg5) (ix2 h t)

/-- Window 0's block at point `t` is the array's rows `128 t …`. -/
theorem idx0 : ∀ t : Fin cfg0.N, win0_0.index t 0 = t.val ∧ win0_0.index t 1 = 0 := by decide +kernel

theorem pdy_apply (n : Fin 16) : row (pdy m c (point n)) = fun r => (kargs m c).dy (rowOf n r) := by
  funext r j
  obtain ⟨h0, h1⟩ := idx0 (point n)
  show iblk m c 0 (point n) (ix2 r j) = m ((c : Thread nD τ).loc main_arg0) (ix2 (rowOf n r) j)
  unfold iblk
  rw [View.read_apply]
  show V m c main_arg0 _ = _
  rw [V_main_arg0]
  congr 1
  funext a
  apply Fin.ext
  match a with
  | ⟨0, _⟩ => show win0_0.index (point n) 0 * 128 + 1 * r.val = 128 * n.val + r.val; rw [h0]; show n.val * 128 + 1 * r.val = _; omega
  | ⟨1, _⟩ => show win0_0.index (point n) 1 * 1024 + 1 * j.val = j.val; rw [h1]; omega

/-- Window 1's block at point `t` is the array's rows `128 t …` and columns `2048 …`. -/
theorem idx1 : ∀ t : Fin cfg0.N, win0_1.index t 0 = t.val ∧ win0_1.index t 1 = 2 := by decide +kernel

theorem pu_apply (n : Fin 16) : row (pu m c (point n)) = fun r => (kargs m c).u (rowOf n r) := by
  funext r j
  obtain ⟨h0, h1⟩ := idx1 (point n)
  show X0_1 m c (point n) (ix2 r j) = m ((c : Thread nD τ).loc main_arg1) (ix2 (rowOf n r) ⟨2048 + j.val, _⟩)
  unfold X0_1 Pipeline.Window.fill
  rw [dif_pos (moved0_1 _ _)]
  unfold iblk
  rw [View.read_apply]
  show V m c main_arg1 _ = _
  rw [V_main_arg1]
  congr 1
  funext a
  apply Fin.ext
  match a with
  | ⟨0, _⟩ => show win0_1.index (point n) 0 * 128 + 1 * r.val = 128 * n.val + r.val; rw [h0]; show n.val * 128 + 1 * r.val = _; omega
  | ⟨1, _⟩ => show win0_1.index (point n) 1 * 1024 + 1 * j.val = 2048 + j.val; rw [h1]; omega

/-- Window 2's block at point `t` is the array's rows `128 t …` and columns `3072 …`. -/
theorem idx2 : ∀ t : Fin cfg0.N, win0_2.index t 0 = t.val ∧ win0_2.index t 1 = 3 := by decide +kernel

theorem pv_apply (n : Fin 16) : row (pv m c (point n)) = fun r => (kargs m c).v (rowOf n r) := by
  funext r j
  obtain ⟨h0, h1⟩ := idx2 (point n)
  show X0_2 m c (point n) (ix2 r j) = m ((c : Thread nD τ).loc main_arg1) (ix2 (rowOf n r) ⟨3072 + j.val, _⟩)
  unfold X0_2 Pipeline.Window.fill
  rw [dif_pos (moved0_2 _ _)]
  unfold iblk
  rw [View.read_apply]
  show V m c main_arg1 _ = _
  rw [V_main_arg1]
  congr 1
  funext a
  apply Fin.ext
  match a with
  | ⟨0, _⟩ => show win0_2.index (point n) 0 * 128 + 1 * r.val = 128 * n.val + r.val; rw [h0]; show n.val * 128 + 1 * r.val = _; omega
  | ⟨1, _⟩ => show win0_2.index (point n) 1 * 1024 + 1 * j.val = 3072 + j.val; rw [h1]; omega

/-- Window 3's block at point `t` is the array's rows `128 t …` and columns `4096 …`. -/
theorem idx3 : ∀ t : Fin cfg0.N, win0_3.index t 0 = t.val ∧ win0_3.index t 1 = 4 := by decide +kernel

theorem pz_apply (n : Fin 16) : row (pz m c (point n)) = fun r => (kargs m c).z (rowOf n r) := by
  funext r j
  obtain ⟨h0, h1⟩ := idx3 (point n)
  show X0_3 m c (point n) (ix2 r j) = m ((c : Thread nD τ).loc main_arg1) (ix2 (rowOf n r) ⟨4096 + j.val, _⟩)
  unfold X0_3 Pipeline.Window.fill
  rw [dif_pos (moved0_3 _ _)]
  unfold iblk
  rw [View.read_apply]
  show V m c main_arg1 _ = _
  rw [V_main_arg1]
  congr 1
  funext a
  apply Fin.ext
  match a with
  | ⟨0, _⟩ => show win0_3.index (point n) 0 * 128 + 1 * r.val = 128 * n.val + r.val; rw [h0]; show n.val * 128 + 1 * r.val = _; omega
  | ⟨1, _⟩ => show win0_3.index (point n) 1 * 1024 + 1 * j.val = 4096 + j.val; rw [h1]; omega

/-- The kernel finds argument 2 reshaped. -/
theorem V_main_v0 : V m c main_v0 = (shapeCast S1x1024 (m ((c : Thread nD τ).loc main_arg2)) shapeCasts_S1024_S1x1024 : FVec Ideal S1x1024 .f32) := by
  show StableHlo.after hostOps0 _ (Proc.devRef .tc main_v0) = _
  after_results
  rfl

/-- The kernel finds argument 3 reshaped. -/
theorem V_main_v1 : V m c main_v1 = (shapeCast S1x1024 (m ((c : Thread nD τ).loc main_arg3)) shapeCasts_S1024_S1x1024 : FVec Ideal S1x1024 .f32) := by
  show StableHlo.after hostOps0 _ (Proc.devRef .tc main_v1) = _
  after_results
  rfl

/-- The kernel finds argument 5 reshaped. -/
theorem V_main_v2 : V m c main_v2 = (shapeCast S8x128x1 (m ((c : Thread nD τ).loc main_arg5)) shapeCasts_S8x128_S8x128x1 : FVec Ideal S8x128x1 .f32) := by
  show StableHlo.after hostOps0 _ (Proc.devRef .tc main_v2) = _
  after_results
  rfl

theorem idx4 : ∀ t : Fin cfg0.N, win0_4.index t 0 = 0 ∧ win0_4.index t 1 = 0 := by decide +kernel

theorem pw_apply (t : Fin cfg0.N) : lanes (pw m c t) = (kargs m c).w := by
  funext j
  obtain ⟨h0, h1⟩ := idx4 t
  show k0_pay18 (F := Ideal) (iblk m c 4 t) (ix2 0 j) = m ((c : Thread nD τ).loc main_arg2) (ix1 j)
  unfold k0_pay18
  rw [shapeCast_self]
  unfold iblk
  rw [View.read_apply]
  show V m c main_v0 _ = _
  rw [V_main_v0]
  have key : ∀ y : FVec Ideal S1024 .f32, shapeCast S1x1024 y shapeCasts_S1024_S1x1024 (ix2 0 j) = y (ix1 j) := fun y => by pointwise
  refine Eq.trans (congrArg (shapeCast S1x1024 (m ((c : Thread nD τ).loc main_arg2) : FVec Ideal S1024 .f32) shapeCasts_S1024_S1x1024) (funext fun a => Fin.ext ?_)) (key _)
  match a with
  | ⟨0, _⟩ => show win0_4.index t 0 * 1 + 1 * 0 = 0; rw [h0]
  | ⟨1, _⟩ => show win0_4.index t 1 * 1024 + 1 * j.val = j.val; rw [h1]; omega

theorem idx5 : ∀ t : Fin cfg0.N, win0_5.index t 0 = 0 ∧ win0_5.index t 1 = 0 := by decide +kernel

theorem pb_apply (t : Fin cfg0.N) : lanes (pb m c t) = (kargs m c).b := by
  funext j
  obtain ⟨h0, h1⟩ := idx5 t
  show k0_pay19 (F := Ideal) (iblk m c 5 t) (ix2 0 j) = m ((c : Thread nD τ).loc main_arg3) (ix1 j)
  unfold k0_pay19
  rw [shapeCast_self]
  unfold iblk
  rw [View.read_apply]
  show V m c main_v1 _ = _
  rw [V_main_v1]
  have key : ∀ y : FVec Ideal S1024 .f32, shapeCast S1x1024 y shapeCasts_S1024_S1x1024 (ix2 0 j) = y (ix1 j) := fun y => by pointwise
  refine Eq.trans (congrArg (shapeCast S1x1024 (m ((c : Thread nD τ).loc main_arg3) : FVec Ideal S1024 .f32) shapeCasts_S1024_S1x1024) (funext fun a => Fin.ext ?_)) (key _)
  match a with
  | ⟨0, _⟩ => show win0_5.index t 0 * 1 + 1 * 0 = 0; rw [h0]
  | ⟨1, _⟩ => show win0_5.index t 1 * 1024 + 1 * j.val = j.val; rw [h1]; omega

theorem idx6 : ∀ t : Fin cfg0.N, win0_6.index t 0 = 0 ∧ win0_6.index t 1 = 0 ∧ win0_6.index t 2 = 0 := by decide +kernel

theorem pA_apply (t : Fin cfg0.N) : bW (pA m c t) = (kargs m c).W := by
  funext h r j
  obtain ⟨h0, h1, h2⟩ := idx6 t
  show iblk m c 6 t (ix3 h r j) = m ((c : Thread nD τ).loc main_arg4) (ix3 h r j)
  unfold iblk
  rw [View.read_apply]
  show V m c main_arg4 _ = _
  rw [V_main_arg4]
  congr 1
  funext a
  apply Fin.ext
  match a with
  | ⟨0, _⟩ => show win0_6.index t 0 * 8 + 1 * h.val = h.val; rw [h0]; omega
  | ⟨1, _⟩ => show win0_6.index t 1 * 128 + 1 * r.val = r.val; rw [h1]; omega
  | ⟨2, _⟩ => show win0_6.index t 2 * 128 + 1 * j.val = j.val; rw [h2]; omega

theorem idx7 : ∀ t : Fin cfg0.N, win0_7.index t 0 = 0 ∧ win0_7.index t 1 = 0 ∧ win0_7.index t 2 = 0 := by decide +kernel

theorem pB_apply (t : Fin cfg0.N) : bB (pB m c t) = (kargs m c).B := by
  funext h r
  obtain ⟨h0, h1, h2⟩ := idx7 t
  show iblk m c 7 t (ix3 h r 0) = m ((c : Thread nD τ).loc main_arg5) (ix2 h r)
  unfold iblk
  rw [View.read_apply]
  show V m c main_v2 _ = _
  rw [V_main_v2]
  have key : ∀ y : FVec Ideal S8x128 .f32, shapeCast S8x128x1 y shapeCasts_S8x128_S8x128x1 (ix3 h r 0) = y (ix2 h r) := fun y => by pointwise
  refine Eq.trans (congrArg (shapeCast S8x128x1 (m ((c : Thread nD τ).loc main_arg5) : FVec Ideal S8x128 .f32) shapeCasts_S8x128_S8x128x1) (funext fun a => Fin.ext ?_)) (key _)
  match a with
  | ⟨0, _⟩ => show win0_7.index t 0 * 8 + 1 * h.val = h.val; rw [h0]; omega
  | ⟨1, _⟩ => show win0_7.index t 1 * 128 + 1 * r.val = r.val; rw [h1]; omega
  | ⟨2, _⟩ => show win0_7.index t 2 * 1 + 1 * 0 = 0; rw [h2]

/-! ## What each point computes, in terms of the arguments -/

theorem chunk_V (n : Fin 16) : bV (pv m c (point n)) (pw m c (point n)) (pb m c (point n)) = (kargs m c).V n := by
  funext s
  rw [bV, pv_apply, pw_apply, pb_apply]
  rfl

theorem chunk_D (n : Fin 16) : bD (pdy m c (point n)) (pu m c (point n)) (pz m c (point n)) = (kargs m c).D n := by
  funext t j
  rw [bD, pdy_apply, pu_apply, pz_apply]
  rfl

theorem chunk_dV (n : Fin 16) : bdV (pdy m c (point n)) (pu m c (point n)) (pz m c (point n)) (pA m c (point n)) = (kargs m c).dV n := by
  rw [bdV, chunk_D, pA_apply]
  rfl

theorem chunk_mix (n : Fin 16) : mixed (bW (pA m c (point n))) (bB (pB m c (point n))) (bV (pv m c (point n)) (pw m c (point n)) (pb m c (point n))) = (kargs m c).mix n := by
  rw [chunk_V, pA_apply, pB_apply]
  rfl

theorem chunk_gu (n : Fin 16) (r : Fin 128) (j : Fin 1024) : (outsAt0 m c (point n).val (point n).isLt).1 (ix2 r j) = (kargs m c).gu n r j := by
  rw [stage_du, chunk_mix, pdy_apply, pu_apply, pz_apply]
  rfl

theorem chunk_gv (n : Fin 16) (r : Fin 128) (j : Fin 1024) : (outsAt0 m c (point n).val (point n).isLt).2.1 (ix2 r j) = (kargs m c).gv n r j := by
  rw [stage_dv, chunk_dV, pv_apply, pw_apply]
  rfl

theorem chunk_gz (n : Fin 16) (r : Fin 128) (j : Fin 1024) : (outsAt0 m c (point n).val (point n).isLt).2.2.1 (ix2 r j) = (kargs m c).gz n r j := by
  rw [stage_dz, chunk_mix, pdy_apply, pu_apply, pz_apply]
  rfl

theorem chunk_cw (n : Fin 16) (q : Fin 1) (j : Fin 1024) : add_dlnw m c (point n) q j = (kargs m c).cw n j := by
  rw [add_dlnw, chunk_dV, pv_apply]
  rfl

theorem chunk_cb (n : Fin 16) (q : Fin 1) (j : Fin 1024) : add_dlnb m c (point n) q j = (kargs m c).cb n j := by
  rw [add_dlnb, chunk_dV]
  rfl

theorem chunk_cW (n : Fin 16) (h : Fin 8) (t s : Fin 128) : add_dw m c (point n) h t s = (kargs m c).cW n h t s := by
  rw [add_dw, chunk_D, chunk_V]
  rfl

theorem chunk_cB (n : Fin 16) (h : Fin 8) (t : Fin 128) (q : Fin 1) : add_db m c (point n) h t q = (kargs m c).cB n h t := by
  rw [add_db, chunk_D]
  rfl

/-! ## The sums over the points -/

/-- A quantity that starts at `0 + f 0` and adds `f t` at each later point holds the sum of `f` over the points so far. -/
theorem sum_points (f : Fin 16 → EReal) (g : (n : ℕ) → n < 16 → EReal) (h0 : g 0 (by omega) = 0 + f 0)
    (hs : ∀ n (h : n + 1 < 16), g (n + 1) h = g n (by omega) + f ⟨n + 1, h⟩) :
    g 15 (by omega) = ∑ n, f n := by
  have key : ∀ n (h : n < 16), g n h = ∑ k : Fin (n + 1), f ⟨k.val, by omega⟩ := by
    intro n
    induction n with
    | zero => intro h; rw [h0, Fin.sum_univ_one, zero_add]; rfl
    | succ n ih => intro h; rw [hs n h, ih, Fin.sum_univ_castSucc (n := n + 1)]; rfl
  exact key 15 _

theorem total_dlnw (q : Fin 1) (j : Fin 1024) : (outsAt0 m c (point 15).val (point 15).isLt).2.2.2.1 (ix2 q j) = ∑ n, (kargs m c).cw n j :=
  sum_points (fun n => (kargs m c).cw n j) (fun n hn => (outsAt0 m c n (point ⟨n, hn⟩).isLt).2.2.2.1 (ix2 q j))
    ((stage_dlnw_first m c (point 0) rfl q j).trans (congrArg (0 + ·) (chunk_cw m c 0 q j)))
    fun n hn => (stage_dlnw_next m c (point ⟨n + 1, hn⟩) (by show ¬(n + 1) % 16 = 0; omega) q j).trans
      (congrArg (_ + ·) (chunk_cw m c ⟨n + 1, hn⟩ q j))

theorem total_dlnb (q : Fin 1) (j : Fin 1024) : (outsAt0 m c (point 15).val (point 15).isLt).2.2.2.2.1 (ix2 q j) = ∑ n, (kargs m c).cb n j :=
  sum_points (fun n => (kargs m c).cb n j) (fun n hn => (outsAt0 m c n (point ⟨n, hn⟩).isLt).2.2.2.2.1 (ix2 q j))
    ((stage_dlnb_first m c (point 0) rfl q j).trans (congrArg (0 + ·) (chunk_cb m c 0 q j)))
    fun n hn => (stage_dlnb_next m c (point ⟨n + 1, hn⟩) (by show ¬(n + 1) % 16 = 0; omega) q j).trans
      (congrArg (_ + ·) (chunk_cb m c ⟨n + 1, hn⟩ q j))

theorem total_dw (h : Fin 8) (t s : Fin 128) : (outsAt0 m c (point 15).val (point 15).isLt).2.2.2.2.2.1 (ix3 h t s) = ∑ n, (kargs m c).cW n h t s :=
  sum_points (fun n => (kargs m c).cW n h t s) (fun n hn => (outsAt0 m c n (point ⟨n, hn⟩).isLt).2.2.2.2.2.1 (ix3 h t s))
    ((stage_dw_first m c (point 0) rfl h t s).trans (congrArg (0 + ·) (chunk_cW m c 0 h t s)))
    fun n hn => (stage_dw_next m c (point ⟨n + 1, hn⟩) (by show ¬(n + 1) % 16 = 0; omega) h t s).trans
      (congrArg (_ + ·) (chunk_cW m c ⟨n + 1, hn⟩ h t s))

theorem total_db (h : Fin 8) (t : Fin 128) (q : Fin 1) : (outsAt0 m c (point 15).val (point 15).isLt).2.2.2.2.2.2 (ix3 h t q) = ∑ n, (kargs m c).cB n h t :=
  sum_points (fun n => (kargs m c).cB n h t) (fun n hn => (outsAt0 m c n (point ⟨n, hn⟩).isLt).2.2.2.2.2.2 (ix3 h t q))
    ((stage_db_first m c (point 0) rfl h t q).trans (congrArg (0 + ·) (chunk_cB m c 0 h t q)))
    fun n hn => (stage_db_next m c (point ⟨n + 1, hn⟩) (by show ¬(n + 1) % 16 = 0; omega) h t q).trans
      (congrArg (_ + ·) (chunk_cB m c ⟨n + 1, hn⟩ h t q))

/-! ## The result arrays -/

theorem idx8 : ∀ t : Fin cfg0.N, win0_8.index t 0 = t.val ∧ win0_8.index t 1 = 0 := by decide +kernel

theorem array_gu (n : Fin 16) (r : Fin 128) (j : Fin 1024) :
    ((dats m 0 c).arrAt 8 cfg0.N : FVec Ideal S2048x1024 .f32) (ix2 (rowOf n r) j) = (kargs m c).gu n r j := by
  obtain ⟨h0, h1⟩ := idx8 (point n)
  have h := congrFun (blocks8 m c (point n) (flush0_8 _)) (ix2 r j)
  rw [View.read_apply, flushed8] at h
  refine Eq.trans (congrArg ((dats m 0 c).arrAt 8 cfg0.N : FVec Ideal S2048x1024 .f32) (funext fun a => Fin.ext ?_)) (h.trans (chunk_gu m c n r j))
  match a with
  | ⟨0, _⟩ => show 128 * n.val + r.val = win0_8.index (point n) 0 * 128 + 1 * r.val; rw [h0]; show _ = n.val * 128 + 1 * r.val; omega
  | ⟨1, _⟩ => show j.val = win0_8.index (point n) 1 * 1024 + 1 * j.val; rw [h1]; omega

theorem idx9 : ∀ t : Fin cfg0.N, win0_9.index t 0 = t.val ∧ win0_9.index t 1 = 0 := by decide +kernel

theorem array_gv (n : Fin 16) (r : Fin 128) (j : Fin 1024) :
    ((dats m 0 c).arrAt 9 cfg0.N : FVec Ideal S2048x1024 .f32) (ix2 (rowOf n r) j) = (kargs m c).gv n r j := by
  obtain ⟨h0, h1⟩ := idx9 (point n)
  have h := congrFun (blocks9 m c (point n) (flush0_9 _)) (ix2 r j)
  rw [View.read_apply, flushed9] at h
  refine Eq.trans (congrArg ((dats m 0 c).arrAt 9 cfg0.N : FVec Ideal S2048x1024 .f32) (funext fun a => Fin.ext ?_)) (h.trans (chunk_gv m c n r j))
  match a with
  | ⟨0, _⟩ => show 128 * n.val + r.val = win0_9.index (point n) 0 * 128 + 1 * r.val; rw [h0]; show _ = n.val * 128 + 1 * r.val; omega
  | ⟨1, _⟩ => show j.val = win0_9.index (point n) 1 * 1024 + 1 * j.val; rw [h1]; omega

theorem idx10 : ∀ t : Fin cfg0.N, win0_10.index t 0 = t.val ∧ win0_10.index t 1 = 0 := by decide +kernel

theorem array_gz (n : Fin 16) (r : Fin 128) (j : Fin 1024) :
    ((dats m 0 c).arrAt 10 cfg0.N : FVec Ideal S2048x1024 .f32) (ix2 (rowOf n r) j) = (kargs m c).gz n r j := by
  obtain ⟨h0, h1⟩ := idx10 (point n)
  have h := congrFun (blocks10 m c (point n) (flush0_10 _)) (ix2 r j)
  rw [View.read_apply, flushed10] at h
  refine Eq.trans (congrArg ((dats m 0 c).arrAt 10 cfg0.N : FVec Ideal S2048x1024 .f32) (funext fun a => Fin.ext ?_)) (h.trans (chunk_gz m c n r j))
  match a with
  | ⟨0, _⟩ => show 128 * n.val + r.val = win0_10.index (point n) 0 * 128 + 1 * r.val; rw [h0]; show _ = n.val * 128 + 1 * r.val; omega
  | ⟨1, _⟩ => show j.val = win0_10.index (point n) 1 * 1024 + 1 * j.val; rw [h1]; omega

theorem last_point (t : Fin cfg0.N) (h : t.val % 16 = 15) : t = point 15 :=
  Fin.ext (by have hN : cfg0.N = 16 := N_0; have := t.isLt; show t.val = 15; omega)

/-- Result 3 holds what the last point left. -/
theorem array_dlnw : (dats m 0 c).arrAt 11 cfg0.N = (outsAt0 m c (point 15).val (point 15).isLt).2.2.2.1 := by
  refine (dats m 0 c).arrAt_eq_of_cover 11 ((outsAt0 m c (point 15).val (point 15).isLt).2.2.2.1) (fun t hf => ?_)
    fun i => ⟨point 15, (flush0_11 _).mpr rfl, ?_⟩
  · obtain rfl := last_point t ((flush0_11 t).mp hf)
    rw [flushed11]
    have hz' : (fun a => win0_11.index (point 15) a * main_v3_3.ty.shape.size a) = fun _ => 0 := funext fun a => by fin_cases a <;> decide +kernel
    exact (Memref.read_access_unit_zero (Elt Ideal) main_v3_3 hz' (fun a => by rw [congrFun hz' a]; simp) ((outsAt0 m c (point 15).val (point 15).isLt).2.2.2.1)).symm
  · show i ∈ ((View.whole main_v3_3).slice (win0_11.rect (point 15))).set
    rw [View.set_slice_whole, Rect.mem_set_unit]
    intro a
    have h0 : (i 0 : Nat) < 1 := (i 0).isLt
    have h1 : (i 1 : Nat) < 1024 := (i 1).isLt
    match a with
    | ⟨0, _⟩ => show win0_11.index (point 15) 0 * win0_11.size 0 ≤ (i 0 : Nat) ∧ (i 0 : Nat) < win0_11.index (point 15) 0 * win0_11.size 0 + win0_11.xsize (grid0.coords (point 15)) 0
                rw [show win0_11.index (point 15) 0 * win0_11.size 0 = 0 from by decide +kernel, show win0_11.xsize (grid0.coords (point 15)) 0 = 1 from by decide +kernel]; omega
    | ⟨1, _⟩ => show win0_11.index (point 15) 1 * win0_11.size 1 ≤ (i 1 : Nat) ∧ (i 1 : Nat) < win0_11.index (point 15) 1 * win0_11.size 1 + win0_11.xsize (grid0.coords (point 15)) 1
                rw [show win0_11.index (point 15) 1 * win0_11.size 1 = 0 from by decide +kernel, show win0_11.xsize (grid0.coords (point 15)) 1 = 1024 from by decide +kernel]; omega

/-- Result 4 holds what the last point left. -/
theorem array_dlnb : (dats m 0 c).arrAt 12 cfg0.N = (outsAt0 m c (point 15).val (point 15).isLt).2.2.2.2.1 := by
  refine (dats m 0 c).arrAt_eq_of_cover 12 ((outsAt0 m c (point 15).val (point 15).isLt).2.2.2.2.1) (fun t hf => ?_)
    fun i => ⟨point 15, (flush0_12 _).mpr rfl, ?_⟩
  · obtain rfl := last_point t ((flush0_12 t).mp hf)
    rw [flushed12]
    have hz' : (fun a => win0_12.index (point 15) a * main_v3_4.ty.shape.size a) = fun _ => 0 := funext fun a => by fin_cases a <;> decide +kernel
    exact (Memref.read_access_unit_zero (Elt Ideal) main_v3_4 hz' (fun a => by rw [congrFun hz' a]; simp) ((outsAt0 m c (point 15).val (point 15).isLt).2.2.2.2.1)).symm
  · show i ∈ ((View.whole main_v3_4).slice (win0_12.rect (point 15))).set
    rw [View.set_slice_whole, Rect.mem_set_unit]
    intro a
    have h0 : (i 0 : Nat) < 1 := (i 0).isLt
    have h1 : (i 1 : Nat) < 1024 := (i 1).isLt
    match a with
    | ⟨0, _⟩ => show win0_12.index (point 15) 0 * win0_12.size 0 ≤ (i 0 : Nat) ∧ (i 0 : Nat) < win0_12.index (point 15) 0 * win0_12.size 0 + win0_12.xsize (grid0.coords (point 15)) 0
                rw [show win0_12.index (point 15) 0 * win0_12.size 0 = 0 from by decide +kernel, show win0_12.xsize (grid0.coords (point 15)) 0 = 1 from by decide +kernel]; omega
    | ⟨1, _⟩ => show win0_12.index (point 15) 1 * win0_12.size 1 ≤ (i 1 : Nat) ∧ (i 1 : Nat) < win0_12.index (point 15) 1 * win0_12.size 1 + win0_12.xsize (grid0.coords (point 15)) 1
                rw [show win0_12.index (point 15) 1 * win0_12.size 1 = 0 from by decide +kernel, show win0_12.xsize (grid0.coords (point 15)) 1 = 1024 from by decide +kernel]; omega

/-- Result 5 holds what the last point left. -/
theorem array_dw : (dats m 0 c).arrAt 13 cfg0.N = (outsAt0 m c (point 15).val (point 15).isLt).2.2.2.2.2.1 := by
  refine (dats m 0 c).arrAt_eq_of_cover 13 ((outsAt0 m c (point 15).val (point 15).isLt).2.2.2.2.2.1) (fun t hf => ?_)
    fun i => ⟨point 15, (flush0_13 _).mpr rfl, ?_⟩
  · obtain rfl := last_point t ((flush0_13 t).mp hf)
    rw [flushed13]
    have hz' : (fun a => win0_13.index (point 15) a * main_v3_5.ty.shape.size a) = fun _ => 0 := funext fun a => by fin_cases a <;> decide +kernel
    exact (Memref.read_access_unit_zero (Elt Ideal) main_v3_5 hz' (fun a => by rw [congrFun hz' a]; simp) ((outsAt0 m c (point 15).val (point 15).isLt).2.2.2.2.2.1)).symm
  · show i ∈ ((View.whole main_v3_5).slice (win0_13.rect (point 15))).set
    rw [View.set_slice_whole, Rect.mem_set_unit]
    intro a
    have h0 : (i 0 : Nat) < 8 := (i 0).isLt
    have h1 : (i 1 : Nat) < 128 := (i 1).isLt
    have h2 : (i 2 : Nat) < 128 := (i 2).isLt
    match a with
    | ⟨0, _⟩ => show win0_13.index (point 15) 0 * win0_13.size 0 ≤ (i 0 : Nat) ∧ (i 0 : Nat) < win0_13.index (point 15) 0 * win0_13.size 0 + win0_13.xsize (grid0.coords (point 15)) 0
                rw [show win0_13.index (point 15) 0 * win0_13.size 0 = 0 from by decide +kernel, show win0_13.xsize (grid0.coords (point 15)) 0 = 8 from by decide +kernel]; omega
    | ⟨1, _⟩ => show win0_13.index (point 15) 1 * win0_13.size 1 ≤ (i 1 : Nat) ∧ (i 1 : Nat) < win0_13.index (point 15) 1 * win0_13.size 1 + win0_13.xsize (grid0.coords (point 15)) 1
                rw [show win0_13.index (point 15) 1 * win0_13.size 1 = 0 from by decide +kernel, show win0_13.xsize (grid0.coords (point 15)) 1 = 128 from by decide +kernel]; omega
    | ⟨2, _⟩ => show win0_13.index (point 15) 2 * win0_13.size 2 ≤ (i 2 : Nat) ∧ (i 2 : Nat) < win0_13.index (point 15) 2 * win0_13.size 2 + win0_13.xsize (grid0.coords (point 15)) 2
                rw [show win0_13.index (point 15) 2 * win0_13.size 2 = 0 from by decide +kernel, show win0_13.xsize (grid0.coords (point 15)) 2 = 128 from by decide +kernel]; omega

/-- Result 6 holds what the last point left. -/
theorem array_db : (dats m 0 c).arrAt 14 cfg0.N = (outsAt0 m c (point 15).val (point 15).isLt).2.2.2.2.2.2 := by
  refine (dats m 0 c).arrAt_eq_of_cover 14 ((outsAt0 m c (point 15).val (point 15).isLt).2.2.2.2.2.2) (fun t hf => ?_)
    fun i => ⟨point 15, (flush0_14 _).mpr rfl, ?_⟩
  · obtain rfl := last_point t ((flush0_14 t).mp hf)
    rw [flushed14]
    have hz' : (fun a => win0_14.index (point 15) a * main_v3_6.ty.shape.size a) = fun _ => 0 := funext fun a => by fin_cases a <;> decide +kernel
    exact (Memref.read_access_unit_zero (Elt Ideal) main_v3_6 hz' (fun a => by rw [congrFun hz' a]; simp) ((outsAt0 m c (point 15).val (point 15).isLt).2.2.2.2.2.2)).symm
  · show i ∈ ((View.whole main_v3_6).slice (win0_14.rect (point 15))).set
    rw [View.set_slice_whole, Rect.mem_set_unit]
    intro a
    have h0 : (i 0 : Nat) < 8 := (i 0).isLt
    have h1 : (i 1 : Nat) < 128 := (i 1).isLt
    have h2 : (i 2 : Nat) < 1 := (i 2).isLt
    match a with
    | ⟨0, _⟩ => show win0_14.index (point 15) 0 * win0_14.size 0 ≤ (i 0 : Nat) ∧ (i 0 : Nat) < win0_14.index (point 15) 0 * win0_14.size 0 + win0_14.xsize (grid0.coords (point 15)) 0
                rw [show win0_14.index (point 15) 0 * win0_14.size 0 = 0 from by decide +kernel, show win0_14.xsize (grid0.coords (point 15)) 0 = 8 from by decide +kernel]; omega
    | ⟨1, _⟩ => show win0_14.index (point 15) 1 * win0_14.size 1 ≤ (i 1 : Nat) ∧ (i 1 : Nat) < win0_14.index (point 15) 1 * win0_14.size 1 + win0_14.xsize (grid0.coords (point 15)) 1
                rw [show win0_14.index (point 15) 1 * win0_14.size 1 = 0 from by decide +kernel, show win0_14.xsize (grid0.coords (point 15)) 1 = 128 from by decide +kernel]; omega
    | ⟨2, _⟩ => show win0_14.index (point 15) 2 * win0_14.size 2 ≤ (i 2 : Nat) ∧ (i 2 : Nat) < win0_14.index (point 15) 2 * win0_14.size 2 + win0_14.xsize (grid0.coords (point 15)) 2
                rw [show win0_14.index (point 15) 2 * win0_14.size 2 = 0 from by decide +kernel, show win0_14.xsize (grid0.coords (point 15)) 2 = 1 from by decide +kernel]; omega

end Cert.SpatialGating

end
-- ==== Proof.SpatialGating.RefRows.lean ====
/- The reference's stages at an index, first half: the arguments, gelu, silu, and the layer norm of a row. -/
module

public import proofs.«01_k».proof.Proof.SpatialGating.Whole
public import proofs.«01_k».proof.Proof.Gen.ReferenceIdeal.Read
public import Idealize.ShloMosaic.Lib.Pointwise

@[expose] public section

noncomputable section

namespace Cert.SpatialGating

open Idealize.ShloMosaic Cert.ReferenceIdeal Cert.ReferenceIdeal.Gen Cert.ReferenceIdeal.Read

variable (x0 : FVec Ideal S2048x1024 .f32) (x1 : FVec Ideal S2048x6400 .f32) (x2 x3 : FVec Ideal S1024 .f32)
  (x4 : FVec Ideal S8x128x128 .f32) (x5 : FVec Ideal S8x128 .f32)

/-- The reference's arguments as plain functions. -/
abbrev rargs : Args where
  dy r j := x0 (ix2 r j)
  u r j := x1 (ix2 r ⟨2048 + j.val, by omega⟩)
  v r j := x1 (ix2 r ⟨3072 + j.val, by omega⟩)
  z r j := x1 (ix2 r ⟨4096 + j.val, by omega⟩)
  w j := x2 (ix1 j)
  b j := x3 (ix1 j)
  W h t s := x4 (ix3 h t s)
  B h t := x5 (ix2 h t)

theorem ext1 {n : Nat} (i i' : (⟨1, ![n]⟩ : Shape).Idx) (h0 : (i 0).val = (i' 0).val) : i = i' :=
  funext fun a => Fin.ext (by match a with | ⟨0, _⟩ => exact h0)
theorem ext2 {n0 n1 : Nat} (i i' : (⟨2, ![n0, n1]⟩ : Shape).Idx) (h0 : (i 0).val = (i' 0).val) (h1 : (i 1).val = (i' 1).val) : i = i' :=
  funext fun a => Fin.ext (by match a with | ⟨0, _⟩ => exact h0 | ⟨1, _⟩ => exact h1)
theorem ext3 {n0 n1 n2 : Nat} (i i' : (⟨3, ![n0, n1, n2]⟩ : Shape).Idx) (h0 : (i 0).val = (i' 0).val) (h1 : (i 1).val = (i' 1).val)
    (h2 : (i 2).val = (i' 2).val) : i = i' :=
  funext fun a => Fin.ext (by match a with | ⟨0, _⟩ => exact h0 | ⟨1, _⟩ => exact h1 | ⟨2, _⟩ => exact h2)
theorem ext5 {n0 n1 n2 n3 n4 : Nat} (i i' : (⟨5, ![n0, n1, n2, n3, n4]⟩ : Shape).Idx) (h0 : (i 0).val = (i' 0).val) (h1 : (i 1).val = (i' 1).val)
    (h2 : (i 2).val = (i' 2).val) (h3 : (i 3).val = (i' 3).val) (h4 : (i 4).val = (i' 4).val) : i = i' :=
  funext fun a => Fin.ext (by match a with | ⟨0, _⟩ => exact h0 | ⟨1, _⟩ => exact h1 | ⟨2, _⟩ => exact h2 | ⟨3, _⟩ => exact h3 | ⟨4, _⟩ => exact h4)

section Point
variable (R : Fin 2048) (j : Fin 1024)

theorem at_v1 : val_main_v1 (F := Ideal) x1 (ix3 0 R j) = x1 (ix2 R ⟨2048 + j.val, by omega⟩) := by
  rw [val_main_v1_apply, val_main_v0_apply]
  exact congrArg x1 (ext2 _ _ rfl rfl)

theorem at_v3 : val_main_v3 (F := Ideal) x1 (ix3 0 R j) = x1 (ix2 R ⟨3072 + j.val, by omega⟩) := by
  rw [val_main_v3_apply, val_main_v2_apply]
  exact congrArg x1 (ext2 _ _ rfl rfl)

theorem at_v5 : val_main_v5 (F := Ideal) x1 (ix3 0 R j) = x1 (ix2 R ⟨4096 + j.val, by omega⟩) := by
  rw [val_main_v5_apply, val_main_v4_apply]
  exact congrArg x1 (ext2 _ _ rfl rfl)

theorem at_v94 : val_main_v94 (F := Ideal) x0 (ix3 0 R j) = x0 (ix2 R j) := by
  rw [val_main_v94_apply]
  exact congrArg x0 (ext2 _ _ rfl rfl)

theorem gth_cube (x : EReal) : gth x = Ideal.tanh (lit 0x3F4C422A#32 * (x + lit 0x3D372713#32 * (x * x * x))) := by
  rw [gth, mul_comm x (x * x)]

theorem at_v25 : val_main_v25 (F := Ideal) x1 (ix3 0 R j) = ghalf (x1 (ix2 R ⟨2048 + j.val, by omega⟩)) := by
  simp only [val_main_v25_apply, val_main_v24_apply, val_main_cst_5_apply, val_main_v23_apply, val_main_v22_apply, val_main_cst_4_apply,
    val_main_v16_apply, val_main_v15_apply, val_main_v14_apply, val_main_cst_1_apply, val_main_v13_apply, val_main_v12_apply,
    val_main_v11_apply, val_main_cst_0_apply, val_main_v7_apply, val_main_v6_apply, at_v1]
  rw [ghalf, gth_cube]
  rfl

theorem at_v26 : val_main_v26 (F := Ideal) x1 (ix3 0 R j) = gel (x1 (ix2 R ⟨2048 + j.val, by omega⟩)) := by
  rw [val_main_v26_apply, at_v1, at_v25]
  rfl

theorem at_v21 : val_main_v21 (F := Ideal) x1 (ix3 0 R j) = gsech (x1 (ix2 R ⟨2048 + j.val, by omega⟩)) := by
  simp only [val_main_v21_apply, val_main_v20_apply, val_main_v19_apply, val_main_cst_3_apply, val_main_v18_apply, val_main_v17_apply, val_main_cst_2_apply,
    val_main_v16_apply, val_main_v15_apply, val_main_v14_apply, val_main_cst_1_apply, val_main_v13_apply, val_main_v12_apply,
    val_main_v11_apply, val_main_cst_0_apply, val_main_v7_apply, val_main_v6_apply, at_v1]
  rw [gsech, gth_cube]
  rfl

theorem at_v10 : val_main_v10 (F := Ideal) x1 (ix3 0 R j) =
    lit 0x40400000#32 * (x1 (ix2 R ⟨2048 + j.val, by omega⟩) * x1 (ix2 R ⟨2048 + j.val, by omega⟩)) := by
  simp only [val_main_v10_apply, val_main_v9_apply, val_main_cst_apply, val_main_v8_apply, at_v1]
  rfl

theorem at_v46 : val_main_v46 (F := Ideal) x1 (ix3 0 R j) = ghalf (x1 (ix2 R ⟨3072 + j.val, by omega⟩)) := by
  simp only [val_main_v46_apply, val_main_v45_apply, val_main_cst_12_apply, val_main_v44_apply, val_main_v43_apply, val_main_cst_11_apply,
    val_main_v37_apply, val_main_v36_apply, val_main_v35_apply, val_main_cst_8_apply, val_main_v34_apply, val_main_v33_apply,
    val_main_v32_apply, val_main_cst_7_apply, val_main_v28_apply, val_main_v27_apply, at_v3]
  rw [ghalf, gth_cube]
  rfl

theorem at_v47 : val_main_v47 (F := Ideal) x1 (ix3 0 R j) = gel (x1 (ix2 R ⟨3072 + j.val, by omega⟩)) := by
  rw [val_main_v47_apply, at_v3, at_v46]
  rfl

theorem at_v42 : val_main_v42 (F := Ideal) x1 (ix3 0 R j) = gsech (x1 (ix2 R ⟨3072 + j.val, by omega⟩)) := by
  simp only [val_main_v42_apply, val_main_v41_apply, val_main_v40_apply, val_main_cst_10_apply, val_main_v39_apply, val_main_v38_apply, val_main_cst_9_apply,
    val_main_v37_apply, val_main_v36_apply, val_main_v35_apply, val_main_cst_8_apply, val_main_v34_apply, val_main_v33_apply,
    val_main_v32_apply, val_main_cst_7_apply, val_main_v28_apply, val_main_v27_apply, at_v3]
  rw [gsech, gth_cube]
  rfl

theorem at_v31 : val_main_v31 (F := Ideal) x1 (ix3 0 R j) =
    lit 0x40400000#32 * (x1 (ix2 R ⟨3072 + j.val, by omega⟩) * x1 (ix2 R ⟨3072 + j.val, by omega⟩)) := by
  simp only [val_main_v31_apply, val_main_v30_apply, val_main_cst_6_apply, val_main_v29_apply, at_v3]
  rfl

theorem one_word : (Ideal.ofBits .f32 0x3F800000#32 : EReal) = 1 := Ideal.ofBits_one_f32

theorem at_v92_2 : val_main_v92_2 (F := Ideal) x1 (ix3 0 R j) = Ideal.logistic (x1 (ix2 R ⟨4096 + j.val, by omega⟩)) := by
  simp only [val_main_v92_2_apply, val_main_call2_v4_apply, val_main_call2_cst_0_apply, val_main_call2_v3_apply, val_main_call2_v2_apply,
    val_main_call2_cst_apply, val_main_call2_v1_apply, val_main_call2_v0_apply, at_v5]
  show Ideal.div (Ideal.ofBits .f32 0x3F800000#32) (Ideal.ofBits .f32 0x3F800000#32 + Ideal.exp (-_)) = _
  rw [one_word]
  rfl

theorem at_v92_1 : val_main_v92_1 (F := Ideal) x1 (ix3 0 R j) = Ideal.logistic (x1 (ix2 R ⟨4096 + j.val, by omega⟩)) *
    (lit 0x3F800000#32 - Ideal.logistic (x1 (ix2 R ⟨4096 + j.val, by omega⟩))) := by
  simp only [val_main_v92_1_apply, val_main_call2_v7_apply, val_main_call2_v6_apply, val_main_call2_cst_1_apply, at_v92_2]
  rfl

theorem at_v92_0 : val_main_v92_0 (F := Ideal) x1 (ix3 0 R j) = sil (x1 (ix2 R ⟨4096 + j.val, by omega⟩)) := by
  rw [val_main_v92_0_apply, at_v5, at_v92_2]
  rfl

end Point

/-! ## The layer norm of a row -/

section Norm
variable (R : Fin 2048) (j : Fin 1024)

/-- Row `R` of `v`. -/
abbrev vrow : Fin 1024 → EReal := (rargs x0 x1 x2 x3 x4 x5).v R

theorem at_v51 : val_main_v51 (F := Ideal) x1 (ix3 0 R 0) = mean (vrow x0 x1 x2 x3 x4 x5 R) := by
  rw [val_main_v51_apply, val_main_v49_apply, val_main_v48_apply, val_main_v50_apply, val_main_cst_14_apply, val_main_cst_13_apply]
  rw [mean]
  have e : ∀ k, idx_main_v48 (idx_main_v49 (ix3 0 R 0)) k = ix3 0 R k := fun k => ext3 _ _ rfl rfl rfl
  simp only [e, at_v47]
  show Ideal.div (Ideal.ofBits .f32 0x00000000#32 + _) _ = _
  rw [Ideal.ofBits_zero_f32, zero_add]

theorem at_v53 : val_main_v53 (F := Ideal) x1 (ix3 0 R j) = cen (vrow x0 x1 x2 x3 x4 x5 R) j := by
  rw [val_main_v53_apply, val_main_v52_apply, show idx_main_v52 (ix3 0 R j) = ix3 0 R 0 from ext3 _ _ rfl rfl rfl, at_v51 x0 x1 x2 x3 x4 x5, at_v47]
  rfl

theorem at_v62 : val_main_v62 (F := Ideal) x1 (ix3 0 R j) = cen (vrow x0 x1 x2 x3 x4 x5 R) j := by
  rw [val_main_v62_apply, val_main_v61_apply, show idx_main_v61 (ix3 0 R j) = ix3 0 R 0 from ext3 _ _ rfl rfl rfl, at_v51 x0 x1 x2 x3 x4 x5, at_v47]
  rfl

theorem at_v56 : val_main_v56 (F := Ideal) x1 (ix3 0 R j) = lit 0x40000000#32 * cen (vrow x0 x1 x2 x3 x4 x5 R) j := by
  rw [val_main_v56_apply, val_main_v55_apply, val_main_cst_15_apply, at_v53 x0 x1 x2 x3 x4 x5]
  rfl

theorem at_v64 : val_main_v64 (F := Ideal) x1 (ix3 0 R 0) = vareps (vrow x0 x1 x2 x3 x4 x5 R) := by
  rw [val_main_v64_apply, val_main_v63_apply, val_main_cst_18_apply, val_main_v60_apply, val_main_v59_apply, val_main_cst_17_apply,
    val_main_v58_apply, val_main_v57_apply, val_main_cst_16_apply, vareps]
  have e : ∀ k, idx_main_v57 (idx_main_v58 (ix3 0 R 0)) k = ix3 0 R k := fun k => ext3 _ _ rfl rfl rfl
  simp only [e, val_main_v54_apply, at_v53 x0 x1 x2 x3 x4 x5]
  show Ideal.div (Ideal.ofBits .f32 0x00000000#32 + _) _ + _ = _
  rw [Ideal.ofBits_zero_f32, zero_add]
  rfl

theorem at_v65 : val_main_v65 (F := Ideal) x1 (ix3 0 R 0) = rstd (vrow x0 x1 x2 x3 x4 x5 R) := by
  rw [val_main_v65_apply, at_v64 x0 x1 x2 x3 x4 x5]
  rfl

theorem at_v68 : val_main_v68 (F := Ideal) x1 (ix3 0 R 0) =
    lit 0xBF000000#32 * Ideal.div (rstd (vrow x0 x1 x2 x3 x4 x5 R)) (vareps (vrow x0 x1 x2 x3 x4 x5 R)) := by
  rw [val_main_v68_apply, val_main_v67_apply, val_main_cst_19_apply, val_main_v66_apply, at_v65 x0 x1 x2 x3 x4 x5, at_v64 x0 x1 x2 x3 x4 x5]
  rfl

theorem at_v70 : val_main_v70 (F := Ideal) x1 (ix3 0 R j) = xhat (vrow x0 x1 x2 x3 x4 x5 R) j := by
  rw [val_main_v70_apply, val_main_v69_apply, show idx_main_v69 (ix3 0 R j) = ix3 0 R 0 from ext3 _ _ rfl rfl rfl,
    at_v65 x0 x1 x2 x3 x4 x5, at_v62 x0 x1 x2 x3 x4 x5]
  rfl

theorem at_v72 : val_main_v72 (F := Ideal) x2 (ix3 0 R j) = x2 (ix1 j) := by
  rw [val_main_v72_apply, val_main_v71_apply]
  exact congrArg x2 (ext1 _ _ rfl)

theorem at_v119 : val_main_v119 (F := Ideal) x2 (ix3 0 R j) = x2 (ix1 j) := by
  rw [val_main_v119_apply, val_main_v71_apply]
  exact congrArg x2 (ext1 _ _ rfl)

theorem at_v76 : val_main_v76 (F := Ideal) x1 x2 x3 (ix3 0 R j) = lnorm (vrow x0 x1 x2 x3 x4 x5 R) (rargs x0 x1 x2 x3 x4 x5).w (rargs x0 x1 x2 x3 x4 x5).b j := by
  rw [val_main_v76_apply, val_main_v73_apply, at_v72, at_v70 x0 x1 x2 x3 x4 x5, val_main_v75_apply, val_main_v74_apply]
  rw [lnorm]
  exact congrArg (_ + x3 ·) (ext1 _ _ rfl)

end Norm

end Cert.SpatialGating

end
-- ==== Proof.SpatialGating.RefSums.lean ====
/- The reference's sums that run over several axes, and the product that contracts three, each read at an index of its
   result as a sum over the axes longer than one. -/
module

public import proofs.«01_k».proof.Proof.SpatialGating.RefRows

@[expose] public section

noncomputable section

namespace Cert.SpatialGating

open Idealize.ShloMosaic Cert.ReferenceIdeal Cert.ReferenceIdeal.Gen

/-- The word of zero. -/
theorem zero_bits : (FloatOps.ofBits (F := Ideal) .f32 0x00000000#32 : EReal) = 0 := Ideal.ofBits_zero_f32

/-- The sum over the chunks and the lanes of a head. -/
theorem sum_v101 (y : FVec Ideal S1x16x128x8x128 .f32) (z : FVec Ideal S_ .f32) (q : Fin 1) (t : Fin 128) (h : Fin 8) :
    (Host.reduceAdd y z reducesTo_S1x16x128x8x128_S1x128x8_d1_4 h_S_ (ix3 q t h) : EReal) = z (Shape.Idx.first h_S_) + ∑ n : Fin 16, ∑ c : Fin 128, y (ix5 q n t h c) := by
  change Ideal.hostReduceAdd _ y (z _) _ = _
  refine congrArg (z (Shape.Idx.first h_S_) + ·) ((Finset.sum_filter_eq_sum_of_fiber _ (fun k : Fin 16 × Fin 128 => ix5 q k.1 t h k.2)
    (fun _ _ e => Prod.ext (congrFun e 1) (congrFun e 4)) (fun i => ⟨fun e => ?_, ?_⟩) y).trans ?_)
  · refine ⟨(i 1, i 4), funext fun a => Fin.ext ?_⟩
    match a with
    | ⟨0, _⟩ => exact (congrArg Fin.val (congrFun e ⟨0, by decide⟩)).symm
    | ⟨1, _⟩ => rfl
    | ⟨2, _⟩ => exact (congrArg Fin.val (congrFun e ⟨1, by decide⟩)).symm
    | ⟨3, _⟩ => exact (congrArg Fin.val (congrFun e ⟨2, by decide⟩)).symm
    | ⟨4, _⟩ => rfl
  · rintro ⟨k, rfl⟩
    refine funext fun b => Fin.ext ?_
    match b with
    | ⟨0, _⟩ => rfl
    | ⟨1, _⟩ => rfl
    | ⟨2, _⟩ => rfl
  · simp only [Fintype.sum_prod_type]

/-- A sum over three axes of length one. -/
theorem sum_v103 (y : FVec Ideal S1x1x128x8x1 .f32) (z : FVec Ideal S_ .f32) (t : Fin 128) (h : Fin 8) :
    (Host.reduceAdd y z reducesTo_S1x1x128x8x1_S128x8_d0_1_4 h_S_ (ix2 t h) : EReal) = z (Shape.Idx.first h_S_) + y (ix5 0 0 t h 0) := by
  change Ideal.hostReduceAdd _ y (z _) _ = _
  refine congrArg (z (Shape.Idx.first h_S_) + ·) ((Finset.sum_filter_eq_sum_of_fiber _ (fun k : Fin 1 => ix5 k 0 t h 0)
    (fun _ _ _ => Subsingleton.elim _ _) (fun i => ⟨fun e => ?_, ?_⟩) y).trans ?_)
  · refine ⟨0, funext fun a => Fin.ext ?_⟩
    match a with
    | ⟨0, _⟩ => exact (Nat.lt_one_iff.mp (i 0).isLt).symm
    | ⟨1, _⟩ => exact (Nat.lt_one_iff.mp (i 1).isLt).symm
    | ⟨2, _⟩ => exact (congrArg Fin.val (congrFun e ⟨0, by decide⟩)).symm
    | ⟨3, _⟩ => exact (congrArg Fin.val (congrFun e ⟨1, by decide⟩)).symm
    | ⟨4, _⟩ => exact (Nat.lt_one_iff.mp (i 4).isLt).symm
  · rintro ⟨k, rfl⟩
    refine funext fun b => Fin.ext ?_
    match b with
    | ⟨0, _⟩ => rfl
    | ⟨1, _⟩ => rfl
  · exact Fin.sum_univ_one _

/-- A sum over two axes of length one, before the lanes. -/
theorem sum_v115 (y : FVec Ideal S1x1x1024 .f32) (z : FVec Ideal S_ .f32) (j : Fin 1024) :
    (Host.reduceAdd y z reducesTo_S1x1x1024_S1024_d0_1 h_S_ (ix1 j) : EReal) = z (Shape.Idx.first h_S_) + y (ix3 0 0 j) := by
  change Ideal.hostReduceAdd _ y (z _) _ = _
  refine congrArg (z (Shape.Idx.first h_S_) + ·) ((Finset.sum_filter_eq_sum_of_fiber _ (fun k : Fin 1 => ix3 k 0 j)
    (fun _ _ _ => Subsingleton.elim _ _) (fun i => ⟨fun e => ?_, ?_⟩) y).trans ?_)
  · refine ⟨0, funext fun a => Fin.ext ?_⟩
    match a with
    | ⟨0, _⟩ => exact (Nat.lt_one_iff.mp (i 0).isLt).symm
    | ⟨1, _⟩ => exact (Nat.lt_one_iff.mp (i 1).isLt).symm
    | ⟨2, _⟩ => exact (congrArg Fin.val (congrFun e ⟨0, by decide⟩)).symm
  · rintro ⟨k, rfl⟩
    refine funext fun b => Fin.ext ?_
    match b with
    | ⟨0, _⟩ => rfl
  · exact Fin.sum_univ_one _

/-- A sum over two axes of length one, around the rows. -/
theorem sum_v133 (y : FVec Ideal S1x2048x1 .f32) (z : FVec Ideal S_ .f32) (R : Fin 2048) :
    (Host.reduceAdd y z reducesTo_S1x2048x1_S2048_d0_2 h_S_ (ix1 R) : EReal) = z (Shape.Idx.first h_S_) + y (ix3 0 R 0) := by
  change Ideal.hostReduceAdd _ y (z _) _ = _
  refine congrArg (z (Shape.Idx.first h_S_) + ·) ((Finset.sum_filter_eq_sum_of_fiber _ (fun k : Fin 1 => ix3 k R 0)
    (fun _ _ _ => Subsingleton.elim _ _) (fun i => ⟨fun e => ?_, ?_⟩) y).trans ?_)
  · refine ⟨0, funext fun a => Fin.ext ?_⟩
    match a with
    | ⟨0, _⟩ => exact (Nat.lt_one_iff.mp (i 0).isLt).symm
    | ⟨1, _⟩ => exact (congrArg Fin.val (congrFun e ⟨0, by decide⟩)).symm
    | ⟨2, _⟩ => exact (Nat.lt_one_iff.mp (i 2).isLt).symm
  · rintro ⟨k, rfl⟩
    refine funext fun b => Fin.ext ?_
    match b with
    | ⟨0, _⟩ => rfl
  · exact Fin.sum_univ_one _

/-- The product whose contraction runs over the chunks and the lanes. -/
abbrev dW_dims : DotDims S8x1x16x128x128 S1x16x128x8x128 S8x128x128 := dot_S8x1x16x128x128_S1x16x128x8x128_S8x128x128_123_014_4_2_0_3

/-- The contraction's indices are the pairs of a chunk and a lane. -/
def dW_contr : Fin 16 × Fin 128 ≃ dW_dims.contr.Idx where
  toFun k := fun p => match p with | ⟨0, _⟩ => (0 : Fin 1) | ⟨1, _⟩ => k.1 | ⟨2, _⟩ => k.2
  invFun q := (q ⟨1, by decide⟩, q ⟨2, by decide⟩)
  left_inv _ := rfl
  right_inv q := by
    funext p
    match p with
    | ⟨0, _⟩ => exact (Subsingleton.elim (α := Fin 1) _ _)
    | ⟨1, _⟩ => rfl
    | ⟨2, _⟩ => rfl

section Axes
variable (i : S8x128x128.Idx) (q : dW_dims.contr.Idx)

/-- Axis 0 of the left factor is the head. -/
theorem dW_lhs0 : (dW_dims.lhsIdx i q 0).val = (i 0).val := by
  unfold DotDims.lhsIdx
  rw [dif_pos (show (0 : Fin S8x1x16x128x128.rank) ∈ dW_dims.lhsBatch by decide)]
  rfl

/-- Axis 2 of the left factor is the chunk. -/
theorem dW_lhs2 : (dW_dims.lhsIdx i q 2).val = (q ⟨1, by decide⟩).val := by
  unfold DotDims.lhsIdx
  rw [dif_neg (show ¬(2 : Fin S8x1x16x128x128.rank) ∈ dW_dims.lhsBatch by decide), dif_neg (show ¬(2 : Fin S8x1x16x128x128.rank) ∈ dW_dims.lhsNonContracting by decide)]
  rfl

/-- Axis 3 of the left factor is the lane. -/
theorem dW_lhs3 : (dW_dims.lhsIdx i q 3).val = (q ⟨2, by decide⟩).val := by
  unfold DotDims.lhsIdx
  rw [dif_neg (show ¬(3 : Fin S8x1x16x128x128.rank) ∈ dW_dims.lhsBatch by decide), dif_neg (show ¬(3 : Fin S8x1x16x128x128.rank) ∈ dW_dims.lhsNonContracting by decide)]
  rfl

/-- Axis 4 of the left factor is the row of the result. -/
theorem dW_lhs4 : (dW_dims.lhsIdx i q 4).val = (i 1).val := by
  unfold DotDims.lhsIdx
  rw [dif_neg (show ¬(4 : Fin S8x1x16x128x128.rank) ∈ dW_dims.lhsBatch by decide), dif_pos (show (4 : Fin S8x1x16x128x128.rank) ∈ dW_dims.lhsNonContracting by decide)]
  rfl

/-- Axis 1 of the right factor is the chunk. -/
theorem dW_rhs1 : (dW_dims.rhsIdx i q 1).val = (q ⟨1, by decide⟩).val := by
  unfold DotDims.rhsIdx
  rw [dif_neg (show ¬(1 : Fin S1x16x128x8x128.rank) ∈ dW_dims.rhsBatch by decide), dif_neg (show ¬(1 : Fin S1x16x128x8x128.rank) ∈ dW_dims.rhsNonContracting by decide)]
  rfl

/-- Axis 2 of the right factor is the column of the result. -/
theorem dW_rhs2 : (dW_dims.rhsIdx i q 2).val = (i 2).val := by
  unfold DotDims.rhsIdx
  rw [dif_neg (show ¬(2 : Fin S1x16x128x8x128.rank) ∈ dW_dims.rhsBatch by decide), dif_pos (show (2 : Fin S1x16x128x8x128.rank) ∈ dW_dims.rhsNonContracting by decide)]
  rfl

/-- Axis 3 of the right factor is the head. -/
theorem dW_rhs3 : (dW_dims.rhsIdx i q 3).val = (i 0).val := by
  unfold DotDims.rhsIdx
  rw [dif_pos (show (3 : Fin S1x16x128x8x128.rank) ∈ dW_dims.rhsBatch by decide)]
  rfl

/-- Axis 4 of the right factor is the lane. -/
theorem dW_rhs4 : (dW_dims.rhsIdx i q 4).val = (q ⟨2, by decide⟩).val := by
  unfold DotDims.rhsIdx
  rw [dif_neg (show ¬(4 : Fin S1x16x128x8x128.rank) ∈ dW_dims.rhsBatch by decide), dif_neg (show ¬(4 : Fin S1x16x128x8x128.rank) ∈ dW_dims.rhsNonContracting by decide)]
  rfl

end Axes

/-- The product at head `h`, row `t` and column `s`. -/
theorem dot_v108 (x : FVec Ideal S8x1x16x128x128 .f32) (y : FVec Ideal S1x16x128x8x128 .f32) (h : Fin 8) (t s : Fin 128) :
    (Host.dotGeneral dW_dims none x y (ix3 h t s) : EReal) = ∑ n : Fin 16, ∑ c : Fin 128, x (ix5 h 0 n c t) * y (ix5 0 n s h c) := by
  simp only [Host.dotGeneral]
  rw [Ideal.dotGeneral_apply, ← Equiv.sum_comp dW_contr]
  simp only [Fintype.sum_prod_type]
  refine Finset.sum_congr rfl fun n _ => Finset.sum_congr rfl fun c _ => congrArg₂ (fun a b : EReal => a * b) (congrArg x ?_) (congrArg y ?_)
  · exact ext5 _ _ (dW_lhs0 _ _) (Nat.lt_one_iff.mp (Fin.isLt _)) (dW_lhs2 _ _) (dW_lhs3 _ _) (dW_lhs4 _ _)
  · exact ext5 _ _ (Nat.lt_one_iff.mp (Fin.isLt _)) (dW_rhs1 _ _) (dW_rhs2 _ _) (dW_rhs3 _ _) (dW_rhs4 _ _)

/-- A sum over all the rows, chunk by chunk. -/
theorem sum_rows (f : Fin 2048 → EReal) : ∑ R, f R = ∑ n : Fin 16, ∑ t : Fin 128, f (rowOf n t) :=
  (Fin.sum_univ_tiles 16 128 rfl f).trans (Finset.sum_congr rfl fun n _ => Finset.sum_congr rfl fun t _ =>
    congrArg f (Fin.ext (congrArg (· + t.val) (Nat.mul_comm n.val 128))))

end Cert.SpatialGating

end
-- ==== Proof.SpatialGating.RefGrads.lean ====
/- The reference's stages at an index, second half: the mixing of a chunk, its cotangents, and the seven gradients. -/
module

public import proofs.«01_k».proof.Proof.SpatialGating.RefSums

@[expose] public section

noncomputable section

namespace Cert.SpatialGating

open Idealize.ShloMosaic Cert.ReferenceIdeal Cert.ReferenceIdeal.Gen Cert.ReferenceIdeal.Read

variable (x0 : FVec Ideal S2048x1024 .f32) (x1 : FVec Ideal S2048x6400 .f32) (x2 x3 : FVec Ideal S1024 .f32)
  (x4 : FVec Ideal S8x128x128 .f32) (x5 : FVec Ideal S8x128 .f32)

section Mixing
variable (n : Fin 16) (h : Fin 8) (t s c : Fin 128) (j : Fin 1024)

/-- The comparison of two small words as numbers. -/
theorem word_ge (a b : Fin 128) : IntOp.cmpi .sge (IntOp.addi (BitVec.ofNat 32 a.val) 0#32) (BitVec.ofNat 32 b.val) = if b ≤ a then 1#1 else 0#1 := by
  have e : ∀ k : Fin 128, (BitVec.ofNat 32 k.val).toInt = k.val := fun k => by
    rw [BitVec.toInt_eq_toNat_of_lt] <;> simp <;> omega
  rw [show IntOp.addi (BitVec.ofNat 32 a.val) 0#32 = BitVec.ofNat 32 a.val from BitVec.add_zero _]
  change BitVec.ofBool (decide ((BitVec.ofNat 32 b.val).toInt ≤ (BitVec.ofNat 32 a.val).toInt)) = _
  rw [e, e]
  by_cases hb : b ≤ a
  · rw [if_pos hb, decide_eq_true (by exact_mod_cast hb)]; rfl
  · rw [if_neg hb, decide_eq_false (by exact_mod_cast hb)]; rfl

/-- The mask of the lower triangle. -/
theorem at_mask : val_main_v82_1 (F := Ideal) (ix3 h t s) = if s ≤ t then 1#1 else 0#1 := by
  rw [val_main_v82_1_apply, val_main_v80_apply, val_main_v79_apply, val_main_call0_v4_apply, val_main_call0_v2_apply, val_main_call0_v0_apply,
    val_main_call0_v1_apply, val_main_call0_c_apply, val_main_call0_v3_apply, val_main_v78_apply, val_main_c_apply, val_main_call0_v5_apply,
    val_main_call0_c_0_apply]
  refine (congrArg (fun b => Scalar.select b 1#1 0#1) (word_ge t s)).trans ?_
  by_cases hb : s ≤ t
  · rw [if_pos hb]; rfl
  · rw [if_neg hb]; rfl

/-- The triangle of a head's mixing matrix. -/
theorem at_v82_0 : val_main_v82_0 (F := Ideal) x4 (ix3 h t s) = tri (rargs x0 x1 x2 x3 x4 x5).W h t s := by
  rw [val_main_v82_0_apply, at_mask, val_main_v81_apply, val_main_cst_20_apply, zero_bits, tri]
  by_cases hb : s ≤ t
  · rw [if_pos hb, if_pos hb]; rfl
  · rw [if_neg hb, if_neg hb]; rfl

/-- The place of a chunk's row and a head's lane in the whole array. -/
theorem place (n : Fin 16) (t : Fin 128) (h : Fin 8) (c : Fin 128) : idx_main_v77 (ix5 0 n t h c) = ix3 0 (rowOf n t) (lane h c) :=
  ext3 _ _ rfl
    (by show ((((0 * 16 + n.val) * 128 + t.val) * 8 + h.val) * 128 + c.val) / 1024 % 2048 = 128 * n.val + t.val; omega)
    (by show ((((0 * 16 + n.val) * 128 + t.val) * 8 + h.val) * 128 + c.val) % 1024 = 128 * h.val + c.val; omega)

/-- The chunk, row, head and lane of a place in the whole array. -/
theorem unplace (n : Fin 16) (t : Fin 128) (j : Fin 1024) :
    idx_main_v90 (ix3 0 (rowOf n t) j) = ix5 0 n t (head j) ⟨j.val % 128, by omega⟩ :=
  ext5 _ _ rfl
    (by show ((0 * 2048 + (128 * n.val + t.val)) * 1024 + j.val) / 131072 % 16 = n.val; omega)
    (by show ((0 * 2048 + (128 * n.val + t.val)) * 1024 + j.val) / 1024 % 128 = t.val; omega)
    (by show ((0 * 2048 + (128 * n.val + t.val)) * 1024 + j.val) / 128 % 8 = j.val / 128; omega)
    (by show ((0 * 2048 + (128 * n.val + t.val)) * 1024 + j.val) % 128 = j.val % 128; omega)

/-- A lane from its head and its place in the head. -/
theorem lane_split (j : Fin 1024) : lane (head j) ⟨j.val % 128, by omega⟩ = j := Fin.ext (by show 128 * (j.val / 128) + j.val % 128 = j.val; omega)

/-- The normalised rows, by chunk and head. -/
theorem at_v77 : val_main_v77 (F := Ideal) x1 x2 x3 (ix5 0 n s h c) = (rargs x0 x1 x2 x3 x4 x5).V n s (lane h c) := by
  rw [val_main_v77_apply, place, at_v76 x0 x1 x2 x3 x4 x5]
  rfl

/-- The mixed block, by chunk and head. -/
theorem at_v89 : val_main_v89 (F := Ideal) x1 x2 x3 x4 x5 (ix5 0 n t h c) = (rargs x0 x1 x2 x3 x4 x5).mix n t (lane h c) := by
  rw [val_main_v89_apply, val_main_v84_apply, val_main_v83_apply, val_main_v88_apply, val_main_v87_apply, val_main_v86_apply, val_main_v85_apply]
  have el : ∀ k, lidx_main_v83 (idx_main_v84 (ix5 0 n t h c)) k = ix5 0 n k h c := fun k => ext5 _ _ rfl rfl rfl rfl rfl
  have er : ∀ k, ridx_main_v83 (idx_main_v84 (ix5 0 n t h c)) k = ix3 h t k := fun k => ext3 _ _ rfl rfl rfl
  have eb : idx_main_v85 (idx_main_v86 (idx_main_v87 (idx_main_v88 (ix5 0 n t h c)))) = ix2 h t := ext2 _ _ rfl rfl
  simp only [el, er, eb, at_v77 x0 x1 x2 x3 x4 x5, at_v82_0 x0 x1 x2 x3 x4 x5]
  rw [Args.mix, mixed, head_lane]
  exact congrArg (· + x5 (ix2 h t)) (Finset.sum_congr rfl fun k _ => mul_comm _ _)

/-- The mixed block, by row and lane. -/
theorem at_v90 : val_main_v90 (F := Ideal) x1 x2 x3 x4 x5 (ix3 0 (rowOf n t) j) = (rargs x0 x1 x2 x3 x4 x5).mix n t j := by
  rw [val_main_v90_apply, unplace, at_v89 x0, lane_split]

/-- The gradient of `z`. -/
theorem at_v97 : val_main_v97 (F := Ideal) x0 x1 x2 x3 x4 x5 (ix3 0 (rowOf n t) j) = (rargs x0 x1 x2 x3 x4 x5).gz n t j := by
  rw [val_main_v97_apply, val_main_call3_v1_apply, val_main_call3_v2_apply, val_main_call3_v0_apply, val_main_v95_apply, val_main_v91_apply,
    at_v90 x0, at_v26, at_v94, at_v92_2, at_v92_1, at_v5]
  rfl

/-- The cotangent of silu times the mixed block. -/
theorem at_v96 : val_main_v96 (F := Ideal) x0 x1 (ix3 0 (rowOf n t) j) = (rargs x0 x1 x2 x3 x4 x5).dy (rowOf n t) j * sil ((rargs x0 x1 x2 x3 x4 x5).z (rowOf n t) j) := by
  rw [val_main_v96_apply, at_v94, at_v92_0]
  rfl

/-- The cotangent of the mixed block. -/
theorem at_v98 : val_main_v98 (F := Ideal) x0 x1 (ix3 0 (rowOf n t) j) = (rargs x0 x1 x2 x3 x4 x5).D n t j := by
  rw [val_main_v98_apply, at_v26, at_v96 x0 x1 x2 x3 x4 x5]
  rfl

/-- The cotangent of gelu of `u`. -/
theorem at_v99 : val_main_v99 (F := Ideal) x0 x1 x2 x3 x4 x5 (ix3 0 (rowOf n t) j) =
    (rargs x0 x1 x2 x3 x4 x5).dy (rowOf n t) j * sil ((rargs x0 x1 x2 x3 x4 x5).z (rowOf n t) j) * (rargs x0 x1 x2 x3 x4 x5).mix n t j := by
  rw [val_main_v99_apply, at_v96 x0 x1 x2 x3 x4 x5, at_v90 x0]
  rfl

/-- The gradient of `u`. -/
theorem at_v171 : val_main_v171 (F := Ideal) x0 x1 x2 x3 x4 x5 (ix3 0 (rowOf n t) j) = (rargs x0 x1 x2 x3 x4 x5).gu n t j := by
  simp only [val_main_v171_apply, val_main_v170_apply, val_main_v169_apply, val_main_v168_apply, val_main_cst_40_apply, val_main_v167_apply,
    val_main_v166_apply, val_main_v165_apply, val_main_cst_39_apply, val_main_v164_apply, val_main_v163_apply, val_main_v162_apply,
    val_main_cst_38_apply, val_main_v161_apply, val_main_v160_apply, at_v99, at_v1, at_v25, at_v21, at_v10]
  rfl

/-- The cotangent of the mixed block, by chunk and head. -/
theorem at_v100 : val_main_v100 (F := Ideal) x0 x1 (ix5 0 n t h c) = (rargs x0 x1 x2 x3 x4 x5).D n t (lane h c) := by
  rw [val_main_v100_apply]
  exact (congrArg (val_main_v98 (F := Ideal) x0 x1) (place n t h c)).trans (at_v98 x0 x1 x2 x3 x4 x5 n t (lane h c))

/-- The gradient of the mixing biases. -/
theorem at_v177 (q : Fin 1) : val_main_v177 (F := Ideal) x0 x1 (ix3 h t q) = ∑ n, (rargs x0 x1 x2 x3 x4 x5).cB n h t := by
  rw [val_main_v177_apply, val_main_v106_apply, val_main_v105_apply, Fin.sum_univ_one, val_main_v104_apply]
  have e : idx_main_v104 (idx_main_v105 (idx_main_v106 (idx_main_v177 (ix3 h t q))) 0) = ix2 t h := ext2 _ _ rfl rfl
  have e' : idx_main_v102 (ix5 0 0 t h 0) = ix3 0 t h := ext3 _ _ rfl
    (by show ((((0 * 1 + 0) * 128 + t.val) * 8 + h.val) * 1 + 0) / 8 % 128 = t.val; omega)
    (by show ((((0 * 1 + 0) * 128 + t.val) * 8 + h.val) * 1 + 0) % 8 = h.val; omega)
  rw [e, val_main_v103, sum_v103, val_main_v102_apply, e', val_main_v101, sum_v101]
  simp only [at_v100 x0 x1 x2 x3 x4 x5, val_main_cst_21_apply, val_main_cst_22_apply, val_main_cst_23_apply, zero_bits, zero_add]
  rfl

/-- The gradient of the mixing matrices. -/
theorem at_v111 : val_main_v111 (F := Ideal) x0 x1 x2 x3 (ix3 h t s) = ∑ n, (rargs x0 x1 x2 x3 x4 x5).cW n h t s := by
  rw [val_main_v111_apply, at_mask, val_main_call4_v0_apply, val_main_call4_cst_apply, zero_bits, val_main_v108, dot_v108]
  have e : ∀ n c, idx_main_v107 (ix5 h 0 n c t) = ix5 0 n t h c := fun n c => ext5 _ _ rfl rfl rfl rfl rfl
  simp only [val_main_v107_apply, e, at_v100 x0 x1 x2 x3 x4 x5, at_v77 x0 x1 x2 x3 x4 x5, Args.cW]
  by_cases hb : s ≤ t
  · simp only [if_pos hb]; rfl
  · simp only [if_neg hb, Finset.sum_const_zero]; rfl

/-- The cotangent of the normalised rows. -/
theorem at_v112 : val_main_v112 (F := Ideal) x0 x1 x4 (ix3 0 (rowOf n s) j) = (rargs x0 x1 x2 x3 x4 x5).dV n s j := by
  rw [val_main_v112_apply, show idx_main_v112 (ix3 0 (rowOf n s) j) = _ from unplace n s j, val_main_v110_apply, val_main_v109_apply, Args.dV, dmixed]
  refine Finset.sum_congr rfl fun t _ => ?_
  rw [val_main_v107_apply,
    show idx_main_v107 (lidx_main_v109 (idx_main_v110 (ix5 0 n s (head j) ⟨j.val % 128, by omega⟩)) t) = ix5 0 n t (head j) ⟨j.val % 128, by omega⟩ from
      ext5 _ _ rfl rfl rfl rfl rfl,
    show ridx_main_v109 (idx_main_v110 (ix5 0 n s (head j) ⟨j.val % 128, by omega⟩)) t = ix3 (head j) t s from ext3 _ _ rfl rfl rfl,
    at_v100 x0 x1 x2 x3 x4 x5, at_v82_0 x0 x1 x2 x3 x4 x5, lane_split, mul_comm]

/-- The gradient of the layer norm's bias. -/
theorem at_v176 (q : Fin 1) : val_main_v176 (F := Ideal) x0 x1 x4 (ix2 q j) = ∑ n, (rargs x0 x1 x2 x3 x4 x5).cb n j := by
  rw [val_main_v176_apply, show idx_main_v176 (ix2 q j) = ix1 j from ext1 _ _ rfl, val_main_v115, sum_v115, val_main_v114_apply, val_main_v113_apply,
    sum_rows, val_main_cst_24_apply, val_main_cst_25_apply, zero_bits, zero_add, zero_add]
  refine Finset.sum_congr rfl fun n _ => Finset.sum_congr rfl fun s _ => ?_
  rw [← at_v112]
  exact congrArg (val_main_v112 (F := Ideal) x0 x1 x4) (ext3 _ _ rfl rfl (Nat.mod_eq_of_lt (by show (0 * 1 + 0) * 1024 + j.val < 1024; omega) |>.trans (by show (0 * 1 + 0) * 1024 + j.val = j.val; omega)))

/-- The gradient of the layer norm's weight. -/
theorem at_v175 (q : Fin 1) : val_main_v175 (F := Ideal) x0 x1 x4 (ix2 q j) = ∑ n, (rargs x0 x1 x2 x3 x4 x5).cw n j := by
  rw [val_main_v175_apply, show idx_main_v175 (ix2 q j) = ix1 j from ext1 _ _ rfl, val_main_v121, sum_v115, val_main_v118_apply, val_main_v117_apply,
    sum_rows, val_main_cst_26_apply, val_main_cst_27_apply, zero_bits, zero_add, zero_add]
  refine Finset.sum_congr rfl fun n _ => Finset.sum_congr rfl fun s _ => ?_
  rw [← at_v112, ← at_v70 x0 x1 x2 x3 x4 x5]
  exact congrArg (val_main_v116 (F := Ideal) x0 x1 x4) (ext3 _ _ rfl rfl (Nat.mod_eq_of_lt (by show (0 * 1 + 0) * 1024 + j.val < 1024; omega) |>.trans (by show (0 * 1 + 0) * 1024 + j.val = j.val; omega)))

end Mixing

section Norm
variable (n : Fin 16) (s : Fin 128) (j : Fin 1024)

/-- The cotangent of the normalised row. -/
theorem at_v120 : val_main_v120 (F := Ideal) x0 x1 x2 x4 (ix3 0 (rowOf n s) j) = dxh (rargs x0 x1 x2 x3 x4 x5).w ((rargs x0 x1 x2 x3 x4 x5).dV n s) j := by
  rw [val_main_v120_apply, at_v112 x0 x1 x2 x3 x4 x5, at_v119]
  rfl

/-- The part of the cotangent through the normalised row. -/
theorem at_v126 : val_main_v126 (F := Ideal) x0 x1 x2 x4 (ix3 0 (rowOf n s) j) = dcen (vrow x0 x1 x2 x3 x4 x5 (rowOf n s)) (rargs x0 x1 x2 x3 x4 x5).w ((rargs x0 x1 x2 x3 x4 x5).dV n s) j := by
  rw [val_main_v126_apply, at_v120 x0 x1 x2 x3 x4 x5, val_main_v125_apply, show idx_main_v125 (ix3 0 (rowOf n s) j) = ix3 0 (rowOf n s) 0 from ext3 _ _ rfl rfl rfl,
    at_v65 x0 x1 x2 x3 x4 x5]
  rfl

/-- The sum along a row that the cotangent of the variance starts from. -/
theorem at_v124 : val_main_v124 (F := Ideal) x0 x1 x2 x4 (ix3 0 (rowOf n s) 0) = ∑ j, cen (vrow x0 x1 x2 x3 x4 x5 (rowOf n s)) j * dxh (rargs x0 x1 x2 x3 x4 x5).w ((rargs x0 x1 x2 x3 x4 x5).dV n s) j := by
  rw [val_main_v124_apply, val_main_v123_apply, val_main_cst_28_apply, zero_bits, zero_add]
  refine Finset.sum_congr rfl fun k _ => ?_
  rw [show idx_main_v123 (idx_main_v124 (ix3 0 (rowOf n s) 0)) k = ix3 0 (rowOf n s) k from ext3 _ _ rfl
    (by show ((0 * 2048 + (128 * n.val + s.val)) * 1 + 0) % 2048 = 128 * n.val + s.val; omega) rfl, val_main_v122_apply,
    at_v62 x0 x1 x2 x3 x4 x5, at_v120 x0 x1 x2 x3 x4 x5]
  rfl

/-- The cotangent of the variance. -/
theorem at_v135 : val_main_v135 (F := Ideal) x0 x1 x2 x4 (ix3 0 (rowOf n s) j) = dvar (vrow x0 x1 x2 x3 x4 x5 (rowOf n s)) (rargs x0 x1 x2 x3 x4 x5).w ((rargs x0 x1 x2 x3 x4 x5).dV n s) := by
  rw [val_main_v135_apply, val_main_v134_apply, show idx_main_v134 (idx_main_v135 (ix3 0 (rowOf n s) j)) = ix1 (rowOf n s) from ext1 _ _ rfl,
    val_main_v133, sum_v133, val_main_cst_31_apply, zero_bits, zero_add, val_main_v132_apply, val_main_v131_apply, val_main_cst_30_apply,
    val_main_v127_apply, at_v124 x0 x1 x2 x3 x4 x5, at_v68 x0 x1 x2 x3 x4 x5]
  rfl

/-- The part of the cotangent through the variance. -/
theorem at_v136 : val_main_v136 (F := Ideal) x0 x1 x2 x4 (ix3 0 (rowOf n s) j) = dsq (vrow x0 x1 x2 x3 x4 x5 (rowOf n s)) (rargs x0 x1 x2 x3 x4 x5).w ((rargs x0 x1 x2 x3 x4 x5).dV n s) j := by
  rw [val_main_v136_apply, at_v135 x0 x1 x2 x3 x4 x5, at_v56 x0 x1 x2 x3 x4 x5]
  rfl

/-- The sum of the first part along a row, with its sign. -/
theorem at_v130 : val_main_v130 (F := Ideal) x0 x1 x2 x4 (ix3 0 (rowOf n s) 0) = ∑ j, -dcen (vrow x0 x1 x2 x3 x4 x5 (rowOf n s)) (rargs x0 x1 x2 x3 x4 x5).w ((rargs x0 x1 x2 x3 x4 x5).dV n s) j := by
  rw [val_main_v130_apply, val_main_v129_apply, val_main_cst_29_apply, zero_bits, zero_add]
  refine Finset.sum_congr rfl fun k _ => ?_
  rw [show idx_main_v129 (idx_main_v130 (ix3 0 (rowOf n s) 0)) k = ix3 0 (rowOf n s) k from ext3 _ _ rfl
    (by show ((0 * 2048 + (128 * n.val + s.val)) * 1 + 0) % 2048 = 128 * n.val + s.val; omega) rfl, val_main_v128_apply, at_v126 x0 x1 x2 x3 x4 x5]
  rfl

/-- The sum of the second part along a row, with its sign. -/
theorem at_v139 : val_main_v139 (F := Ideal) x0 x1 x2 x4 (ix3 0 (rowOf n s) 0) = ∑ j, -dsq (vrow x0 x1 x2 x3 x4 x5 (rowOf n s)) (rargs x0 x1 x2 x3 x4 x5).w ((rargs x0 x1 x2 x3 x4 x5).dV n s) j := by
  rw [val_main_v139_apply, val_main_v138_apply, val_main_cst_32_apply, zero_bits, zero_add]
  refine Finset.sum_congr rfl fun k _ => ?_
  rw [show idx_main_v138 (idx_main_v139 (ix3 0 (rowOf n s) 0)) k = ix3 0 (rowOf n s) k from ext3 _ _ rfl
    (by show ((0 * 2048 + (128 * n.val + s.val)) * 1 + 0) % 2048 = 128 * n.val + s.val; omega) rfl, val_main_v137_apply, at_v136 x0 x1 x2 x3 x4 x5]
  rfl

/-- The cotangent of the mean. -/
theorem at_v146 : val_main_v146 (F := Ideal) x0 x1 x2 x4 (ix3 0 (rowOf n s) j) = dmean (vrow x0 x1 x2 x3 x4 x5 (rowOf n s)) (rargs x0 x1 x2 x3 x4 x5).w ((rargs x0 x1 x2 x3 x4 x5).dV n s) := by
  rw [val_main_v146_apply, val_main_v145_apply, show idx_main_v145 (idx_main_v146 (ix3 0 (rowOf n s) j)) = ix1 (rowOf n s) from ext1 _ _ rfl,
    val_main_v144, sum_v133, val_main_cst_34_apply, zero_bits, zero_add, val_main_v143_apply, val_main_v142_apply, val_main_cst_33_apply,
    val_main_v141_apply, at_v130 x0 x1 x2 x3 x4 x5, at_v139 x0 x1 x2 x3 x4 x5]
  rfl

/-- The cotangent of gelu of `v`. -/
theorem at_v147 : val_main_v147 (F := Ideal) x0 x1 x2 x4 (ix3 0 (rowOf n s) j) = dgel (vrow x0 x1 x2 x3 x4 x5 (rowOf n s)) (rargs x0 x1 x2 x3 x4 x5).w ((rargs x0 x1 x2 x3 x4 x5).dV n s) j := by
  rw [val_main_v147_apply, val_main_v140_apply, at_v126 x0 x1 x2 x3 x4 x5, at_v136 x0 x1 x2 x3 x4 x5, at_v146 x0 x1 x2 x3 x4 x5]
  rfl

/-- The gradient of `v`. -/
theorem at_v159 : val_main_v159 (F := Ideal) x0 x1 x2 x4 (ix3 0 (rowOf n s) j) = (rargs x0 x1 x2 x3 x4 x5).gv n s j := by
  simp only [val_main_v159_apply, val_main_v158_apply, val_main_v157_apply, val_main_v156_apply, val_main_cst_37_apply, val_main_v155_apply,
    val_main_v154_apply, val_main_v153_apply, val_main_cst_36_apply, val_main_v152_apply, val_main_v151_apply, val_main_v150_apply,
    val_main_cst_35_apply, val_main_v149_apply, val_main_v148_apply, at_v147 x0 x1 x2 x3 x4 x5, at_v3, at_v46, at_v42, at_v31]
  rfl

/-- The place of a row and a lane in the flattened array. -/
theorem flat_place (R : Fin 2048) (j : Fin 1024) : idx_main_v172 (ix2 R j) = ix3 0 R j :=
  ext3 _ _ rfl (by show (R.val * 1024 + j.val) / 1024 % 2048 = R.val; omega) (by show (R.val * 1024 + j.val) % 1024 = j.val; omega)

/-- The first result: the gradient of `u`. -/
theorem at_v172 : val_main_v172 (F := Ideal) x0 x1 x2 x3 x4 x5 (ix2 (rowOf n s) j) = (rargs x0 x1 x2 x3 x4 x5).gu n s j := by
  rw [val_main_v172_apply, flat_place, at_v171]

/-- The second result: the gradient of `v`. -/
theorem at_v173 : val_main_v173 (F := Ideal) x0 x1 x2 x4 (ix2 (rowOf n s) j) = (rargs x0 x1 x2 x3 x4 x5).gv n s j := by
  rw [val_main_v173_apply]
  exact (congrArg (val_main_v159 (F := Ideal) x0 x1 x2 x4) (flat_place (rowOf n s) j)).trans (at_v159 x0 x1 x2 x3 x4 x5 n s j)

/-- The third result: the gradient of `z`. -/
theorem at_v174 : val_main_v174 (F := Ideal) x0 x1 x2 x3 x4 x5 (ix2 (rowOf n s) j) = (rargs x0 x1 x2 x3 x4 x5).gz n s j := by
  rw [val_main_v174_apply]
  exact (congrArg (val_main_v97 (F := Ideal) x0 x1 x2 x3 x4 x5) (flat_place (rowOf n s) j)).trans (at_v97 x0 x1 x2 x3 x4 x5 n s j)

end Norm

end Cert.SpatialGating

end
-- ==== Proof.SpatialGating.Results.lean ====
/- What the reference leaves in its seven results, and the two programs against each other: from equal arguments every
   result of the kernel is the reference's, entry by entry. -/
module

public import proofs.«01_k».proof.Proof.SpatialGating.Arrays
public import proofs.«01_k».proof.Proof.SpatialGating.RefGrads
public import proofs.«01_k».proof.Proof.Gen.ReferenceIdeal.Run

@[expose] public section

noncomputable section

namespace Cert.SpatialGating

open Idealize.ShloMosaic Idealize.ShloMosaic.TcCoe Idealize.SL.Sem

/-- The memory a run of the kernel starts from. -/
abbrev KMem := (ℓ : Loc Cert.KernelIdeal.nD Cert.KernelIdeal.τ Cert.KernelIdeal.sig) → Buf (Elt Ideal) ℓ

/-- The memory a run of the reference starts from. -/
abbrev RMem := (ℓ : Loc Cert.ReferenceIdeal.nD Cert.ReferenceIdeal.τ Cert.ReferenceIdeal.sig) → Buf (Elt Ideal) ℓ

variable (m : KMem) (c : Dev Cert.KernelIdeal.nD)

/-- Argument 0 of the kernel. -/
abbrev karg0 : FVec Ideal Cert.ReferenceIdeal.S2048x1024 .f32 := m ((c.tc : Thread Cert.KernelIdeal.nD Cert.KernelIdeal.τ).loc Cert.KernelIdeal.main_arg0)

/-- Argument 1 of the kernel. -/
abbrev karg1 : FVec Ideal Cert.ReferenceIdeal.S2048x6400 .f32 := m ((c.tc : Thread Cert.KernelIdeal.nD Cert.KernelIdeal.τ).loc Cert.KernelIdeal.main_arg1)

/-- Argument 2 of the kernel. -/
abbrev karg2 : FVec Ideal Cert.ReferenceIdeal.S1024 .f32 := m ((c.tc : Thread Cert.KernelIdeal.nD Cert.KernelIdeal.τ).loc Cert.KernelIdeal.main_arg2)

/-- Argument 3 of the kernel. -/
abbrev karg3 : FVec Ideal Cert.ReferenceIdeal.S1024 .f32 := m ((c.tc : Thread Cert.KernelIdeal.nD Cert.KernelIdeal.τ).loc Cert.KernelIdeal.main_arg3)

/-- Argument 4 of the kernel. -/
abbrev karg4 : FVec Ideal Cert.ReferenceIdeal.S8x128x128 .f32 := m ((c.tc : Thread Cert.KernelIdeal.nD Cert.KernelIdeal.τ).loc Cert.KernelIdeal.main_arg4)

/-- Argument 5 of the kernel. -/
abbrev karg5 : FVec Ideal Cert.ReferenceIdeal.S8x128 .f32 := m ((c.tc : Thread Cert.KernelIdeal.nD Cert.KernelIdeal.τ).loc Cert.KernelIdeal.main_arg5)

/-- The kernel's arguments, read by either program. -/
theorem kargs_eq : kargs m c = rargs (karg0 m c) (karg1 m c) (karg2 m c) (karg3 m c) (karg4 m c) (karg5 m c) := rfl

/-- A row of the whole array by its chunk. -/
theorem rowOf_split (R : Fin 2048) : rowOf ⟨R.val / 128, by omega⟩ ⟨R.val % 128, by omega⟩ = R := Fin.ext (by show 128 * (R.val / 128) + R.val % 128 = R.val; omega)

/-- The kernel's array of gradients `gu` is the reference's. -/
theorem same_gu : ((Cert.KernelIdeal.Gen.dats m 0 c).arrAt 8 Cert.KernelIdeal.cfg0.N : FVec Ideal Cert.ReferenceIdeal.S2048x1024 .f32) = Cert.ReferenceIdeal.Read.val_main_v172 (F := Ideal) (karg0 m c) (karg1 m c) (karg2 m c) (karg3 m c) (karg4 m c) (karg5 m c) := by
  funext i
  obtain ⟨e⟩ : Nonempty (i = ix2 (rowOf ⟨(i 0).val / 128, by have := (i 0).isLt; exact Nat.div_lt_of_lt_mul this⟩ ⟨(i 0).val % 128, Nat.mod_lt _ (by decide)⟩) (i 1)) :=
    ⟨ext2 _ _ (Nat.div_add_mod _ _).symm rfl⟩
  rw [e]
  exact (array_gu m c _ _ _).trans ((congrArg (fun a : Args => a.gu _ _ _) (kargs_eq m c)).trans (at_v172 (karg0 m c) (karg1 m c) (karg2 m c) (karg3 m c) (karg4 m c) (karg5 m c) _ _ _).symm)

/-- The kernel's array of gradients `gv` is the reference's. -/
theorem same_gv : ((Cert.KernelIdeal.Gen.dats m 0 c).arrAt 9 Cert.KernelIdeal.cfg0.N : FVec Ideal Cert.ReferenceIdeal.S2048x1024 .f32) = Cert.ReferenceIdeal.Read.val_main_v173 (F := Ideal) (karg0 m c) (karg1 m c) (karg2 m c) (karg4 m c) := by
  funext i
  obtain ⟨e⟩ : Nonempty (i = ix2 (rowOf ⟨(i 0).val / 128, by have := (i 0).isLt; exact Nat.div_lt_of_lt_mul this⟩ ⟨(i 0).val % 128, Nat.mod_lt _ (by decide)⟩) (i 1)) :=
    ⟨ext2 _ _ (Nat.div_add_mod _ _).symm rfl⟩
  rw [e]
  exact (array_gv m c _ _ _).trans ((congrArg (fun a : Args => a.gv _ _ _) (kargs_eq m c)).trans (at_v173 (karg0 m c) (karg1 m c) (karg2 m c) (karg3 m c) (karg4 m c) (karg5 m c) _ _ _).symm)

/-- The kernel's array of gradients `gz` is the reference's. -/
theorem same_gz : ((Cert.KernelIdeal.Gen.dats m 0 c).arrAt 10 Cert.KernelIdeal.cfg0.N : FVec Ideal Cert.ReferenceIdeal.S2048x1024 .f32) = Cert.ReferenceIdeal.Read.val_main_v174 (F := Ideal) (karg0 m c) (karg1 m c) (karg2 m c) (karg3 m c) (karg4 m c) (karg5 m c) := by
  funext i
  obtain ⟨e⟩ : Nonempty (i = ix2 (rowOf ⟨(i 0).val / 128, by have := (i 0).isLt; exact Nat.div_lt_of_lt_mul this⟩ ⟨(i 0).val % 128, Nat.mod_lt _ (by decide)⟩) (i 1)) :=
    ⟨ext2 _ _ (Nat.div_add_mod _ _).symm rfl⟩
  rw [e]
  exact (array_gz m c _ _ _).trans ((congrArg (fun a : Args => a.gz _ _ _) (kargs_eq m c)).trans (at_v174 (karg0 m c) (karg1 m c) (karg2 m c) (karg3 m c) (karg4 m c) (karg5 m c) _ _ _).symm)

/-- The kernel's accumulated gradient `dlnw` is the reference's. -/
theorem same_dlnw : ((Cert.KernelIdeal.Gen.dats m 0 c).arrAt 11 Cert.KernelIdeal.cfg0.N : FVec Ideal Cert.ReferenceIdeal.S1x1024 .f32) = Cert.ReferenceIdeal.Read.val_main_v175 (F := Ideal) (karg0 m c) (karg1 m c) (karg4 m c) := by
  refine (array_dlnw m c).trans ?_
  funext i
  obtain ⟨e⟩ : Nonempty (i = ix2 (i 0) (i 1)) := ⟨ext2 _ _ rfl rfl⟩
  rw [e]
  exact (total_dlnw m c _ _).trans ((congrArg (fun a : Args => ∑ n, a.cw n _) (kargs_eq m c)).trans (at_v175 (karg0 m c) (karg1 m c) (karg2 m c) (karg3 m c) (karg4 m c) (karg5 m c) _ _).symm)

/-- The kernel's accumulated gradient `dlnb` is the reference's. -/
theorem same_dlnb : ((Cert.KernelIdeal.Gen.dats m 0 c).arrAt 12 Cert.KernelIdeal.cfg0.N : FVec Ideal Cert.ReferenceIdeal.S1x1024 .f32) = Cert.ReferenceIdeal.Read.val_main_v176 (F := Ideal) (karg0 m c) (karg1 m c) (karg4 m c) := by
  refine (array_dlnb m c).trans ?_
  funext i
  obtain ⟨e⟩ : Nonempty (i = ix2 (i 0) (i 1)) := ⟨ext2 _ _ rfl rfl⟩
  rw [e]
  exact (total_dlnb m c _ _).trans ((congrArg (fun a : Args => ∑ n, a.cb n _) (kargs_eq m c)).trans (at_v176 (karg0 m c) (karg1 m c) (karg2 m c) (karg3 m c) (karg4 m c) (karg5 m c) _ _).symm)

/-- The kernel's accumulated gradient `dw` is the reference's. -/
theorem same_dw : ((Cert.KernelIdeal.Gen.dats m 0 c).arrAt 13 Cert.KernelIdeal.cfg0.N : FVec Ideal Cert.ReferenceIdeal.S8x128x128 .f32) = Cert.ReferenceIdeal.Read.val_main_v111 (F := Ideal) (karg0 m c) (karg1 m c) (karg2 m c) (karg3 m c) := by
  refine (array_dw m c).trans ?_
  funext i
  obtain ⟨e⟩ : Nonempty (i = ix3 (i 0) (i 1) (i 2)) := ⟨ext3 _ _ rfl rfl rfl⟩
  rw [e]
  exact (total_dw m c _ _ _).trans ((congrArg (fun a : Args => ∑ n, a.cW n _ _ _) (kargs_eq m c)).trans (at_v111 (karg0 m c) (karg1 m c) (karg2 m c) (karg3 m c) (karg4 m c) (karg5 m c) _ _ _).symm)

/-- The kernel's accumulated gradient `db` is the reference's. -/
theorem same_db : ((Cert.KernelIdeal.Gen.dats m 0 c).arrAt 14 Cert.KernelIdeal.cfg0.N : FVec Ideal Cert.ReferenceIdeal.S8x128x1 .f32) = Cert.ReferenceIdeal.Read.val_main_v177 (F := Ideal) (karg0 m c) (karg1 m c) := by
  refine (array_db m c).trans ?_
  funext i
  obtain ⟨e⟩ : Nonempty (i = ix3 (i 0) (i 1) (i 2)) := ⟨ext3 _ _ rfl rfl rfl⟩
  rw [e]
  exact (total_db m c _ _ _).trans ((congrArg (fun a : Args => ∑ n, a.cB n _ _) (kargs_eq m c)).trans (at_v177 (karg0 m c) (karg1 m c) (karg2 m c) (karg3 m c) (karg4 m c) (karg5 m c) _ _ _).symm)

end Cert.SpatialGating

end
-- ==== Proof.SpatialGating.Claims.lean ====
/- The reference's frame and the two programs' equal results, in the words of the claims. -/
module

public import proofs.«01_k».proof.Defs
public import proofs.«01_k».proof.Proof.SpatialGating.Results
public import Idealize.ShloMosaic.Lib.Quiescent

@[expose] public section

noncomputable section

namespace Cert.SpatialGating

open Idealize.ShloMosaic Idealize.ShloMosaic.TcCoe Idealize.SL.Sem Idealize.ShloMosaic.StableHlo

/-- The reference runs to its end, keeps its arguments, and leaves every semaphore at zero: it has none. -/
theorem reference_frame : Cert.quiescent_ReferenceIdeal (hReferenceIdeal := Cert.ReferenceIdeal.Gen.facts) := fun m ρ _ =>
  (θ_run _ _ _).mono (fun r h => ⟨fun c => (h c).2.2.2.2.2.2.2, sem_eq_zero_of_no_sems rfl _⟩) (Cert.ReferenceIdeal.Value.run m ρ)

/-- From equal arguments the two programs end with equal results. -/
theorem same_results : Cert.algebraic_KernelIdeal_ReferenceIdeal (hKernelIdeal := Cert.KernelIdeal.Gen.facts)
    (hReferenceIdeal := Cert.ReferenceIdeal.Gen.facts) := by
  intro m ρ m' ρ' _ hargs
  refine ⟨fun c => Cert.ReferenceIdeal.Read.val_main_v172 (F := Ideal) (karg0 m c) (karg1 m c) (karg2 m c) (karg3 m c) (karg4 m c) (karg5 m c),
    fun c => Cert.ReferenceIdeal.Read.val_main_v173 (F := Ideal) (karg0 m c) (karg1 m c) (karg2 m c) (karg4 m c),
    fun c => Cert.ReferenceIdeal.Read.val_main_v174 (F := Ideal) (karg0 m c) (karg1 m c) (karg2 m c) (karg3 m c) (karg4 m c) (karg5 m c),
    fun c => Cert.ReferenceIdeal.Read.val_main_v175 (F := Ideal) (karg0 m c) (karg1 m c) (karg4 m c),
    fun c => Cert.ReferenceIdeal.Read.val_main_v176 (F := Ideal) (karg0 m c) (karg1 m c) (karg4 m c),
    fun c => Cert.ReferenceIdeal.Read.val_main_v111 (F := Ideal) (karg0 m c) (karg1 m c) (karg2 m c) (karg3 m c),
    fun c => Cert.ReferenceIdeal.Read.val_main_v177 (F := Ideal) (karg0 m c) (karg1 m c),
    ?_, ?_⟩
  · refine (θ_run _ _ _).mono (fun r h c => ?_) (Cert.KernelIdeal.Value.run_blocks (F := Ideal) m ρ)
    obtain ⟨h0, h1, h2, h3, h4, h5, h6, hr⟩ := h c
    exact ⟨h0.trans (same_gu m c), h1.trans (same_gv m c), h2.trans (same_gz m c), h3.trans (same_dlnw m c), h4.trans (same_dlnb m c), h5.trans (same_dw m c), h6.trans (same_db m c), hr⟩
  · refine (θ_run _ _ _).mono (fun r h c => ?_) (Cert.ReferenceIdeal.Value.run (F := Ideal) m' ρ')
    obtain ⟨h0, h1, h2, h3, h4, h5, h6, hr⟩ := h c
    have a0 : launchContents m' c (Proc.devRef .tc Cert.ReferenceIdeal.main_arg0) = karg0 m c := (hargs c).1
    have a1 : launchContents m' c (Proc.devRef .tc Cert.ReferenceIdeal.main_arg1) = karg1 m c := (hargs c).2.1
    have a2 : launchContents m' c (Proc.devRef .tc Cert.ReferenceIdeal.main_arg2) = karg2 m c := (hargs c).2.2.1
    have a3 : launchContents m' c (Proc.devRef .tc Cert.ReferenceIdeal.main_arg3) = karg3 m c := (hargs c).2.2.2.1
    have a4 : launchContents m' c (Proc.devRef .tc Cert.ReferenceIdeal.main_arg4) = karg4 m c := (hargs c).2.2.2.2.1
    have a5 : launchContents m' c (Proc.devRef .tc Cert.ReferenceIdeal.main_arg5) = karg5 m c := (hargs c).2.2.2.2.2
    have e0 := h0.trans (Cert.ReferenceIdeal.Read.val_main_v172_eq (launchContents m' c))
    have e1 := h1.trans (Cert.ReferenceIdeal.Read.val_main_v173_eq (launchContents m' c))
    have e2 := h2.trans (Cert.ReferenceIdeal.Read.val_main_v174_eq (launchContents m' c))
    have e3 := h3.trans (Cert.ReferenceIdeal.Read.val_main_v175_eq (launchContents m' c))
    have e4 := h4.trans (Cert.ReferenceIdeal.Read.val_main_v176_eq (launchContents m' c))
    have e5 := h5.trans (Cert.ReferenceIdeal.Read.val_main_v111_eq (launchContents m' c))
    have e6 := h6.trans (Cert.ReferenceIdeal.Read.val_main_v177_eq (launchContents m' c))
    rw [a0, a1, a2, a3, a4, a5] at e0
    rw [a0, a1, a2, a4] at e1
    rw [a0, a1, a2, a3, a4, a5] at e2
    rw [a0, a1, a4] at e3
    rw [a0, a1, a4] at e4
    rw [a0, a1, a2, a3] at e5
    rw [a0, a1] at e6
    exact ⟨e0, e1, e2, e3, e4, e5, e6, hr⟩

end Cert.SpatialGating

end
-- ==== Proof.Products.Projection.lean ====
/- The products of the wide input projection: the three column ranges forwards, and both backwards. Each tiled kernel's result
   array is its reference's value of the argument arrays. -/
module

public import proofs.«01_k».proof.Defs
public import proofs.«01_k».proof.Proof.Gen.Kernel2Ideal.Value
public import proofs.«01_k».proof.Proof.Gen.Kernel3Ideal.Value
public import proofs.«01_k».proof.Proof.Gen.Kernel9Ideal.Value
public import proofs.«01_k».proof.Proof.Gen.Kernel10Ideal.Value
public import proofs.«01_k».proof.Proof.Gen.Kernel11Ideal.Value
public import proofs.«01_k».proof.Proof.Gen.Reference2Ideal.Run
public import proofs.«01_k».proof.Proof.Gen.Reference3Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference2Ideal.Read
public import proofs.«01_k».proof.Proof.Gen.Reference3Ideal.Read
public import proofs.«01_k».proof.Proof.Gen.Reference9Ideal.Read
public import proofs.«01_k».proof.Proof.Gen.Reference10Ideal.Read
public import proofs.«01_k».proof.Proof.Gen.Reference11Ideal.Read
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.Quiescent

@[expose] public section

noncomputable section

open Idealize.ShloMosaic Idealize.ShloMosaic.TcCoe Idealize.SL.Sem Idealize.ShloMosaic.StableHlo

/-! ## The weight's gradient: the projection's gradient, transposed, times the layer's input, a tile of 256 rows a point -/

namespace Cert.Products.ProjWeight

open Cert.Kernel2Ideal Cert.Kernel2Ideal.Gen Cert.Reference2Ideal.Read

/-- The windows' block indices at a grid point: a column tile of the left factor, the whole right factor. -/
theorem idx : ∀ t : Fin cfg0.N, win0_0.index t = ![0, t.val] ∧ win0_1.index t = ![0, 0] ∧ win0_2.index t = ![t.val, 0] :=
  (by decide +kernel : ∀ t : Fin grid0.N, _)

/-- The result array is the reference's value of the argument arrays. -/
theorem final (m : (ℓ : Loc nD τ sig) → Buf (Elt Ideal) ℓ) (c : Dev nD) : (dats m 0 c).arrAt 2 cfg0.N
    = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, val_main_v7, val_main_v6, val_main_v5, val_main_v4, val_main_v1, val_main_v0]
  blk_point [iblk, V, idx t]

/-- From equal arguments the two programs end with equal results. -/
theorem same_results : Cert.algebraic_Kernel2Ideal_Reference2Ideal (hKernel2Ideal := Cert.Kernel2Ideal.Gen.facts)
    (hReference2Ideal := Cert.Reference2Ideal.Gen.facts) := by
  pair_intro
  · run_from Cert.Kernel2Ideal.Value.run_blocks m g
  · run_from Cert.Reference2Ideal.Value.run m' g'
    rw [final m c]
    rfl

/-- The reference runs to its end, keeps its arguments, and leaves every semaphore at zero: it has none. -/
theorem reference_frame : Cert.quiescent_Reference2Ideal (hReference2Ideal := Cert.Reference2Ideal.Gen.facts) := fun m ρ _ =>
  (θ_run _ _ _).mono (fun r h => ⟨fun c => (h c).2, sem_eq_zero_of_no_sems rfl _⟩) (Cert.Reference2Ideal.Value.run m ρ)

end Cert.Products.ProjWeight

/-! ## The input's gradient: the projection's gradient times the weight, in two halves of the contracted axis

A pair of grid points makes one tile of the result: the even one keeps the first half's product in the scratch, the odd one adds
the second half's and stores the sum. -/

namespace Cert.Products.ProjInput

open Cert.Kernel3Ideal Cert.Kernel3Ideal.Gen Cert.Reference3Ideal.Read

/-- The windows' block indices at a grid point: the row tile, the column tile and the half of the contracted axis. -/
theorem idx : ∀ t : Fin cfg0.N, win0_0.index t = ![t.val / 8, t.val % 2] ∧ win0_1.index t = ![t.val % 2, t.val / 2 % 4]
    ∧ win0_2.index t = ![t.val / 8, t.val / 2 % 4] :=
  (by decide +kernel : ∀ t : Fin grid0.N, _)

/-- A sum over the contracted axis is the sum of its two halves. -/
theorem halves (f : Fin 13568 → EReal) :
    ∑ k : Fin 6784, f ⟨k.val, by omega⟩ + ∑ k : Fin 6784, f ⟨6784 + k.val, by omega⟩ = ∑ k : Fin 13568, f k :=
  (Fin.sum_univ_add (a := 6784) (b := 6784) f).symm

/-- The result array is the reference's value of the argument arrays. -/
theorem final (m : (ℓ : Loc nD τ sig) → Buf (Elt Ideal) ℓ) (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  have hodd : t.val % 2 = 1 := (flush0_2 t).mp hf
  have hprev : t.val - 1 < cfg0.N := Nat.lt_of_le_of_lt (Nat.sub_le _ _) t.isLt
  have hfirst := outsAt0_A m c ⟨t.val - 1, hprev⟩ (by dsimp only; omega) (by dsimp only; omega) (by dsimp only; omega)
  blk_simp
  rw [after0_2, outsAt0_B m c t (by omega) hodd hodd, hfirst]
  frame_out
  simp only [read_unread_whole]
  pointwise [k0_pay1, k0_pay2, k0_pay3, val_main_v5, val_main_v2, val_main_v1, val_main_v0]
  refine Eq.trans ?_ (halves _)
  blk_point [iblk, V, idx t, idx ⟨t.val - 1, hprev⟩]

/-- From equal arguments the two programs end with equal results. -/
theorem same_results : Cert.algebraic_Kernel3Ideal_Reference3Ideal (hKernel3Ideal := Cert.Kernel3Ideal.Gen.facts)
    (hReference3Ideal := Cert.Reference3Ideal.Gen.facts) := by
  intro m ρ m' ρ' _ hargs
  refine ⟨fun c => val_main_v5 (F := Ideal) (m ((c : Thread nD τ).loc main_arg0)) (m ((c : Thread nD τ).loc main_arg1)), ?_, ?_⟩
  · exact (θ_run _ _ _).mono (fun r h c => ⟨(h c).1.trans (final m c), (h c).2⟩) (Cert.Kernel3Ideal.Value.run_blocks (F := Ideal) m ρ)
  · refine (θ_run _ _ _).mono (fun r h c => ⟨?_, (h c).2⟩) (Cert.Reference3Ideal.Value.run (F := Ideal) m' ρ')
    rw [(h c).1, (hargs c).1, (hargs c).2.1]
    exact val_main_v5_eq _ _

/-- The reference runs to its end, keeps its arguments, and leaves every semaphore at zero: it has none. -/
theorem reference_frame : Cert.quiescent_Reference3Ideal (hReference3Ideal := Cert.Reference3Ideal.Gen.facts) := fun m ρ _ =>
  (θ_run _ _ _).mono (fun r h => ⟨fun c => (h c).2, sem_eq_zero_of_no_sems rfl _⟩) (Cert.Reference3Ideal.Value.run m ρ)

end Cert.Products.ProjInput

/-! ## The projection's columns for the branches' inputs: the weight's rows below 6400, 256 a point -/

namespace Cert.Products.ProjMain

open Cert.Kernel9Ideal Cert.Kernel9Ideal.Gen Cert.Reference9Ideal.Read

/-- The windows' block indices at a grid point: the whole input, and a row tile of the weight. -/
theorem idx : ∀ t : Fin cfg0.N, win0_0.index t = ![0, 0] ∧ win0_1.index t = ![t.val, 0] ∧ win0_2.index t = ![0, t.val] :=
  (by decide +kernel : ∀ t : Fin grid0.N, _)

/-- The result array is the reference's value of the argument arrays. -/
theorem final (m : (ℓ : Loc nD τ sig) → Buf (Elt Ideal) ℓ) (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, val_main_v4, val_main_v3, val_main_v2, val_main_v1, val_main_v0]
  blk_point [iblk, V, idx t]

/-- From equal arguments the two programs end with equal results. -/
theorem same_results : Cert.algebraic_Kernel9Ideal_Reference9Ideal (hKernel9Ideal := Cert.Kernel9Ideal.Gen.facts)
    (hReference9Ideal := Cert.Reference9Ideal.Gen.facts) := by
  pair_intro
  · run_from Cert.Kernel9Ideal.Value.run_blocks m g
  · run_from Cert.Reference9Ideal.Value.run m' g'
    rw [final m c]
    rfl

/-- The reference runs to its end, keeps its arguments, and leaves every semaphore at zero: it has none. -/
theorem reference_frame : Cert.quiescent_Reference9Ideal (hReference9Ideal := Cert.Reference9Ideal.Gen.facts) := fun m ρ _ =>
  (θ_run _ _ _).mono (fun r h => ⟨fun c => (h c).2, sem_eq_zero_of_no_sems rfl _⟩) (Cert.Reference9Ideal.Value.run m ρ)

end Cert.Products.ProjMain

/-! ## The projection's columns for the attention's gate: the weight's rows from 6400, its 25th tile, to 7424 -/

namespace Cert.Products.ProjGateC

open Cert.Kernel10Ideal Cert.Kernel10Ideal.Gen Cert.Reference10Ideal.Read

/-- The windows' block indices at a grid point: the whole input, and a row tile of the weight, 25 tiles down. -/
theorem idx : ∀ t : Fin cfg0.N, win0_0.index t = ![0, 0] ∧ win0_1.index t = ![t.val + 25, 0] ∧ win0_2.index t = ![0, t.val] :=
  (by decide +kernel : ∀ t : Fin grid0.N, _)

/-- The result array is the reference's value of the argument arrays. -/
theorem final (m : (ℓ : Loc nD τ sig) → Buf (Elt Ideal) ℓ) (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, val_main_v4, val_main_v3, val_main_v2, val_main_v1, val_main_v0]
  blk_point [iblk, V, idx t]

/-- From equal arguments the two programs end with equal results. -/
theorem same_results : Cert.algebraic_Kernel10Ideal_Reference10Ideal (hKernel10Ideal := Cert.Kernel10Ideal.Gen.facts)
    (hReference10Ideal := Cert.Reference10Ideal.Gen.facts) := by
  pair_intro
  · run_from Cert.Kernel10Ideal.Value.run_blocks m g
  · run_from Cert.Reference10Ideal.Value.run m' g'
    rw [final m c]
    rfl

/-- The reference runs to its end, keeps its arguments, and leaves every semaphore at zero: it has none. -/
theorem reference_frame : Cert.quiescent_Reference10Ideal (hReference10Ideal := Cert.Reference10Ideal.Gen.facts) := fun m ρ _ =>
  (θ_run _ _ _).mono (fun r h => ⟨fun c => (h c).2, sem_eq_zero_of_no_sems rfl _⟩) (Cert.Reference10Ideal.Value.run m ρ)

end Cert.Products.ProjGateC

/-! ## The projection's columns for the three merge gates: the weight's rows from 7424, its 29th tile, on -/

namespace Cert.Products.ProjGates

open Cert.Kernel11Ideal Cert.Kernel11Ideal.Gen Cert.Reference11Ideal.Read

/-- The windows' block indices at a grid point: the whole input, and a row tile of the weight, 29 tiles down. -/
theorem idx : ∀ t : Fin cfg0.N, win0_0.index t = ![0, 0] ∧ win0_1.index t = ![t.val + 29, 0] ∧ win0_2.index t = ![0, t.val] :=
  (by decide +kernel : ∀ t : Fin grid0.N, _)

/-- The result array is the reference's value of the argument arrays. -/
theorem final (m : (ℓ : Loc nD τ sig) → Buf (Elt Ideal) ℓ) (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, val_main_v4, val_main_v3, val_main_v2, val_main_v1, val_main_v0]
  blk_point [iblk, V, idx t]

/-- From equal arguments the two programs end with equal results. -/
theorem same_results : Cert.algebraic_Kernel11Ideal_Reference11Ideal (hKernel11Ideal := Cert.Kernel11Ideal.Gen.facts)
    (hReference11Ideal := Cert.Reference11Ideal.Gen.facts) := by
  pair_intro
  · run_from Cert.Kernel11Ideal.Value.run_blocks m g
  · run_from Cert.Reference11Ideal.Value.run m' g'
    rw [final m c]
    rfl

/-- The reference runs to its end, keeps its arguments, and leaves every semaphore at zero: it has none. -/
theorem reference_frame : Cert.quiescent_Reference11Ideal (hReference11Ideal := Cert.Reference11Ideal.Gen.facts) := fun m ρ _ =>
  (θ_run _ _ _).mono (fun r h => ⟨fun c => (h c).2, sem_eq_zero_of_no_sems rfl _⟩) (Cert.Reference11Ideal.Value.run m ρ)

end Cert.Products.ProjGates
-- ==== Proof.Products.Output.lean ====
/- The products of the output projection: forwards with its residual, and both backwards. Each tiled kernel's result array is its
   reference's value of the argument arrays. -/
module

public import proofs.«01_k».proof.Defs
public import proofs.«01_k».proof.Proof.Gen.Kernel4Ideal.Value
public import proofs.«01_k».proof.Proof.Gen.Kernel5Ideal.Value
public import proofs.«01_k».proof.Proof.Gen.Kernel12Ideal.Value
public import proofs.«01_k».proof.Proof.Gen.Reference4Ideal.Run
public import proofs.«01_k».proof.Proof.Gen.Reference5Ideal.Run
public import proofs.«01_k».proof.Proof.Gen.Reference12Ideal.Run
public import proofs.«01_k».proof.Proof.Gen.Reference4Ideal.Read
public import proofs.«01_k».proof.Proof.Gen.Reference5Ideal.Read
public import proofs.«01_k».proof.Proof.Gen.Reference12Ideal.Read
public import Idealize.ShloMosaic.Lib.Pipeline.ValueKit
public import Idealize.ShloMosaic.Lib.Claim
public import Idealize.ShloMosaic.Lib.Pointwise
public import Idealize.ShloMosaic.Lib.Quiescent

@[expose] public section

noncomputable section

open Idealize.ShloMosaic Idealize.ShloMosaic.TcCoe Idealize.SL.Sem Idealize.ShloMosaic.StableHlo

/-! ## The merged branches' gradient: the layer's gradient times the transposed weight -/

namespace Cert.Products.MergedGrad

open Cert.Kernel4Ideal Cert.Kernel4Ideal.Gen Cert.Reference4Ideal.Read

/-- The windows' block indices at a grid point: two row tiles by two column tiles. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- The result array is the reference's value of the argument arrays. -/
theorem final (m : (ℓ : Loc nD τ sig) → Buf (Elt Ideal) ℓ) (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v3, val_main_v0]
  blk_point [iblk, V, idx t]

/-- From equal arguments the two programs end with equal results. -/
theorem same_results : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    rw [final m c]
    rfl

/-- The reference runs to its end, keeps its arguments, and leaves every semaphore at zero: it has none. -/
theorem reference_frame : Cert.quiescent_Reference4Ideal (hReference4Ideal := Cert.Reference4Ideal.Gen.facts) := fun m ρ _ =>
  (θ_run _ _ _).mono (fun r h => ⟨fun c => (h c).2, sem_eq_zero_of_no_sems rfl _⟩) (Cert.Reference4Ideal.Value.run m ρ)

end Cert.Products.MergedGrad

/-! ## The output weight's gradient: the merged branches, transposed, times the layer's gradient

The reference forms the transpose of this matrix first, its factors in the other order. -/

namespace Cert.Products.OutWeight

open Cert.Kernel5Ideal Cert.Kernel5Ideal.Gen Cert.Reference5Ideal.Read

/-- The windows' block indices at a grid point: two row tiles by two column tiles. -/
theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

/-- The result array is the reference's value of the argument arrays. -/
theorem final (m : (ℓ : Loc nD τ sig) → Buf (Elt Ideal) ℓ) (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v5, val_main_v4, val_main_v3, val_main_v0]
  refine Fin.sum_fin_congr fun k => (EReal.mul_comm _ _).trans ?_
  blk_point [iblk, V, idx t]

/-- From equal arguments the two programs end with equal results. -/
theorem same_results : Cert.algebraic_Kernel5Ideal_Reference5Ideal (hKernel5Ideal := Cert.Kernel5Ideal.Gen.facts)
    (hReference5Ideal := Cert.Reference5Ideal.Gen.facts) := by
  pair_intro
  · run_from Cert.Kernel5Ideal.Value.run_blocks m g
  · run_from Cert.Reference5Ideal.Value.run m' g'
    rw [final m c]
    rfl

/-- The reference runs to its end, keeps its arguments, and leaves every semaphore at zero: it has none. -/
theorem reference_frame : Cert.quiescent_Reference5Ideal (hReference5Ideal := Cert.Reference5Ideal.Gen.facts) := fun m ρ _ =>
  (θ_run _ _ _).mono (fun r h => ⟨fun c => (h c).2, sem_eq_zero_of_no_sems rfl _⟩) (Cert.Reference5Ideal.Value.run m ρ)

end Cert.Products.OutWeight

/-! ## The layer's output: the merged branches times the weight, and the residual -/

namespace Cert.Products.OutForward

open Cert.Kernel12Ideal Cert.Kernel12Ideal.Gen Cert.Reference12Ideal.Read

/-- The windows' block indices at a grid point: two row tiles by two column tiles. -/
theorem idx : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

/-- The result array is the reference's value of the argument arrays; the reference adds the residual on the left. -/
theorem final (m : (ℓ : Loc nD τ sig) → Buf (Elt Ideal) ℓ) (c : Dev nD) : (dats m 0 c).arrAt 3 cfg0.N
    = val_main_v3 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  frame_out
  pointwise [k0_pay1, val_main_v3, val_main_v2, val_main_v1, val_main_v0]
  rw [add_comm]
  blk_point [iblk, V, idx t]

/-- From equal arguments the two programs end with equal results. -/
theorem same_results : Cert.algebraic_Kernel12Ideal_Reference12Ideal (hKernel12Ideal := Cert.Kernel12Ideal.Gen.facts)
    (hReference12Ideal := Cert.Reference12Ideal.Gen.facts) := by
  pair_intro
  · run_from Cert.Kernel12Ideal.Value.run_blocks m g
  · run_from Cert.Reference12Ideal.Value.run m' g'
    rw [final m c]
    rfl

/-- The reference runs to its end, keeps its arguments, and leaves every semaphore at zero: it has none. -/
theorem reference_frame : Cert.quiescent_Reference12Ideal (hReference12Ideal := Cert.Reference12Ideal.Gen.facts) := fun m ρ _ =>
  (θ_run _ _ _).mono (fun r h => ⟨fun c => (h c).2, sem_eq_zero_of_no_sems rfl _⟩) (Cert.Reference12Ideal.Value.run m ρ)

end Cert.Products.OutForward
-- ==== Proof.Products.Branches.lean ====
/- The products of the branches' and the gated unit's backward passes: each tiled kernel's result array is its reference's value
   of the argument arrays.

   Each section reads what a grid point stores at an entry of its block, a sum over the contracted axis, and the reference's
   stages at the entry of the array where that block lies; then the factors are the same entries of the arguments. -/
module

public import proofs.«01_k».proof.Defs
public import proofs.«01_k».proof.Proof.Gen.Kernel6Ideal.Value
public import proofs.«01_k».proof.Proof.Gen.Kernel7Ideal.Value
public import proofs.«01_k».proof.Proof.Gen.Kernel8Ideal.Value
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference6Ideal.Read
public import proofs.«01_k».proof.Proof.Gen.Reference7Ideal.Read
public import proofs.«01_k».proof.Proof.Gen.Reference8Ideal.Read
public import Idealize.ShloMosaic.Lib.Pipeline.ValueKit
public import Idealize.ShloMosaic.Lib.Claim
public import Idealize.ShloMosaic.Lib.Pointwise
public import Idealize.ShloMosaic.Lib.Quiescent

@[expose] public section

noncomputable section

open Idealize.ShloMosaic Idealize.ShloMosaic.TcCoe Idealize.SL.Sem Idealize.ShloMosaic.StableHlo

/-! ## A branch's gradient: the merged gradient times the branch weight -/

namespace Cert.Products.BranchGrad

open Cert.Kernel6Ideal Cert.Kernel6Ideal.Gen Cert.Reference6Ideal.Read

/-- The windows' block indices at a grid point: the row tile of the left factor, the whole right factor. -/
theorem idx : ∀ t : Fin cfg0.N, win0_0.index t = ![t.val, 0] ∧ win0_1.index t = ![0, 0] ∧ win0_2.index t = ![t.val, 0] :=
  (by decide +kernel : ∀ t : Fin grid0.N, _)

/-- The result array is the reference's value of the argument arrays. -/
theorem final (m : (ℓ : Loc nD τ sig) → Buf (Elt Ideal) ℓ) (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v5, val_main_v2, val_main_v1, val_main_v0]
  blk_point [iblk, V, idx t]

/-- From equal arguments the two programs end with equal results. -/
theorem same_results : Cert.algebraic_Kernel6Ideal_Reference6Ideal (hKernel6Ideal := Cert.Kernel6Ideal.Gen.facts)
    (hReference6Ideal := Cert.Reference6Ideal.Gen.facts) := by
  pair_intro
  · run_from Cert.Kernel6Ideal.Value.run_blocks m g
  · run_from Cert.Reference6Ideal.Value.run m' g'
    rw [final m c]
    rfl

/-- The reference runs to its end, keeps its arguments, and leaves every semaphore at zero: it has none. -/
theorem reference_frame : Cert.quiescent_Reference6Ideal (hReference6Ideal := Cert.Reference6Ideal.Gen.facts) := fun m ρ _ =>
  (θ_run _ _ _).mono (fun r h => ⟨fun c => (h c).2, sem_eq_zero_of_no_sems rfl _⟩) (Cert.Reference6Ideal.Value.run m ρ)

end Cert.Products.BranchGrad

/-! ## A branch weight's gradient: the merged gradient, transposed, times the branch's output -/

namespace Cert.Products.BranchWeight

open Cert.Kernel7Ideal Cert.Kernel7Ideal.Gen Cert.Reference7Ideal.Read

/-- The windows' block indices at a grid point: a column tile of the left factor, the whole right factor. -/
theorem idx : ∀ t : Fin cfg0.N, win0_0.index t = ![0, t.val] ∧ win0_1.index t = ![0, 0] ∧ win0_2.index t = ![t.val, 0] :=
  (by decide +kernel : ∀ t : Fin grid0.N, _)

/-- The result array is the reference's value of the argument arrays. -/
theorem final (m : (ℓ : Loc nD τ sig) → Buf (Elt Ideal) ℓ) (c : Dev nD) : (dats m 0 c).arrAt 2 cfg0.N
    = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v7, val_main_v6, val_main_v5, val_main_v4, val_main_v1, val_main_v0]
  blk_point [iblk, V, idx t]

/-- From equal arguments the two programs end with equal results. -/
theorem same_results : Cert.algebraic_Kernel7Ideal_Reference7Ideal (hKernel7Ideal := Cert.Kernel7Ideal.Gen.facts)
    (hReference7Ideal := Cert.Reference7Ideal.Gen.facts) := by
  pair_intro
  · run_from Cert.Kernel7Ideal.Value.run_blocks m g
  · run_from Cert.Reference7Ideal.Value.run m' g'
    rw [final m c]
    rfl

/-- The reference runs to its end, keeps its arguments, and leaves every semaphore at zero: it has none. -/
theorem reference_frame : Cert.quiescent_Reference7Ideal (hReference7Ideal := Cert.Reference7Ideal.Gen.facts) := fun m ρ _ =>
  (θ_run _ _ _).mono (fun r h => ⟨fun c => (h c).2, sem_eq_zero_of_no_sems rfl _⟩) (Cert.Reference7Ideal.Value.run m ρ)

end Cert.Products.BranchWeight

/-! ## The gated unit's weight gradient: the input, transposed, times the gradient of the unit's product

The reference forms the transpose of this matrix first, its factors in the other order. -/

namespace Cert.Products.GluWeight

open Cert.Kernel8Ideal Cert.Kernel8Ideal.Gen Cert.Reference8Ideal.Read

/-- The one grid point takes whole arrays. -/
theorem idx : ∀ t : Fin cfg0.N, win0_0.index t = ![0, 0] ∧ win0_1.index t = ![0, 0] ∧ win0_2.index t = ![0, 0] :=
  (by decide +kernel : ∀ t : Fin grid0.N, _)

/-- The result array is the reference's value of the argument arrays. -/
theorem final (m : (ℓ : Loc nD τ sig) → Buf (Elt Ideal) ℓ) (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v6, val_main_v5, val_main_v4, val_main_v1, val_main_v0]
  refine Fin.sum_fin_congr fun k => (EReal.mul_comm _ _).trans ?_
  blk_point [iblk, V, idx t]

/-- From equal arguments the two programs end with equal results. -/
theorem same_results : Cert.algebraic_Kernel8Ideal_Reference8Ideal (hKernel8Ideal := Cert.Kernel8Ideal.Gen.facts)
    (hReference8Ideal := Cert.Reference8Ideal.Gen.facts) := by
  pair_intro
  · run_from Cert.Kernel8Ideal.Value.run_blocks m g
  · run_from Cert.Reference8Ideal.Value.run m' g'
    rw [final m c]
    rfl

/-- The reference runs to its end, keeps its arguments, and leaves every semaphore at zero: it has none. -/
theorem reference_frame : Cert.quiescent_Reference8Ideal (hReference8Ideal := Cert.Reference8Ideal.Gen.facts) := fun m ρ _ =>
  (θ_run _ _ _).mono (fun r h => ⟨fun c => (h c).2, sem_eq_zero_of_no_sems rfl _⟩) (Cert.Reference8Ideal.Value.run m ρ)

end Cert.Products.GluWeight
-- ==== Proof.Gates.AttentionGate.lean ====
/- The gradient of the attention branch's gate: the kernel's two result arrays are the reference's values of the argument arrays.

   A grid point takes a tile of 256 rows of every array, and an entry of a result depends on the same entry of each argument. -/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Claim
public import Idealize.ShloMosaic.Lib.Pointwise
public import Idealize.ShloMosaic.Lib.Quiescent

@[expose] public section

noncomputable section

open Idealize.ShloMosaic Idealize.ShloMosaic.TcCoe Idealize.SL.Sem Idealize.ShloMosaic.StableHlo

namespace Cert.Gates.AttentionGate

open Cert.Kernel13Ideal Cert.Kernel13Ideal.Gen Cert.Reference13Ideal.Read

/-- The windows' block indices at a grid point: the row tile of the point, in every array. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] :=
  (by decide +kernel : ∀ t : Fin grid0.N, _)

/-- The first result array is the reference's gradient for the attention's output. -/
theorem final3 (m : (ℓ : Loc nD τ sig) → Buf (Elt Ideal) ℓ) (c : Dev nD) : (dats m 0 c).arrAt 3 cfg0.N
    = val_main_v3 (F := Ideal) (m ((c : Thread nD τ).loc main_arg0)) (m ((c : Thread nD τ).loc main_arg2)) := by
  refine (dats m 0 c).arrAt_eq_of_covers 3 _ (by decide +kernel) fun t hf y => ?_
  blk_simp
  rw [after0_3]
  frame_out
  pointwise [k0_pay2, k0_pay1, Ideal.logistic, val_main_v3, val_main_v0_0, val_main_v0_2, val_main_call0_v4, val_main_call0_v3,
    val_main_call0_v2, val_main_call0_cst, val_main_call0_v1, val_main_call0_v0, val_main_call0_cst_0]
  blk_point [iblk, V, idx t]

/-- The second result array is the reference's gradient for the gate. -/
theorem final4 (m : (ℓ : Loc nD τ sig) → Buf (Elt Ideal) ℓ) (c : Dev nD) : (dats m 0 c).arrAt 4 cfg0.N
    = val_main_v5 (F := Ideal) (m ((c : Thread nD τ).loc main_arg0)) (m ((c : Thread nD τ).loc main_arg1))
        (m ((c : Thread nD τ).loc main_arg2)) := by
  refine (dats m 0 c).arrAt_eq_of_covers 4 _ (by decide +kernel) fun t hf y => ?_
  blk_simp
  rw [after0_4]
  frame_out
  pointwise [k0_pay3, k0_pay1, Ideal.logistic, val_main_v5, val_main_v4, val_main_call1_v2, val_main_call1_v1, val_main_call1_v0, val_main_v2,
    val_main_v0_1, val_main_call0_v7, val_main_call0_v6, val_main_call0_cst_1, val_main_v0_2, val_main_call0_v4,
    val_main_call0_v3, val_main_call0_v2, val_main_call0_cst, val_main_call0_v1, val_main_call0_v0, val_main_call0_cst_0]
  blk_point [iblk, V, idx t]

/-- From equal arguments the two programs end with equal results. -/
theorem same_results : Cert.algebraic_Kernel13Ideal_Reference13Ideal (hKernel13Ideal := Cert.Kernel13Ideal.Gen.facts)
    (hReference13Ideal := Cert.Reference13Ideal.Gen.facts) := by
  pair_intro
  · run_from Cert.Kernel13Ideal.Value.run_blocks m g
  · run_from Cert.Reference13Ideal.Value.run m' g'
    · rw [final3 m c]
      rfl
    · rw [final4 m c]
      rfl

/-- The reference runs to its end, keeps its arguments, and leaves every semaphore at zero: it has none. -/
theorem reference_frame : Cert.quiescent_Reference13Ideal (hReference13Ideal := Cert.Reference13Ideal.Gen.facts) := fun m ρ _ =>
  (θ_run _ _ _).mono (fun r h => ⟨fun c => (h c).2.2, sem_eq_zero_of_no_sems rfl _⟩) (Cert.Reference13Ideal.Value.run m ρ)

end Cert.Gates.AttentionGate
-- ==== Proof.Gates.Merge.lean ====
/- The merge of the three branches, forward and backward: each result array of the two kernels is the reference's value of the
   argument arrays.

   A grid point takes a tile of 256 rows. The three merge gates lie side by side in one array of 3 · 2048 columns, which the
   kernels read through three windows and the reference views as an array of three planes; in the backward pass the planes'
   gradients come back as three padded arrays, added, of which two are zero at each entry. -/
module

public import proofs.«01_k».proof.Defs
public import proofs.«01_k».proof.Proof.Gen.Kernel14Ideal.Value
public import proofs.«01_k».proof.Proof.Gen.Kernel17Ideal.Value
public import proofs.«01_k».proof.Proof.Gen.Reference14Ideal.Run
public import proofs.«01_k».proof.Proof.Gen.Reference14Ideal.Read
public import proofs.«01_k».proof.Proof.Gen.Reference17Ideal.Run
public import proofs.«01_k».proof.Proof.Gen.Reference17Ideal.Read
public import Idealize.ShloMosaic.Lib.Pipeline.ValueKit
public import Idealize.ShloMosaic.Lib.Claim
public import Idealize.ShloMosaic.Lib.Pointwise
public import Idealize.ShloMosaic.Lib.Quiescent

@[expose] public section

noncomputable section

open Idealize.ShloMosaic Idealize.ShloMosaic.TcCoe Idealize.SL.Sem Idealize.ShloMosaic.StableHlo

/-! ## The gradient of the merge -/

namespace Cert.Gates.MergeGrad

open Cert.Kernel14Ideal Cert.Kernel14Ideal.Gen Cert.Reference14Ideal.Read

/-- The windows' block indices at a grid point: the row tile of the point; for the gates, one of the three column blocks. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 1]
    ∧ win0_6.index t = ![t.val, 2] ∧ win0_7.index t = ![t.val, 0] ∧ win0_8.index t = ![t.val, 0]
    ∧ win0_9.index t = ![t.val, 0] ∧ win0_10.index t = ![t.val, 0] :=
  (by decide +kernel : ∀ t : Fin grid0.N, _)

/-- The first result array is the reference's gradient for the first branch's projection. -/
theorem final7 (m : (ℓ : Loc nD τ sig) → Buf (Elt Ideal) ℓ) (c : Dev nD) : (dats m 0 c).arrAt 7 cfg0.N
    = val_main_v39 (F := Ideal) (m ((c : Thread nD τ).loc main_arg0)) (m ((c : Thread nD τ).loc main_arg4)) := by
  refine (dats m 0 c).arrAt_eq_of_covers 7 _ (by decide +kernel) fun t hf y => ?_
  blk_simp
  rw [after0_7]
  frame_out
  pointwise [k0_pay3, k0_pay2, Ideal.logistic, val_main_v39, val_main_v32, val_main_v21, val_main_v11, val_main_v10,
    val_main_v6, val_main_v5, val_main_cst_0, val_main_v4, val_main_v3, val_main_cst, val_main_v2, val_main_v1, val_main_v0]
  blk_point [iblk, V, idx t]

/-- The second result array is the reference's gradient for the second branch's projection. -/
theorem final8 (m : (ℓ : Loc nD τ sig) → Buf (Elt Ideal) ℓ) (c : Dev nD) : (dats m 0 c).arrAt 8 cfg0.N
    = val_main_v40 (F := Ideal) (m ((c : Thread nD τ).loc main_arg0)) (m ((c : Thread nD τ).loc main_arg4)) := by
  refine (dats m 0 c).arrAt_eq_of_covers 8 _ (by decide +kernel) fun t hf y => ?_
  blk_simp
  rw [after0_8]
  frame_out
  pointwise [k0_pay6, k0_pay5, Ideal.logistic, val_main_v40, val_main_v27, val_main_v21, val_main_v14, val_main_v13,
    val_main_v6, val_main_v5, val_main_cst_0, val_main_v4, val_main_v3, val_main_cst, val_main_v2, val_main_v1, val_main_v0]
  blk_point [iblk, V, idx t]

/-- The third result array is the reference's gradient for the third branch's projection. -/
theorem final9 (m : (ℓ : Loc nD τ sig) → Buf (Elt Ideal) ℓ) (c : Dev nD) : (dats m 0 c).arrAt 9 cfg0.N
    = val_main_v41 (F := Ideal) (m ((c : Thread nD τ).loc main_arg0)) (m ((c : Thread nD τ).loc main_arg4)) := by
  refine (dats m 0 c).arrAt_eq_of_covers 9 _ (by decide +kernel) fun t hf y => ?_
  blk_simp
  rw [after0_9]
  frame_out
  pointwise [k0_pay9, k0_pay8, Ideal.logistic, val_main_v41, val_main_v23, val_main_v22, val_main_v18, val_main_v17,
    val_main_v6, val_main_v5, val_main_cst_0, val_main_v4, val_main_v3, val_main_cst, val_main_v2, val_main_v1, val_main_v0]
  blk_point [iblk, V, idx t]

set_option maxHeartbeats 2000000 in
/-- The fourth result array is the reference's gradient for the merge gates. -/
theorem final10 (m : (ℓ : Loc nD τ sig) → Buf (Elt Ideal) ℓ) (c : Dev nD) : (dats m 0 c).arrAt 10 cfg0.N
    = val_main_v42 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 10 _ (by decide +kernel) fun t hf y => ?_
  blk_simp
  rw [after0_10]
  frame_out
  have col : (((View.whole main_v0_3).slice (win0_10.rect t)).emb y 1).val = (y 1).val := by
    show win0_10.index t 1 * 6144 + 1 * (y 1).val = (y 1).val
    rw [(idx t).2.2.2.2.2.2.2.2.2.2]
    simp
  canon_tiles x h using cover0_10 ..
  all_goals
    pointwise [k0_pay1, k0_pay8, k0_pay7, k0_pay5, k0_pay4, k0_pay2, Ideal.logistic, val_main_v42, val_main_v38, val_main_v37,
      val_main_v36, val_main_v35, val_main_cst_4, val_main_v34, val_main_v33,
      val_main_v31, val_main_v30, val_main_cst_3, val_main_v29, val_main_v28, val_main_v26, val_main_cst_2, val_main_v25,
      val_main_v24, val_main_v22, val_main_v21, val_main_v9, val_main_v8, val_main_v7, val_main_cst_1,
      val_main_v6, val_main_v5, val_main_cst_0, val_main_v4, val_main_v3, val_main_cst, val_main_v2, val_main_v1, val_main_v0]
  · have q : (4096 + (x 1).val) / 2048 = 2 := by omega
    have r : (4096 + (x 1).val) % 2048 = (x 1).val := by omega
    simp only [col, h1, q, r, x1_lt, Nat.reduceLeDiff, Nat.reduceSub, Nat.reduceLT, le_refl, and_self, and_true, true_and, false_and,
      and_false, ↓reduceDIte, add_zero, zero_add, ← mul_assoc]
    blk_point [iblk, V, idx t]
  · have q : (2048 + (x 1).val) / 2048 = 1 := by omega
    have r : (2048 + (x 1).val) % 2048 = (x 1).val := by omega
    simp only [col, h1, q, r, x1_lt, Nat.reduceLeDiff, Nat.reduceSub, Nat.reduceLT, le_refl, and_self, and_true, true_and, false_and,
      and_false, ↓reduceDIte, add_zero, zero_add, ← mul_assoc]
    blk_point [iblk, V, idx t]
  · have q : ((x 1).val) / 2048 = 0 := by omega
    have r : ((x 1).val) % 2048 = (x 1).val := by omega
    simp only [col, h1, q, r, x1_lt, Nat.reduceLeDiff, Nat.reduceSub, Nat.reduceLT, le_refl, and_self, and_true, true_and, false_and,
      and_false, ↓reduceDIte, add_zero, zero_add, ← mul_assoc]
    blk_point [iblk, V, idx t]

/-- From equal arguments the two programs end with equal results. -/
theorem same_results : Cert.algebraic_Kernel14Ideal_Reference14Ideal (hKernel14Ideal := Cert.Kernel14Ideal.Gen.facts)
    (hReference14Ideal := Cert.Reference14Ideal.Gen.facts) := by
  pair_intro
  · run_from Cert.Kernel14Ideal.Value.run_blocks m g
  · refine (θ_run _ _ _).mono (fun r h c => ?_) (Cert.Reference14Ideal.Value.run m' g')
    obtain ⟨h0, h1, h2, h3, k⟩ := h c
    obtain ⟨a0, a1, a2, a3, a4⟩ := hagree c
    rw [a0, a4, val_main_v39_eq] at h0
    rw [a0, a4, val_main_v40_eq] at h1
    rw [a0, a4, val_main_v41_eq] at h2
    rw [a0, a1, a2, a3, a4, val_main_v42_eq] at h3
    exact ⟨h0.trans (final7 m c).symm, h1.trans (final8 m c).symm, h2.trans (final9 m c).symm, h3.trans (final10 m c).symm, k⟩

/-- The reference runs to its end, keeps its arguments, and leaves every semaphore at zero: it has none. -/
theorem reference_frame : Cert.quiescent_Reference14Ideal (hReference14Ideal := Cert.Reference14Ideal.Gen.facts) := fun m ρ _ =>
  (θ_run _ _ _).mono (fun r h => ⟨fun c => (h c).2.2.2.2, sem_eq_zero_of_no_sems rfl _⟩)
    (Cert.Reference14Ideal.Value.run m ρ)

end Cert.Gates.MergeGrad

/-! ## The merge -/

namespace Cert.Gates.Merge

open Cert.Kernel17Ideal Cert.Kernel17Ideal.Gen Cert.Reference17Ideal.Read

/-- The windows' block indices at a grid point: the row tile of the point; for the gates, one of the three column blocks; the
    branches' weights whole. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 1]
    ∧ win0_6.index t = ![t.val, 2] ∧ win0_7.index t = ![0, 0] ∧ win0_8.index t = ![0, 0]
    ∧ win0_9.index t = ![0, 0] ∧ win0_10.index t = ![t.val, 0] ∧ win0_11.index t = ![t.val, 0]
    ∧ win0_12.index t = ![t.val, 0] ∧ win0_13.index t = ![t.val, 0] ∧ win0_14.index t = ![t.val, 0] :=
  (by decide +kernel : ∀ t : Fin grid0.N, _)

/-- The first result array is the reference's merge of the three branches. -/
theorem final10 (m : (ℓ : Loc nD τ sig) → Buf (Elt Ideal) ℓ) (c : Dev nD) : (dats m 0 c).arrAt 10 cfg0.N
    = val_main_v31 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dats m 0 c).arrAt_eq_of_covers 10 _ (by decide +kernel) fun t hf y => ?_
  blk_simp
  rw [after0_10]
  frame_out
  pointwise [k0_pay6, k0_pay5, k0_pay4, k0_pay3, k0_pay2, k0_pay1, Ideal.logistic, val_main_v31, val_main_v30, val_main_v29,
    val_main_v28, val_main_v27, val_main_v26, val_main_v25, val_main_v24, val_main_v23, val_main_v22, val_main_v21,
    val_main_v20, val_main_v19, val_main_v18, val_main_cst_0, val_main_v17, val_main_v16, val_main_cst, val_main_v15,
    val_main_v14, val_main_v13, val_main_v12, val_main_v11, val_main_v10, val_main_v9, val_main_v8, val_main_v7, val_main_v6,
    val_main_v5, val_main_v4, val_main_v3, val_main_v2, val_main_call0_v5, val_main_call0_v4, val_main_call0_cst_0,
    val_main_call0_v3, val_main_call0_v2, val_main_call0_cst, val_main_call0_v1, val_main_call0_v0, val_main_v1, val_main_v0]
  blk_point [iblk, V, idx t]

/-- The second result array is the reference's projection of the first branch. -/
theorem final11 (m : (ℓ : Loc nD τ sig) → Buf (Elt Ideal) ℓ) (c : Dev nD) : (dats m 0 c).arrAt 11 cfg0.N
    = val_main_v10 (F := Ideal) (m ((c : Thread nD τ).loc main_arg0)) (m ((c : Thread nD τ).loc main_arg5)) := by
  refine (dats m 0 c).arrAt_eq_of_covers 11 _ (by decide +kernel) fun t hf y => ?_
  blk_simp
  rw [after0_11]
  frame_out
  pointwise [k0_pay6, k0_pay5, k0_pay4, k0_pay3, k0_pay2, k0_pay1, val_main_v10, val_main_v9, val_main_v8, val_main_v7,
    val_main_v6, val_main_v5, val_main_v4, val_main_v3, val_main_v1, val_main_v0]
  blk_point [iblk, V, idx t]

/-- The third result array is the reference's projection of the second branch. -/
theorem final12 (m : (ℓ : Loc nD τ sig) → Buf (Elt Ideal) ℓ) (c : Dev nD) : (dats m 0 c).arrAt 12 cfg0.N
    = val_main_v11 (F := Ideal) (m ((c : Thread nD τ).loc main_arg1)) (m ((c : Thread nD τ).loc main_arg6)) := by
  refine (dats m 0 c).arrAt_eq_of_covers 12 _ (by decide +kernel) fun t hf y => ?_
  blk_simp
  rw [after0_12]
  frame_out
  pointwise [k0_pay6, k0_pay5, k0_pay4, k0_pay3, k0_pay2, k0_pay1, val_main_v11, val_main_v9, val_main_v8, val_main_v7,
    val_main_v6, val_main_v5, val_main_v4, val_main_v3, val_main_v1, val_main_v0]
  blk_point [iblk, V, idx t]

/-- The fourth result array is the reference's projection of the attention branch, its gate applied. -/
theorem final13 (m : (ℓ : Loc nD τ sig) → Buf (Elt Ideal) ℓ) (c : Dev nD) : (dats m 0 c).arrAt 13 cfg0.N
    = val_main_v12 (F := Ideal) (m ((c : Thread nD τ).loc main_arg2)) (m ((c : Thread nD τ).loc main_arg3))
        (m ((c : Thread nD τ).loc main_arg7)) := by
  refine (dats m 0 c).arrAt_eq_of_covers 13 _ (by decide +kernel) fun t hf y => ?_
  blk_simp
  rw [after0_13]
  frame_out
  pointwise [k0_pay6, k0_pay5, k0_pay4, k0_pay3, k0_pay2, k0_pay1, Ideal.logistic, val_main_v12, val_main_v9, val_main_v8,
    val_main_v7, val_main_v6, val_main_v5, val_main_v4, val_main_v3, val_main_v2, val_main_call0_v5, val_main_call0_v4,
    val_main_call0_cst_0, val_main_call0_v3, val_main_call0_v2, val_main_call0_cst, val_main_call0_v1, val_main_call0_v0]
  blk_point [iblk, V, idx t]

/-- The fifth result array is the reference's attention branch, its gate applied. -/
theorem final14 (m : (ℓ : Loc nD τ sig) → Buf (Elt Ideal) ℓ) (c : Dev nD) : (dats m 0 c).arrAt 14 cfg0.N
    = val_main_v32 (F := Ideal) (m ((c : Thread nD τ).loc main_arg2)) (m ((c : Thread nD τ).loc main_arg3)) := by
  refine (dats m 0 c).arrAt_eq_of_covers 14 _ (by decide +kernel) fun t hf y => ?_
  blk_simp
  rw [after0_14]
  frame_out
  pointwise [k0_pay6, k0_pay5, k0_pay4, k0_pay3, k0_pay2, k0_pay1, Ideal.logistic, val_main_v32, val_main_v3, val_main_v2,
    val_main_call0_v5, val_main_call0_v4, val_main_call0_cst_0, val_main_call0_v3, val_main_call0_v2, val_main_call0_cst,
    val_main_call0_v1, val_main_call0_v0]
  blk_point [iblk, V, idx t]

/-- From equal arguments the two programs end with equal results. -/
theorem same_results : Cert.algebraic_Kernel17Ideal_Reference17Ideal (hKernel17Ideal := Cert.Kernel17Ideal.Gen.facts)
    (hReference17Ideal := Cert.Reference17Ideal.Gen.facts) := by
  pair_intro
  · run_from Cert.Kernel17Ideal.Value.run_blocks m g
  · refine (θ_run _ _ _).mono (fun r h c => ?_) (Cert.Reference17Ideal.Value.run m' g')
    obtain ⟨h0, h1, h2, h3, h4, k⟩ := h c
    obtain ⟨a0, a1, a2, a3, a4, a5, a6, a7⟩ := hagree c
    rw [a0, a1, a2, a3, a4, a5, a6, a7, val_main_v31_eq] at h0
    rw [a0, a5, val_main_v10_eq] at h1
    rw [a1, a6, val_main_v11_eq] at h2
    rw [a2, a3, a7, val_main_v12_eq] at h3
    rw [a2, a3, val_main_v32_eq] at h4
    exact ⟨h0.trans (final10 m c).symm, h1.trans (final11 m c).symm, h2.trans (final12 m c).symm, h3.trans (final13 m c).symm,
      h4.trans (final14 m c).symm, k⟩

/-- The reference runs to its end, keeps its arguments, and leaves every semaphore at zero: it has none. -/
theorem reference_frame : Cert.quiescent_Reference17Ideal (hReference17Ideal := Cert.Reference17Ideal.Gen.facts) := fun m ρ _ =>
  (θ_run _ _ _).mono (fun r h => ⟨fun c => (h c).2.2.2.2.2, sem_eq_zero_of_no_sems rfl _⟩)
    (Cert.Reference17Ideal.Value.run m ρ)

end Cert.Gates.Merge
-- ==== Proof.Gates.Glu.lean ====
/- The state-space branch's gated linear unit, forward and backward: each result array of the two kernels is the reference's
   value of the argument arrays.

   A grid point takes a tile of 256 rows; the unit's weight is read whole at every point. The branch's gate is columns
   1024 … 2047 of the array of the layer's projections, whose 6400 columns the kernels' blocks of 1024 do not divide, so a block
   is read through a window that may hang over the array's edge (`edge`: these blocks do not). The bias's gradient is kept in
   one block over the whole grid: zeroed at the first point, and a tile's column sums added at every point. -/
module

public import proofs.«01_k».proof.Defs
public import proofs.«01_k».proof.Proof.Gen.Kernel16Ideal.Value
public import proofs.«01_k».proof.Proof.Gen.Kernel18Ideal.Value
public import proofs.«01_k».proof.Proof.Gen.Reference16Ideal.Run
public import proofs.«01_k».proof.Proof.Gen.Reference16Ideal.Read
public import proofs.«01_k».proof.Proof.Gen.Reference18Ideal.Run
public import proofs.«01_k».proof.Proof.Gen.Reference18Ideal.Read
public import Idealize.ShloMosaic.Lib.Pipeline.ValueKit
public import Idealize.ShloMosaic.Lib.Claim
public import Idealize.ShloMosaic.Lib.Pointwise
public import Idealize.ShloMosaic.Lib.Quiescent

@[expose] public section

noncomputable section

open Idealize.ShloMosaic Idealize.ShloMosaic.TcCoe Idealize.SL.Sem Idealize.ShloMosaic.StableHlo

/-! ## The unit -/

namespace Cert.Gates.Glu

open Cert.Kernel18Ideal Cert.Kernel18Ideal.Gen Cert.Reference18Ideal.Read

/-- The windows' block indices at a grid point: the row tile of the point, for the gate its second column block; the weight and
    the bias whole. -/
theorem idx : ∀ t : Fin cfg0.N, win0_0.index t = ![t.val, 0] ∧ win0_1.index t = ![t.val, 1] ∧ win0_2.index t = ![0, 0]
    ∧ win0_3.index t = ![0, 0] ∧ win0_4.index t = ![t.val, 0] :=
  (by decide +kernel : ∀ t : Fin grid0.N, _)

/-- The gate's block at a grid point: rows of the point's tile, columns from 1024 on; no entry lies over the array's edge. -/
theorem edge (m : (ℓ : Loc nD τ sig) → Buf (Elt Ideal) ℓ) (c : Dev nD) (t : Fin cfg0.N) (x : S256x1024.Idx) :
    X0_1 m c t x = m ((c : Thread nD τ).loc main_arg1)
      (ix2 ⟨t.val * 256 + (x 0).val, by have h : t.val < 8 := t.isLt; have := (x 0).isLt; simp at this; omega⟩
        ⟨1024 + (x 1).val, by have := (x 1).isLt; simp at this; omega⟩) := by
  unfold X0_1 Pipeline.Window.fill
  rw [dif_pos (moved0_1 _ _)]
  blk_point [iblk, V, idx t]

/-- The result array is the reference's gated linear unit. -/
theorem final4 (m : (ℓ : Loc nD τ sig) → Buf (Elt Ideal) ℓ) (c : Dev nD) : (dats m 0 c).arrAt 4 cfg0.N
    = val_main_v28 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  frame_out
  pointwise [k0_pay1, Ideal.logistic, val_main_v28, val_main_v27, val_main_v26, val_main_call0_v5, val_main_call0_v4,
    val_main_call0_cst_0, val_main_call0_v3, val_main_call0_v2, val_main_call0_cst, val_main_call0_v1, val_main_call0_v0,
    val_main_v25, val_main_v24, val_main_v23, val_main_cst_4, val_main_v22, val_main_v21, val_main_cst_3, val_main_v20,
    val_main_v19, val_main_v18, val_main_v17, val_main_v16, val_main_v15, val_main_v14, val_main_v13, val_main_v12,
    val_main_cst_2, val_main_v11, val_main_v10, val_main_cst_1, val_main_v9, val_main_v8, val_main_v7, val_main_cst_0,
    val_main_v6, val_main_v5, val_main_v4, val_main_cst, val_main_v3, val_main_v2, val_main_v1, val_main_v0]
  rw [edge]
  blk_point [iblk, V, idx t]

/-- From equal arguments the two programs end with equal results. -/
theorem same_results : Cert.algebraic_Kernel18Ideal_Reference18Ideal (hKernel18Ideal := Cert.Kernel18Ideal.Gen.facts)
    (hReference18Ideal := Cert.Reference18Ideal.Gen.facts) := by
  pair_intro
  · run_from Cert.Kernel18Ideal.Value.run_blocks m g
  · refine (θ_run _ _ _).mono (fun r h c => ?_) (Cert.Reference18Ideal.Value.run m' g')
    obtain ⟨h0, k⟩ := h c
    obtain ⟨a0, a1, a2, a3⟩ := hagree c
    rw [a0, a1, a2, a3, val_main_v28_eq] at h0
    exact ⟨h0.trans (final4 m c).symm, k⟩

/-- The reference runs to its end, keeps its arguments, and leaves every semaphore at zero: it has none. -/
theorem reference_frame : Cert.quiescent_Reference18Ideal (hReference18Ideal := Cert.Reference18Ideal.Gen.facts) := fun m ρ _ =>
  (θ_run _ _ _).mono (fun r h => ⟨fun c => (h c).2, sem_eq_zero_of_no_sems rfl _⟩)
    (Cert.Reference18Ideal.Value.run m ρ)

end Cert.Gates.Glu

/-! ## Its gradient -/

namespace Cert.Gates.GluGrad

open Cert.Kernel16Ideal Cert.Kernel16Ideal.Gen Cert.Reference16Ideal.Read

/-- The windows' block indices at a grid point: the row tile of the point, for the gate its second column block; the weight, the
    bias and the bias's gradient whole. -/
theorem idx : ∀ t : Fin cfg0.N, win0_0.index t = ![t.val, 0] ∧ win0_1.index t = ![t.val, 0] ∧ win0_2.index t = ![t.val, 1]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![0, 0] :=
  (by decide +kernel : ∀ t : Fin grid0.N, _)

/-- The gate's block at a grid point: rows of the point's tile, columns from 1024 on; no entry lies over the array's edge. -/
theorem edge (m : (ℓ : Loc nD τ sig) → Buf (Elt Ideal) ℓ) (c : Dev nD) (t : Fin cfg0.N) (x : S256x1024.Idx) :
    X0_2 m c t x = m ((c : Thread nD τ).loc main_arg2)
      (ix2 ⟨t.val * 256 + (x 0).val, by have h : t.val < 8 := t.isLt; have := (x 0).isLt; simp at this; omega⟩
        ⟨1024 + (x 1).val, by have := (x 1).isLt; simp at this; omega⟩) := by
  unfold X0_2 Pipeline.Window.fill
  rw [dif_pos (moved0_2 _ _)]
  blk_point [iblk, V, idx t]

/-- The first result array is the reference's gradient for the branch's input. -/
theorem final5 (m : (ℓ : Loc nD τ sig) → Buf (Elt Ideal) ℓ) (c : Dev nD) : (dats m 0 c).arrAt 5 cfg0.N
    = val_main_v57 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  by_cases h : t.val % 8 = 0 <;> [rw [outsAt0_A m c t h]; rw [outsAt0_B m c t h]] <;> frame_out
  all_goals
    pointwise [k0_pay19, k0_pay18, k0_pay17, k0_pay16, k0_pay15, k0_pay14, k0_pay13, k0_pay12, k0_pay11, k0_pay10, k0_pay9, k0_pay8,
      k0_pay7, k0_pay6, k0_pay5, k0_pay4, k0_pay3, k0_pay2, k0_pay1, Ideal.logistic, val_main_v74, val_main_v73,
      val_main_cst_16, val_main_v72, val_main_v71, val_main_v70, val_main_v69, val_main_v68, val_main_cst_15, val_main_v67,
      val_main_v66, val_main_cst_14, val_main_v65, val_main_v64, val_main_v63, val_main_cst_13, val_main_v62, val_main_v61,
      val_main_v60, val_main_cst_12, val_main_v59, val_main_v58, val_main_v57, val_main_v56, val_main_v55, val_main_v54,
      val_main_cst_11, val_main_v53, val_main_v52, val_main_v51, val_main_cst_10, val_main_v50, val_main_v49, val_main_v48,
      val_main_cst_9, val_main_v47, val_main_v46, val_main_v45, val_main_v44, val_main_v43, val_main_v42, val_main_v41,
      val_main_v40, val_main_call1_v2, val_main_call1_v1, val_main_call1_v0, val_main_v39, val_main_v38, val_main_v37,
      val_main_v36_0, val_main_v36_1, val_main_call0_v7, val_main_call0_v6, val_main_call0_cst_1, val_main_v36_2,
      val_main_call0_v4, val_main_call0_cst_0, val_main_call0_v3, val_main_call0_v2, val_main_call0_cst, val_main_call0_v1,
      val_main_call0_v0, val_main_v35, val_main_v34, val_main_v33, val_main_v32, val_main_cst_8, val_main_v31, val_main_v30,
      val_main_cst_7, val_main_v29, val_main_v28, val_main_cst_6, val_main_v27, val_main_v26, val_main_v25, val_main_v24,
      val_main_v23, val_main_v22, val_main_v21, val_main_cst_5, val_main_v20, val_main_v19, val_main_cst_4, val_main_v18,
      val_main_v17, val_main_v16, val_main_cst_3, val_main_v15, val_main_v14, val_main_cst_2, val_main_v13, val_main_v12,
      val_main_v11, val_main_cst_1, val_main_v10, val_main_v9, val_main_v8, val_main_cst_0, val_main_v7, val_main_v6,
      val_main_cst, val_main_v5, val_main_v4, val_main_v3, val_main_v2, val_main_v1, val_main_v0]
    simp only [edge]
    blk_point [iblk, V, idx t]

/-- The second result array is the reference's gradient for the gate. -/
theorem final6 (m : (ℓ : Loc nD τ sig) → Buf (Elt Ideal) ℓ) (c : Dev nD) : (dats m 0 c).arrAt 6 cfg0.N
    = val_main_v40 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  by_cases h : t.val % 8 = 0 <;> [rw [outsAt0_A m c t h]; rw [outsAt0_B m c t h]] <;> frame_out
  all_goals
    pointwise [k0_pay19, k0_pay18, k0_pay17, k0_pay16, k0_pay15, k0_pay14, k0_pay13, k0_pay12, k0_pay11, k0_pay10, k0_pay9, k0_pay8,
      k0_pay7, k0_pay6, k0_pay5, k0_pay4, k0_pay3, k0_pay2, k0_pay1, Ideal.logistic, val_main_v74, val_main_v73,
      val_main_cst_16, val_main_v72, val_main_v71, val_main_v70, val_main_v69, val_main_v68, val_main_cst_15, val_main_v67,
      val_main_v66, val_main_cst_14, val_main_v65, val_main_v64, val_main_v63, val_main_cst_13, val_main_v62, val_main_v61,
      val_main_v60, val_main_cst_12, val_main_v59, val_main_v58, val_main_v57, val_main_v56, val_main_v55, val_main_v54,
      val_main_cst_11, val_main_v53, val_main_v52, val_main_v51, val_main_cst_10, val_main_v50, val_main_v49, val_main_v48,
      val_main_cst_9, val_main_v47, val_main_v46, val_main_v45, val_main_v44, val_main_v43, val_main_v42, val_main_v41,
      val_main_v40, val_main_call1_v2, val_main_call1_v1, val_main_call1_v0, val_main_v39, val_main_v38, val_main_v37,
      val_main_v36_0, val_main_v36_1, val_main_call0_v7, val_main_call0_v6, val_main_call0_cst_1, val_main_v36_2,
      val_main_call0_v4, val_main_call0_cst_0, val_main_call0_v3, val_main_call0_v2, val_main_call0_cst, val_main_call0_v1,
      val_main_call0_v0, val_main_v35, val_main_v34, val_main_v33, val_main_v32, val_main_cst_8, val_main_v31, val_main_v30,
      val_main_cst_7, val_main_v29, val_main_v28, val_main_cst_6, val_main_v27, val_main_v26, val_main_v25, val_main_v24,
      val_main_v23, val_main_v22, val_main_v21, val_main_cst_5, val_main_v20, val_main_v19, val_main_cst_4, val_main_v18,
      val_main_v17, val_main_v16, val_main_cst_3, val_main_v15, val_main_v14, val_main_cst_2, val_main_v13, val_main_v12,
      val_main_v11, val_main_cst_1, val_main_v10, val_main_v9, val_main_v8, val_main_cst_0, val_main_v7, val_main_v6,
      val_main_cst, val_main_v5, val_main_v4, val_main_v3, val_main_v2, val_main_v1, val_main_v0]
    simp only [edge]
    blk_point [iblk, V, idx t]

/-- The third result array is the reference's activation of the branch's input, which the weight's gradient is a product of. -/
theorem final7 (m : (ℓ : Loc nD τ sig) → Buf (Elt Ideal) ℓ) (c : Dev nD) : (dats m 0 c).arrAt 7 cfg0.N
    = val_main_v71 (F := Ideal) (m ((c : Thread nD τ).loc main_arg1)) := by
  refine (dats m 0 c).arrAt_eq_of_covers 7 _ (by decide +kernel) fun t hf y => ?_
  blk_simp
  rw [after0_7]
  by_cases h : t.val % 8 = 0 <;> [rw [outsAt0_A m c t h]; rw [outsAt0_B m c t h]] <;> frame_out
  all_goals
    pointwise [k0_pay19, k0_pay18, k0_pay17, k0_pay16, k0_pay15, k0_pay14, k0_pay13, k0_pay12, k0_pay11, k0_pay10, k0_pay9, k0_pay8,
      k0_pay7, k0_pay6, k0_pay5, k0_pay4, k0_pay3, k0_pay2, k0_pay1, Ideal.logistic, val_main_v74, val_main_v73,
      val_main_cst_16, val_main_v72, val_main_v71, val_main_v70, val_main_v69, val_main_v68, val_main_cst_15, val_main_v67,
      val_main_v66, val_main_cst_14, val_main_v65, val_main_v64, val_main_v63, val_main_cst_13, val_main_v62, val_main_v61,
      val_main_v60, val_main_cst_12, val_main_v59, val_main_v58, val_main_v57, val_main_v56, val_main_v55, val_main_v54,
      val_main_cst_11, val_main_v53, val_main_v52, val_main_v51, val_main_cst_10, val_main_v50, val_main_v49, val_main_v48,
      val_main_cst_9, val_main_v47, val_main_v46, val_main_v45, val_main_v44, val_main_v43, val_main_v42, val_main_v41,
      val_main_v40, val_main_call1_v2, val_main_call1_v1, val_main_call1_v0, val_main_v39, val_main_v38, val_main_v37,
      val_main_v36_0, val_main_v36_1, val_main_call0_v7, val_main_call0_v6, val_main_call0_cst_1, val_main_v36_2,
      val_main_call0_v4, val_main_call0_cst_0, val_main_call0_v3, val_main_call0_v2, val_main_call0_cst, val_main_call0_v1,
      val_main_call0_v0, val_main_v35, val_main_v34, val_main_v33, val_main_v32, val_main_cst_8, val_main_v31, val_main_v30,
      val_main_cst_7, val_main_v29, val_main_v28, val_main_cst_6, val_main_v27, val_main_v26, val_main_v25, val_main_v24,
      val_main_v23, val_main_v22, val_main_v21, val_main_cst_5, val_main_v20, val_main_v19, val_main_cst_4, val_main_v18,
      val_main_v17, val_main_v16, val_main_cst_3, val_main_v15, val_main_v14, val_main_cst_2, val_main_v13, val_main_v12,
      val_main_v11, val_main_cst_1, val_main_v10, val_main_v9, val_main_v8, val_main_cst_0, val_main_v7, val_main_v6,
      val_main_cst, val_main_v5, val_main_v4, val_main_v3, val_main_v2, val_main_v1, val_main_v0]
    blk_point [iblk, V, idx t]

/-- The fourth result array is the reference's gradient for the linear map's output. -/
theorem final8 (m : (ℓ : Loc nD τ sig) → Buf (Elt Ideal) ℓ) (c : Dev nD) : (dats m 0 c).arrAt 8 cfg0.N
    = val_main_v72 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  by_cases h : t.val % 8 = 0 <;> [rw [outsAt0_A m c t h]; rw [outsAt0_B m c t h]] <;> frame_out
  all_goals
    pointwise [k0_pay19, k0_pay18, k0_pay17, k0_pay16, k0_pay15, k0_pay14, k0_pay13, k0_pay12, k0_pay11, k0_pay10, k0_pay9, k0_pay8,
      k0_pay7, k0_pay6, k0_pay5, k0_pay4, k0_pay3, k0_pay2, k0_pay1, Ideal.logistic, val_main_v74, val_main_v73,
      val_main_cst_16, val_main_v72, val_main_v71, val_main_v70, val_main_v69, val_main_v68, val_main_cst_15, val_main_v67,
      val_main_v66, val_main_cst_14, val_main_v65, val_main_v64, val_main_v63, val_main_cst_13, val_main_v62, val_main_v61,
      val_main_v60, val_main_cst_12, val_main_v59, val_main_v58, val_main_v57, val_main_v56, val_main_v55, val_main_v54,
      val_main_cst_11, val_main_v53, val_main_v52, val_main_v51, val_main_cst_10, val_main_v50, val_main_v49, val_main_v48,
      val_main_cst_9, val_main_v47, val_main_v46, val_main_v45, val_main_v44, val_main_v43, val_main_v42, val_main_v41,
      val_main_v40, val_main_call1_v2, val_main_call1_v1, val_main_call1_v0, val_main_v39, val_main_v38, val_main_v37,
      val_main_v36_0, val_main_v36_1, val_main_call0_v7, val_main_call0_v6, val_main_call0_cst_1, val_main_v36_2,
      val_main_call0_v4, val_main_call0_cst_0, val_main_call0_v3, val_main_call0_v2, val_main_call0_cst, val_main_call0_v1,
      val_main_call0_v0, val_main_v35, val_main_v34, val_main_v33, val_main_v32, val_main_cst_8, val_main_v31, val_main_v30,
      val_main_cst_7, val_main_v29, val_main_v28, val_main_cst_6, val_main_v27, val_main_v26, val_main_v25, val_main_v24,
      val_main_v23, val_main_v22, val_main_v21, val_main_cst_5, val_main_v20, val_main_v19, val_main_cst_4, val_main_v18,
      val_main_v17, val_main_v16, val_main_cst_3, val_main_v15, val_main_v14, val_main_cst_2, val_main_v13, val_main_v12,
      val_main_v11, val_main_cst_1, val_main_v10, val_main_v9, val_main_v8, val_main_cst_0, val_main_v7, val_main_v6,
      val_main_cst, val_main_v5, val_main_v4, val_main_v3, val_main_v2, val_main_v1, val_main_v0]
    simp only [edge]
    blk_point [iblk, V, idx t]

/-- What the kernel stores of a tile's column sums: an entry of the block found, plus the column's sum. -/
theorem add_rows (v : FVec Ideal S256x1024 .f32) (acc : Vec Ideal S1x1024 .f32) (j : S1x1024.Idx) :
    k0_pay1 v acc j = acc j + ∑ r : Fin 256, v (ix2 r (j 1)) := by
  pointwise [k0_pay1]

/-- The block the first point starts from is zero. -/
theorem zero_rows (j : S1x1024.Idx) : k0_pay19 (F := Ideal) j = 0 := by
  pointwise [k0_pay19]

/-- The fifth result array is the reference's gradient for the bias: its sum over all rows, tile by tile. -/
theorem final9 (m : (ℓ : Loc nD τ sig) → Buf (Elt Ideal) ℓ) (c : Dev nD) : (dats m 0 c).arrAt 9 cfg0.N
    = val_main_v74 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_after_last 9 t0_7 (by decide +kernel) _ fun y => ?_
  blk_simp
  rw [after0_9, Pipeline.eq_sum_fin_of_reset_step_apply_last (fun n h => (outsAt0 m c n h).2.2.2.2) 8 (fun _ => 0) _
    (fun t h j => by rw [outsAt0_A m c t h]; frame_out; rw [add_rows, zero_rows])
    (fun t h j => by rw [outsAt0_B m c t h]; frame_out; rw [add_rows])
    (le_of_eq N_0) t0_7 rfl, zero_add]
  pointwise [val_main_v74, val_main_v73, val_main_cst_16]
  refine Fin.sum_mul_add_congr fun t r hl => ?_
  pointwise [k0_pay19, k0_pay18, k0_pay17, k0_pay16, k0_pay15, k0_pay14, k0_pay13, k0_pay12, k0_pay11, k0_pay10, k0_pay9, k0_pay8,
    k0_pay7, k0_pay6, k0_pay5, k0_pay4, k0_pay3, k0_pay2, k0_pay1, Ideal.logistic, val_main_v74, val_main_v73,
    val_main_cst_16, val_main_v72, val_main_v71, val_main_v70, val_main_v69, val_main_v68, val_main_cst_15, val_main_v67,
    val_main_v66, val_main_cst_14, val_main_v65, val_main_v64, val_main_v63, val_main_cst_13, val_main_v62, val_main_v61,
    val_main_v60, val_main_cst_12, val_main_v59, val_main_v58, val_main_v57, val_main_v56, val_main_v55, val_main_v54,
    val_main_cst_11, val_main_v53, val_main_v52, val_main_v51, val_main_cst_10, val_main_v50, val_main_v49, val_main_v48,
    val_main_cst_9, val_main_v47, val_main_v46, val_main_v45, val_main_v44, val_main_v43, val_main_v42, val_main_v41,
    val_main_v40, val_main_call1_v2, val_main_call1_v1, val_main_call1_v0, val_main_v39, val_main_v38, val_main_v37,
    val_main_v36_0, val_main_v36_1, val_main_call0_v7, val_main_call0_v6, val_main_call0_cst_1, val_main_v36_2,
    val_main_call0_v4, val_main_call0_cst_0, val_main_call0_v3, val_main_call0_v2, val_main_call0_cst, val_main_call0_v1,
    val_main_call0_v0, val_main_v35, val_main_v34, val_main_v33, val_main_v32, val_main_cst_8, val_main_v31, val_main_v30,
    val_main_cst_7, val_main_v29, val_main_v28, val_main_cst_6, val_main_v27, val_main_v26, val_main_v25, val_main_v24,
    val_main_v23, val_main_v22, val_main_v21, val_main_cst_5, val_main_v20, val_main_v19, val_main_cst_4, val_main_v18,
    val_main_v17, val_main_v16, val_main_cst_3, val_main_v15, val_main_v14, val_main_cst_2, val_main_v13, val_main_v12,
    val_main_v11, val_main_cst_1, val_main_v10, val_main_v9, val_main_v8, val_main_cst_0, val_main_v7, val_main_v6,
    val_main_cst, val_main_v5, val_main_v4, val_main_v3, val_main_v2, val_main_v1, val_main_v0]
  simp only [edge]
  blk_point [iblk, V, idx t]

/-- From equal arguments the two programs end with equal results. -/
theorem same_results : Cert.algebraic_Kernel16Ideal_Reference16Ideal (hKernel16Ideal := Cert.Kernel16Ideal.Gen.facts)
    (hReference16Ideal := Cert.Reference16Ideal.Gen.facts) := by
  pair_intro
  · run_from Cert.Kernel16Ideal.Value.run_blocks m g
  · refine (θ_run _ _ _).mono (fun r h c => ?_) (Cert.Reference16Ideal.Value.run m' g')
    obtain ⟨h0, h1, h2, h3, h4, k⟩ := h c
    obtain ⟨a0, a1, a2, a3, a4⟩ := hagree c
    rw [val_main_v57_eq, a0, a1, a2, a3, a4] at h0
    rw [val_main_v40_eq, a0, a1, a2, a3, a4] at h1
    rw [val_main_v71_eq, a1] at h2
    rw [val_main_v72_eq, a0, a1, a2, a3, a4] at h3
    rw [val_main_v74_eq, a0, a1, a2, a3, a4] at h4
    exact ⟨h0.trans (final5 m c).symm, h1.trans (final6 m c).symm, h2.trans (final7 m c).symm, h3.trans (final8 m c).symm,
      h4.trans (final9 m c).symm, k⟩

/-- The reference runs to its end, keeps its arguments, and leaves every semaphore at zero: it has none. -/
theorem reference_frame : Cert.quiescent_Reference16Ideal (hReference16Ideal := Cert.Reference16Ideal.Gen.facts) := fun m ρ _ =>
  (θ_run _ _ _).mono (fun r h => ⟨fun c => (h c).2.2.2.2.2, sem_eq_zero_of_no_sems rfl _⟩)
    (Cert.Reference16Ideal.Value.run m ρ)

end Cert.Gates.GluGrad
-- ==== Proof.Norm.RmsNorm.lean ====
/- A layer's normalisation, forward and backward: each result array of the two kernels is the reference's value of the argument
   arrays.

   A grid point takes a tile of 256 rows, and a row's mean is over the row alone. The weight's gradient is kept in one block over
   the whole grid: zeroed at the first point, and a tile's column sums added at every point. -/
module

public import proofs.«01_k».proof.Defs
public import proofs.«01_k».proof.Proof.Gen.Kernel15Ideal.Value
public import proofs.«01_k».proof.Proof.Gen.Kernel20Ideal.Value
public import proofs.«01_k».proof.Proof.Gen.Reference15Ideal.Run
public import proofs.«01_k».proof.Proof.Gen.Reference15Ideal.Read
public import proofs.«01_k».proof.Proof.Gen.Reference20Ideal.Run
public import proofs.«01_k».proof.Proof.Gen.Reference20Ideal.Read
public import Idealize.ShloMosaic.Lib.Pipeline.ValueKit
public import Idealize.ShloMosaic.Lib.Claim
public import Idealize.ShloMosaic.Lib.Pointwise
public import Idealize.ShloMosaic.Lib.Quiescent

@[expose] public section

noncomputable section

open Idealize.ShloMosaic Idealize.ShloMosaic.TcCoe Idealize.SL.Sem Idealize.ShloMosaic.StableHlo

/-! ## The normalisation -/

namespace Cert.Norm.Forward

open Cert.Kernel20Ideal Cert.Kernel20Ideal.Gen Cert.Reference20Ideal.Read

/-- The windows' block indices at a grid point: the row tile of the point; the weight whole. -/
theorem idx : ∀ t : Fin cfg0.N, win0_0.index t = ![t.val, 0] ∧ win0_1.index t = ![0, 0] ∧ win0_2.index t = ![t.val, 0] :=
  (by decide +kernel : ∀ t : Fin grid0.N, _)

/-- The result array is the reference's normalised rows. -/
theorem final2 (m : (ℓ : Loc nD τ sig) → Buf (Elt Ideal) ℓ) (c : Dev nD) : (dats m 0 c).arrAt 2 cfg0.N
    = val_main_v13 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v13, val_main_v12, val_main_v11, val_main_v10, val_main_v9, val_main_v8, val_main_v7, val_main_v6,
    val_main_v5, val_main_cst_1, val_main_v4, val_main_v3, val_main_cst_0, val_main_v2, val_main_v1, val_main_cst,
    val_main_v0]
  blk_point [iblk, V, idx t]

/-- From equal arguments the two programs end with equal results. -/
theorem same_results : Cert.algebraic_Kernel20Ideal_Reference20Ideal (hKernel20Ideal := Cert.Kernel20Ideal.Gen.facts)
    (hReference20Ideal := Cert.Reference20Ideal.Gen.facts) := by
  pair_intro
  · run_from Cert.Kernel20Ideal.Value.run_blocks m g
  · refine (θ_run _ _ _).mono (fun r h c => ?_) (Cert.Reference20Ideal.Value.run m' g')
    obtain ⟨h0, k⟩ := h c
    obtain ⟨a0, a1⟩ := hagree c
    rw [a0, a1, val_main_v13_eq] at h0
    exact ⟨h0.trans (final2 m c).symm, k⟩

/-- The reference runs to its end, keeps its arguments, and leaves every semaphore at zero: it has none. -/
theorem reference_frame : Cert.quiescent_Reference20Ideal (hReference20Ideal := Cert.Reference20Ideal.Gen.facts) := fun m ρ _ =>
  (θ_run _ _ _).mono (fun r h => ⟨fun c => (h c).2, sem_eq_zero_of_no_sems rfl _⟩)
    (Cert.Reference20Ideal.Value.run m ρ)

end Cert.Norm.Forward

/-! ## Its gradient -/

namespace Cert.Norm.Backward

open Cert.Kernel15Ideal Cert.Kernel15Ideal.Gen Cert.Reference15Ideal.Read

/-- The windows' block indices at a grid point: the row tile of the point; the weight and its gradient whole. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

/-- The first result array is the reference's gradient for the layer's input. -/
theorem final4 (m : (ℓ : Loc nD τ sig) → Buf (Elt Ideal) ℓ) (c : Dev nD) : (dats m 0 c).arrAt 4 cfg0.N
    = val_main_v36 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  by_cases h : t.val % 8 = 0 <;> [rw [outsAt0_A m c t h]; rw [outsAt0_B m c t h]] <;> frame_out
  all_goals
    pointwise [k0_pay6, k0_pay5, k0_pay4, k0_pay3, k0_pay2, k0_pay1, val_main_v37, val_main_v36, val_main_v35, val_main_v34, val_main_v33,
      val_main_v32, val_main_v31, val_main_v30, val_main_cst_7, val_main_v29, val_main_v28, val_main_cst_6, val_main_v27,
      val_main_v26, val_main_v25, val_main_v24, val_main_v23, val_main_cst_5, val_main_v22, val_main_v21, val_main_cst_4,
      val_main_v20, val_main_v19, val_main_v18, val_main_v17, val_main_cst_3, val_main_v16, val_main_v15, val_main_v14,
      val_main_v13, val_main_v12, val_main_v11, val_main_v10, val_main_v9, val_main_cst_2, val_main_v8, val_main_v7,
      val_main_v6, val_main_v5, val_main_cst_1, val_main_v4, val_main_v3, val_main_cst_0, val_main_v2, val_main_v1,
      val_main_cst, val_main_v0]
    blk_point [iblk, V, idx t]

/-- What the kernel stores of a tile's column sums: an entry of the block found, plus the column's sum. -/
theorem add_rows (v acc : Vec Ideal S1x2048 .f32) (j : S1x2048.Idx) : k0_pay2 v acc j = acc j + v j := by
  pointwise [k0_pay2]

/-- The block the first point starts from is zero. -/
theorem zero_rows (j : S1x2048.Idx) : k0_pay1 (F := Ideal) j = 0 := by
  pointwise [k0_pay1]

/-- The second result array is the reference's gradient for the weight: its sum over all rows, tile by tile. -/
theorem final5 (m : (ℓ : Loc nD τ sig) → Buf (Elt Ideal) ℓ) (c : Dev nD) : (dats m 0 c).arrAt 5 cfg0.N
    = val_main_v37 (F := Ideal) (m ((c : Thread nD τ).loc main_arg0)) (m ((c : Thread nD τ).loc main_arg2)) := by
  refine (dats m 0 c).arrAt_eq_of_after_last 5 t0_7 (by decide +kernel) _ fun y => ?_
  blk_simp
  rw [after0_5, Pipeline.eq_sum_fin_of_reset_step_apply_last (fun n h => (outsAt0 m c n h).2) 8 (fun _ => 0) _
    (fun t h j => by rw [outsAt0_A m c t h]; frame_out; rw [add_rows, zero_rows])
    (fun t h j => by rw [outsAt0_B m c t h]; frame_out; rw [add_rows])
    (le_of_eq N_0) t0_7 rfl, zero_add]
  pointwise [k0_pay5, val_main_v37, val_main_v21, val_main_v18, val_main_v17, val_main_cst_3, val_main_cst_4]
  rw [Fin.sum_univ_one]
  refine Fin.sum_mul_add_congr fun t r hl => ?_
  pointwise [k0_pay6, k0_pay5, k0_pay4, k0_pay3, k0_pay2, k0_pay1, val_main_v37, val_main_v36, val_main_v35, val_main_v34, val_main_v33,
    val_main_v32, val_main_v31, val_main_v30, val_main_cst_7, val_main_v29, val_main_v28, val_main_cst_6, val_main_v27,
    val_main_v26, val_main_v25, val_main_v24, val_main_v23, val_main_cst_5, val_main_v22, val_main_v21, val_main_cst_4,
    val_main_v20, val_main_v19, val_main_v18, val_main_v17, val_main_cst_3, val_main_v16, val_main_v15, val_main_v14,
    val_main_v13, val_main_v12, val_main_v11, val_main_v10, val_main_v9, val_main_cst_2, val_main_v8, val_main_v7,
    val_main_v6, val_main_v5, val_main_cst_1, val_main_v4, val_main_v3, val_main_cst_0, val_main_v2, val_main_v1,
    val_main_cst, val_main_v0]
  blk_point [iblk, V, idx t]

/-- From equal arguments the two programs end with equal results. -/
theorem same_results : Cert.algebraic_Kernel15Ideal_Reference15Ideal (hKernel15Ideal := Cert.Kernel15Ideal.Gen.facts)
    (hReference15Ideal := Cert.Reference15Ideal.Gen.facts) := by
  pair_intro
  · run_from Cert.Kernel15Ideal.Value.run_blocks m g
  · refine (θ_run _ _ _).mono (fun r h c => ?_) (Cert.Reference15Ideal.Value.run m' g')
    obtain ⟨h0, h1, k⟩ := h c
    obtain ⟨a0, a1, a2, a3⟩ := hagree c
    rw [a0, a1, a2, a3, val_main_v36_eq] at h0
    rw [a0, a2, val_main_v37_eq] at h1
    exact ⟨h0.trans (final4 m c).symm, h1.trans (final5 m c).symm, k⟩

/-- The reference runs to its end, keeps its arguments, and leaves every semaphore at zero: it has none. -/
theorem reference_frame : Cert.quiescent_Reference15Ideal (hReference15Ideal := Cert.Reference15Ideal.Gen.facts) := fun m ρ _ =>
  (θ_run _ _ _).mono (fun r h => ⟨fun c => (h c).2.2, sem_eq_zero_of_no_sems rfl _⟩)
    (Cert.Reference15Ideal.Value.run m ρ)

end Cert.Norm.Backward
-- ==== Proof.Norm.Loss.lean ====
/- The loss and its gradient at the last layer's output: each result array of the kernel is the reference's value of the argument
   arrays.

   A grid point takes a tile of 256 rows. The loss, repeated over a block of 8 × 128 entries, and the weight's gradient are each
   kept in one block over the whole grid: zeroed at the first point, and a tile's part added at every point. The kernel halves a
   tile's sum of row means, the reference the sum over all rows. -/
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit
public import Idealize.ShloMosaic.Lib.Claim
public import Idealize.ShloMosaic.Lib.Pointwise
public import Idealize.ShloMosaic.Lib.Quiescent

@[expose] public section

noncomputable section

open Idealize.ShloMosaic Idealize.ShloMosaic.TcCoe Idealize.SL.Sem Idealize.ShloMosaic.StableHlo

namespace Cert.Norm.Loss

open Cert.Kernel21Ideal Cert.Kernel21Ideal.Gen Cert.Reference21Ideal.Read

/-- The windows' block indices at a grid point: the row tile of the point; the weight, its gradient and the loss whole. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

/-- The second result array is the reference's gradient for the layers' output. -/
theorem final4 (m : (ℓ : Loc nD τ sig) → Buf (Elt Ideal) ℓ) (c : Dev nD) : (dats m 0 c).arrAt 4 cfg0.N
    = val_main_v50 (F := Ideal) (m ((c : Thread nD τ).loc main_arg0)) (m ((c : Thread nD τ).loc main_arg1))
        (m ((c : Thread nD τ).loc main_arg2)) := by
  refine (dats m 0 c).arrAt_eq_of_covers 4 _ (by decide +kernel) fun t hf y => ?_
  blk_simp
  rw [after0_4]
  by_cases h : t.val % 8 = 0 <;> [rw [outsAt0_A m c t h]; rw [outsAt0_B m c t h]] <;> frame_out
  all_goals
    pointwise [k0_pay15, k0_pay14, k0_pay13, k0_pay12, k0_pay11, k0_pay10, k0_pay9, k0_pay8, k0_pay7, k0_pay6, k0_pay5, k0_pay4, k0_pay3,
      k0_pay2, k0_pay1, val_main_v52, val_main_v51, val_main_v50, val_main_v49, val_main_v48, val_main_v47, val_main_v46,
      val_main_v45, val_main_cst_15, val_main_v44, val_main_v43, val_main_cst_14, val_main_v42, val_main_v41, val_main_v40,
      val_main_v39, val_main_v38, val_main_cst_13, val_main_v37, val_main_v36, val_main_cst_12, val_main_v35, val_main_v34,
      val_main_v33, val_main_v32, val_main_cst_11, val_main_v31, val_main_v30, val_main_v29, val_main_v28, val_main_v27,
      val_main_cst_10, val_main_v26, val_main_v25, val_main_cst_9, val_main_cst_8, val_main_v24, val_main_cst_7,
      val_main_v23, val_main_cst_6, val_main_v22, val_main_v21, val_main_cst_5, val_main_v20, val_main_cst_4, val_main_v19,
      val_main_v18, val_main_cst_3, val_main_v17, val_main_v16, val_main_v15, val_main_v14, val_main_v13, val_main_v12,
      val_main_v11, val_main_v10, val_main_v9, val_main_cst_2, val_main_v8, val_main_v7, val_main_v6, val_main_v5,
      val_main_cst_1, val_main_v4, val_main_v3, val_main_cst_0, val_main_v2, val_main_v1, val_main_cst, val_main_v0]
    simp only [Fin.sum_univ_one]
    blk_point [iblk, V, idx t]

/-- What the kernel stores of a tile's column sums: an entry of the block found, plus the column's sum. -/
theorem add_rows (x g : FVec Ideal S256x2048 .f32) (u : FVec Ideal S256x1 .f32) (acc : Vec Ideal S1x2048 .f32) (j : S1x2048.Idx) :
    k0_pay14 x g u acc j = acc j + ∑ r : Fin 256, x (ix2 r (j 1)) * k0_pay10 g u (ix2 r (j 1)) := by
  pointwise [k0_pay14]

/-- The block the weight's gradient starts from is zero. -/
theorem zero_rows (j : S1x2048.Idx) : k0_pay12 (F := Ideal) j = 0 := by
  pointwise [k0_pay12]

/-- The third result array is the reference's gradient for the weight: its sum over all rows, tile by tile. -/
theorem final5 (m : (ℓ : Loc nD τ sig) → Buf (Elt Ideal) ℓ) (c : Dev nD) : (dats m 0 c).arrAt 5 cfg0.N
    = val_main_v52 (F := Ideal) (m ((c : Thread nD τ).loc main_arg0)) (m ((c : Thread nD τ).loc main_arg1))
        (m ((c : Thread nD τ).loc main_arg2)) := by
  refine (dats m 0 c).arrAt_eq_of_after_last 5 t0_7 (by decide +kernel) _ fun y => ?_
  blk_simp
  rw [after0_5, Pipeline.eq_sum_fin_of_reset_step_apply_last (fun n h => (outsAt0 m c n h).2.2) 8 (fun _ => 0) _
    (fun t h j => by rw [outsAt0_A m c t h]; frame_out; rw [add_rows, zero_rows])
    (fun t h j => by rw [outsAt0_B m c t h]; frame_out; rw [add_rows])
    (le_of_eq N_0) t0_7 rfl, zero_add]
  pointwise [val_main_v52, val_main_v36, val_main_v33, val_main_v32, val_main_cst_11, val_main_cst_12]
  rw [Fin.sum_univ_one]
  refine Fin.sum_mul_add_congr fun t r hl => ?_
  pointwise [k0_pay15, k0_pay14, k0_pay13, k0_pay12, k0_pay11, k0_pay10, k0_pay9, k0_pay8, k0_pay7, k0_pay6, k0_pay5, k0_pay4, k0_pay3,
    k0_pay2, k0_pay1, val_main_v52, val_main_v51, val_main_v50, val_main_v49, val_main_v48, val_main_v47, val_main_v46,
    val_main_v45, val_main_cst_15, val_main_v44, val_main_v43, val_main_cst_14, val_main_v42, val_main_v41, val_main_v40,
    val_main_v39, val_main_v38, val_main_cst_13, val_main_v37, val_main_v36, val_main_cst_12, val_main_v35, val_main_v34,
    val_main_v33, val_main_v32, val_main_cst_11, val_main_v31, val_main_v30, val_main_v29, val_main_v28, val_main_v27,
    val_main_cst_10, val_main_v26, val_main_v25, val_main_cst_9, val_main_cst_8, val_main_v24, val_main_cst_7, val_main_v23,
    val_main_cst_6, val_main_v22, val_main_v21, val_main_cst_5, val_main_v20, val_main_cst_4, val_main_v19, val_main_v18,
    val_main_cst_3, val_main_v17, val_main_v16, val_main_v15, val_main_v14, val_main_v13, val_main_v12, val_main_v11,
    val_main_v10, val_main_v9, val_main_cst_2, val_main_v8, val_main_v7, val_main_v6, val_main_v5, val_main_cst_1,
    val_main_v4, val_main_v3, val_main_cst_0, val_main_v2, val_main_v1, val_main_cst, val_main_v0]
  simp only [Fin.sum_univ_one]
  blk_point [iblk, V, idx t]

/-- A nonnegative factor other than infinity comes out of a sum. -/
theorem mul_sum {ι : Type} [Fintype ι] {a : EReal} (h0 : 0 ≤ a) (ht : a ≠ ⊤) (f : ι → EReal) :
    a * ∑ i, f i = ∑ i, a * f i := by
  classical
  refine Finset.induction_on (Finset.univ : Finset ι) (by simp) fun i s hi ih => ?_
  rw [Finset.sum_insert hi, Finset.sum_insert hi, EReal.left_distrib_of_nonneg_of_ne_top h0 ht, ih]

/-- The kernel's factor is one half. -/
theorem half : Ideal.ofBits .f32 0x3F000000#32 = ((1 / 2 : ℝ) : EReal) := by
  simp [Ideal.ofBits, Ideal.ieee, -EReal.coe_mul]
  norm_num

/-- One half is at least zero. -/
theorem half_nonneg : 0 ≤ Ideal.ofBits .f32 0x3F000000#32 := by
  rw [half]
  exact EReal.coe_nonneg.mpr (by norm_num)

/-- One half is not infinity. -/
theorem half_ne_top : Ideal.ofBits .f32 0x3F000000#32 ≠ ⊤ := by
  rw [half]
  exact EReal.coe_ne_top _

/-- What the kernel stores of a tile's loss: each entry of the block found, plus the tile's one value. -/
theorem add_loss (v : FVec Ideal S1x1 .f32) (acc : Vec Ideal S8x128 .f32) (j : S8x128.Idx) : k0_pay15 v acc j = acc j + v (ix2 0 0) := by
  pointwise [k0_pay15]

/-- The block the loss starts from is zero. -/
theorem zero_loss (j : S8x128.Idx) : k0_pay13 (F := Ideal) j = 0 := by
  pointwise [k0_pay13]

/-- The first result array, every entry, is the reference's loss: half the sum over all rows of the mean squared error. -/
theorem final3 (m : (ℓ : Loc nD τ sig) → Buf (Elt Ideal) ℓ) (c : Dev nD) : (dats m 0 c).arrAt 3 cfg0.N
    = val_main_v51 (F := Ideal) (m ((c : Thread nD τ).loc main_arg0)) (m ((c : Thread nD τ).loc main_arg1))
        (m ((c : Thread nD τ).loc main_arg2)) := by
  refine (dats m 0 c).arrAt_eq_of_after_last 3 t0_7 (by decide +kernel) _ fun y => ?_
  blk_simp
  rw [after0_3, Pipeline.eq_sum_fin_of_reset_step_apply_last (fun n h => (outsAt0 m c n h).1) 8 (fun _ => 0) _
    (fun t h j => by rw [outsAt0_A m c t h]; frame_out; rw [add_loss, zero_loss])
    (fun t h j => by rw [outsAt0_B m c t h]; frame_out; rw [add_loss])
    (le_of_eq N_0) t0_7 rfl, zero_add]
  pointwise [k0_pay8, val_main_v51, val_main_v24, val_main_cst_7, val_main_v23, val_main_cst_6, val_main_v22, val_main_v21, val_main_cst_5]
  rw [← mul_sum half_nonneg half_ne_top]
  congr 1
  refine Fin.sum_mul_add_congr fun t r hl => ?_
  pointwise [k0_pay15, k0_pay14, k0_pay13, k0_pay12, k0_pay11, k0_pay10, k0_pay9, k0_pay8, k0_pay7, k0_pay6, k0_pay5, k0_pay4, k0_pay3,
    k0_pay2, k0_pay1, val_main_v52, val_main_v51, val_main_v50, val_main_v49, val_main_v48, val_main_v47, val_main_v46,
    val_main_v45, val_main_cst_15, val_main_v44, val_main_v43, val_main_cst_14, val_main_v42, val_main_v41, val_main_v40,
    val_main_v39, val_main_v38, val_main_cst_13, val_main_v37, val_main_v36, val_main_cst_12, val_main_v35, val_main_v34,
    val_main_v33, val_main_v32, val_main_cst_11, val_main_v31, val_main_v30, val_main_v29, val_main_v28, val_main_v27,
    val_main_cst_10, val_main_v26, val_main_v25, val_main_cst_9, val_main_cst_8, val_main_v24, val_main_cst_7, val_main_v23,
    val_main_cst_6, val_main_v22, val_main_v21, val_main_cst_5, val_main_v20, val_main_cst_4, val_main_v19, val_main_v18,
    val_main_cst_3, val_main_v17, val_main_v16, val_main_v15, val_main_v14, val_main_v13, val_main_v12, val_main_v11,
    val_main_v10, val_main_v9, val_main_cst_2, val_main_v8, val_main_v7, val_main_v6, val_main_v5, val_main_cst_1,
    val_main_v4, val_main_v3, val_main_cst_0, val_main_v2, val_main_v1, val_main_cst, val_main_v0]
  blk_point [iblk, V, idx t]

/-- From equal arguments the two programs end with equal results. -/
theorem same_results : Cert.algebraic_Kernel21Ideal_Reference21Ideal (hKernel21Ideal := Cert.Kernel21Ideal.Gen.facts)
    (hReference21Ideal := Cert.Reference21Ideal.Gen.facts) := by
  pair_intro
  · run_from Cert.Kernel21Ideal.Value.run_blocks m g
  · refine (θ_run _ _ _).mono (fun r h c => ?_) (Cert.Reference21Ideal.Value.run m' g')
    obtain ⟨h0, h1, h2, k⟩ := h c
    obtain ⟨a0, a1, a2⟩ := hagree c
    rw [val_main_v51_eq] at h0
    rw [val_main_v50_eq] at h1
    rw [val_main_v52_eq] at h2
    rw [a0, a1, a2] at h0 h1 h2
    exact ⟨h0.trans (final3 m c).symm, h1.trans (final4 m c).symm, h2.trans (final5 m c).symm, k⟩

/-- The reference runs to its end, keeps its arguments, and leaves every semaphore at zero: it has none. -/
theorem reference_frame : Cert.quiescent_Reference21Ideal (hReference21Ideal := Cert.Reference21Ideal.Gen.facts) := fun m ρ _ =>
  (θ_run _ _ _).mono (fun r h => ⟨fun c => (h c).2.2.2, sem_eq_zero_of_no_sems rfl _⟩)
    (Cert.Reference21Ideal.Value.run m ρ)

end Cert.Norm.Loss
-- ==== Proof.SpatialGating.Forward.lean ====
/- The forward of the gated spatial mixing: the result array of the kernel is the reference's value of the argument arrays.

   A grid point takes a chunk of 128 rows. Its block of the result is gelu(u) times the mixed block times silu(z), in the same plain
   functions of the arguments as in the gradient's proof; the mixed block of a point is the one the gradient's kernel computes. -/
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import proofs.«01_k».proof.Proof.SpatialGating.Stage
public import proofs.«01_k».proof.Proof.SpatialGating.RefGrads
public import Idealize.ShloMosaic.Lib.Pipeline.ValueKit
public import Idealize.ShloMosaic.Lib.Claim
public import Idealize.ShloMosaic.Lib.Pointwise
public import Idealize.ShloMosaic.Lib.Quiescent

@[expose] public section

noncomputable section

open Idealize.ShloMosaic Idealize.ShloMosaic.TcCoe Idealize.SL.Sem Idealize.ShloMosaic.StableHlo

namespace Cert.SpatialGating.Forward

open Cert.Kernel19Ideal Cert.Kernel19Ideal.Gen Cert.Reference19Ideal.Read

/-- The windows' block indices at a grid point: the chunk's rows, at columns 2048, 3072 and 4096 of the one wide argument; the
    parameters whole. -/
theorem idx : ∀ t : Fin cfg0.N, win0_0.index t = ![t.val, 2] ∧ win0_1.index t = ![t.val, 3] ∧ win0_2.index t = ![t.val, 4]
    ∧ win0_3.index t = ![0, 0] ∧ win0_4.index t = ![0, 0] ∧ win0_5.index t = ![0, 0, 0] ∧ win0_6.index t = ![0, 0, 0]
    ∧ win0_7.index t = ![t.val, 0] :=
  (by decide +kernel : ∀ t : Fin grid0.N, _)

section Reference
variable (x0 : FVec Ideal S2048x6400 .f32) (x1 x2 : FVec Ideal S1024 .f32) (x3 : FVec Ideal S8x128x128 .f32) (x4 : FVec Ideal S8x128 .f32)

/-- The mixed rows are the ones the gradient's reference computes. -/
theorem ref_mixed : val_main_v69 (F := Ideal) x0 x1 x2 x3 x4 = Cert.ReferenceIdeal.Read.val_main_v90 (F := Ideal) x0 x1 x2 x3 x4 := rfl

/-- The reference's value at a chunk's row. -/
theorem ref_value (n : Fin 16) (t : Fin 128) (j : Fin 1024) : val_main_v74 (F := Ideal) x0 x1 x2 x3 x4 (ix2 (rowOf n t) j)
    = gel (x0 (ix2 (rowOf n t) ⟨2048 + j.val, by omega⟩)) * (rargs (fun _ => 0) x0 x1 x2 x3 x4).mix n t j
      * sil (x0 (ix2 (rowOf n t) ⟨4096 + j.val, by omega⟩)) := by
  rw [val_main_v74_apply, val_main_v73_apply, show idx_main_v73 (ix2 (rowOf n t) j) = ix3 0 (rowOf n t) j from
    ext3 _ _ rfl (by show ((128 * n.val + t.val) * 1024 + j.val) / 1024 % 2048 = 128 * n.val + t.val; omega)
      (by show ((128 * n.val + t.val) * 1024 + j.val) % 1024 = j.val; omega),
    val_main_v72_apply, val_main_v70_apply, ref_mixed, at_v90 (fun _ => 0), ← at_v26, ← at_v92_0]
  rfl

end Reference

section Point
variable (u v z : BlockV) (w b : FVec Ideal S1x1024 .f32) (A : Fin 8 → FVec Ideal S128x128 .f32) (B : Fin 8 → FVec Ideal S128x1 .f32)

/-- The stored block. -/
theorem out (t : Fin 128) (j : Fin 1024) :
    (k0_pay1 (F := Ideal) (B 7) z (k0_pay20 u) (k0_pay24 (A 0) (B 0) v w b (k0_pay21 v))
      (k0_pay26 (B 1) (k0_pay25 (A 1) v w b (k0_pay21 v)))
      (k0_pay27 (A 2) (B 2) (k0_pay22 v w b (k0_pay21 v)) k0_pay23)
      (k0_pay28 (A 3) (B 3) (k0_pay22 v w b (k0_pay21 v)) k0_pay23)
      (k0_pay29 (A 4) (B 4) (k0_pay22 v w b (k0_pay21 v)) k0_pay23)
      (k0_pay30 (A 5) (B 5) (k0_pay22 v w b (k0_pay21 v)) k0_pay23)
      (k0_pay31 (A 6) (B 6) (k0_pay22 v w b (k0_pay21 v)) k0_pay23)
      (k0_pay32 (A 7) (k0_pay22 v w b (k0_pay21 v)) k0_pay23) (ix2 t j) : EReal)
    = gel (u (ix2 t j)) * mixed (bW A) (bB B) (bV v w b) t j * sil (z (ix2 t j)) := by
  rw [← kmix_apply']
  rfl

end Point

section Blocks
variable (m : (ℓ : Loc nD τ sig) → Buf (Elt Ideal) ℓ) (c : Dev nD) (t : Fin cfg0.N) (n : Fin 16) (hn : n.val = t.val)
include hn

/-- The point's block of `u`. -/
theorem block_u (r : Fin 128) (j : Fin 1024) : X0_0 m c t (ix2 r j) = m ((c : Thread nD τ).loc main_arg0)
    (ix2 (rowOf n r) ⟨2048 + j.val, by omega⟩) := by
  unfold X0_0 Pipeline.Window.fill
  rw [dif_pos (moved0_0 _ _)]
  blk_point [iblk, V, idx t]

/-- The point's block of `v`. -/
theorem block_v (r : Fin 128) (j : Fin 1024) : X0_1 m c t (ix2 r j) = m ((c : Thread nD τ).loc main_arg0)
    (ix2 (rowOf n r) ⟨3072 + j.val, by omega⟩) := by
  unfold X0_1 Pipeline.Window.fill
  rw [dif_pos (moved0_1 _ _)]
  blk_point [iblk, V, idx t]

/-- The point's block of `z`. -/
theorem block_z (r : Fin 128) (j : Fin 1024) : X0_2 m c t (ix2 r j) = m ((c : Thread nD τ).loc main_arg0)
    (ix2 (rowOf n r) ⟨4096 + j.val, by omega⟩) := by
  unfold X0_2 Pipeline.Window.fill
  rw [dif_pos (moved0_2 _ _)]
  blk_point [iblk, V, idx t]

end Blocks

section Parameters
variable (m : (ℓ : Loc nD τ sig) → Buf (Elt Ideal) ℓ) (c : Dev nD) (t : Fin cfg0.N)

/-- The layer norm's weight. -/
theorem block_w (j : Fin 1024) : (k0_pay18 (F := Ideal) (iblk m c 3 t) (ix2 0 j) : EReal) = m ((c : Thread nD τ).loc main_arg1) (ix1 j) := by
  pointwise [k0_pay18]
  blk_point [iblk, V, idx t]

/-- The layer norm's bias. -/
theorem block_b (j : Fin 1024) : (k0_pay19 (F := Ideal) (iblk m c 4 t) (ix2 0 j) : EReal) = m ((c : Thread nD τ).loc main_arg2) (ix1 j) := by
  pointwise [k0_pay19]
  blk_point [iblk, V, idx t]

/-- The mixing matrices. -/
theorem block_A (h : Fin 8) (a b : Fin 128) : (iblk m c 5 t : FVec Ideal S8x128x128 .f32) (ix3 h a b) = m ((c : Thread nD τ).loc main_arg3) (ix3 h a b) := by
  blk_point [iblk, V, idx t]

/-- The mixing biases. -/
theorem block_B (h : Fin 8) (a : Fin 128) : (iblk m c 6 t : FVec Ideal S8x128x1 .f32) (ix3 h a 0) = m ((c : Thread nD τ).loc main_arg4) (ix2 h a) := by
  blk_point [iblk, V, idx t]

end Parameters

/-- The result array is the reference's value. -/
theorem final7 (m : (ℓ : Loc nD τ sig) → Buf (Elt Ideal) ℓ) (c : Dev nD) : (dats m 0 c).arrAt 7 cfg0.N
    = val_main_v74 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 7 _ (by decide +kernel) fun t hf y => ?_
  blk_simp
  rw [after0_7]
  unfold outsAt0
  frame_out
  simp only [k0_pay2, k0_pay3, k0_pay4, k0_pay5, k0_pay6, k0_pay7, k0_pay8, k0_pay9, k0_pay10, k0_pay11, k0_pay12, k0_pay13, k0_pay14,
    k0_pay15, k0_pay16, k0_pay17, ld_heads, ld_biases, Nat.reduceLT]
  obtain ⟨r, j, rfl⟩ : ∃ r j, y = ix2 r j := ⟨y 0, y 1, eq_ix2 y⟩
  refine (out (X0_0 m c t) (X0_1 m c t) (X0_2 m c t) (k0_pay18 (iblk m c 3 t)) (k0_pay19 (iblk m c 4 t)) (heads (iblk m c 5 t))
    (biases (iblk m c 6 t)) r j).trans ?_
  have hn : t.val < 16 := (le_of_eq N_0).trans_lt' t.isLt
  have e := ref_value (m ((c : Thread nD τ).loc main_arg0)) (m ((c : Thread nD τ).loc main_arg1)) (m ((c : Thread nD τ).loc main_arg2))
      (m ((c : Thread nD τ).loc main_arg3)) (m ((c : Thread nD τ).loc main_arg4)) ⟨t.val, hn⟩ r j
  have hi : ((View.whole main_v3).slice (win0_7.rect t)).emb (ix2 r j) = ix2 (rowOf ⟨t.val, hn⟩ r) j := by
    obtain ⟨-, -, -, -, -, -, -, h⟩ := idx t
    refine ext2 _ _ ?_ ?_
    · show win0_7.index t 0 * 128 + 1 * r.val = 128 * t.val + r.val
      rw [h]
      show t.val * 128 + 1 * r.val = _
      omega
    · show win0_7.index t 1 * 1024 + 1 * j.val = j.val
      rw [h]
      show 0 * 1024 + 1 * j.val = _
      omega
  rw [hi, e, block_u m c t ⟨t.val, hn⟩ rfl, block_z m c t ⟨t.val, hn⟩ rfl]
  unfold Args.mix Args.V bV bW bB heads biases lanes row
  simp only [block_v m c t ⟨t.val, hn⟩ rfl, block_w, block_b]
  refine congrArg₂ (· * ·) (congrArg₂ (· * ·) rfl (congrArg₂ (fun W B => mixed W B _ r j) ?_ ?_)) rfl
  · exact funext fun h => funext fun a => funext fun b => block_A m c t h a b
  · exact funext fun h => funext fun a => block_B m c t h a

/-- From equal arguments the two programs end with equal results. -/
theorem same_results : Cert.algebraic_Kernel19Ideal_Reference19Ideal (hKernel19Ideal := Cert.Kernel19Ideal.Gen.facts)
    (hReference19Ideal := Cert.Reference19Ideal.Gen.facts) := by
  pair_intro
  · run_from Cert.Kernel19Ideal.Value.run_blocks m g
  · refine (θ_run _ _ _).mono (fun r h c => ?_) (Cert.Reference19Ideal.Value.run m' g')
    obtain ⟨h0, k⟩ := h c
    obtain ⟨a0, a1, a2, a3, a4⟩ := hagree c
    rw [val_main_v74_eq] at h0
    rw [a0, a1, a2, a3, a4] at h0
    exact ⟨h0.trans (final7 m c).symm, k⟩

/-- The reference runs to its end, keeps its arguments, and leaves every semaphore at zero: it has none. -/
theorem reference_frame : Cert.quiescent_Reference19Ideal (hReference19Ideal := Cert.Reference19Ideal.Gen.facts) := fun m ρ _ =>
  (θ_run _ _ _).mono (fun r h => ⟨fun c => (h c).2, sem_eq_zero_of_no_sems rfl _⟩) (Cert.Reference19Ideal.Value.run m ρ)

end Cert.SpatialGating.Forward
-- ==== Proof.lean ====
/- Proof/SpatialGating for the gradient and the forward of the spatial gating, Proof/Products for the matrix products,
   Proof/Gates for the gated linear unit, the attention's gate and the merge of the branches, Proof/Norm for the
   normalisation and the loss, Proof/Attention for the sliding-window attention. -/
module

public import proofs.«01_k».proof.Defs
public import proofs.«01_k».proof.Proof.Attention.Claims
public import proofs.«01_k».proof.Proof.Gen.Kernel22.Frame
public import proofs.«01_k».proof.Proof.Gen.Kernel22Ideal.Frame
public import proofs.«01_k».proof.Proof.Gen.Kernel.Frame
public import proofs.«01_k».proof.Proof.Gen.KernelIdeal.Frame
public import proofs.«01_k».proof.Proof.SpatialGating.Claims
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Products.Projection
public import proofs.«01_k».proof.Proof.Products.Output
public import proofs.«01_k».proof.Proof.Products.Branches
public import proofs.«01_k».proof.Proof.Gates.AttentionGate
public import proofs.«01_k».proof.Proof.Gates.Merge
public import proofs.«01_k».proof.Proof.Gates.Glu
public import proofs.«01_k».proof.Proof.Norm.RmsNorm
public import proofs.«01_k».proof.Proof.Norm.Loss
public import proofs.«01_k».proof.Proof.SpatialGating.Forward
public import Idealize.ShloMosaic.Adequacy
public import Idealize.ShloMosaic.Init

@[expose] public section

noncomputable section

namespace Cert.Proof

/-- Everything claimed, program by program. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts, Cert.Attention.pre_facts,
    fun m ρ _ => Cert.Kernel.Gen.frame m ρ, fun m ρ _ => Cert.KernelIdeal.Gen.frame m ρ, Cert.SpatialGating.reference_frame,
    fun m ρ _ => Cert.Kernel2.Gen.frame m ρ, fun m ρ _ => Cert.Kernel2Ideal.Gen.frame m ρ, Cert.Products.ProjWeight.reference_frame,
    fun m ρ _ => Cert.Kernel3.Gen.frame m ρ, fun m ρ _ => Cert.Kernel3Ideal.Gen.frame m ρ, Cert.Products.ProjInput.reference_frame,
    fun m ρ _ => Cert.Kernel4.Gen.frame m ρ, fun m ρ _ => Cert.Kernel4Ideal.Gen.frame m ρ, Cert.Products.MergedGrad.reference_frame,
    fun m ρ _ => Cert.Kernel5.Gen.frame m ρ, fun m ρ _ => Cert.Kernel5Ideal.Gen.frame m ρ, Cert.Products.OutWeight.reference_frame,
    fun m ρ _ => Cert.Kernel6.Gen.frame m ρ, fun m ρ _ => Cert.Kernel6Ideal.Gen.frame m ρ, Cert.Products.BranchGrad.reference_frame,
    fun m ρ _ => Cert.Kernel7.Gen.frame m ρ, fun m ρ _ => Cert.Kernel7Ideal.Gen.frame m ρ, Cert.Products.BranchWeight.reference_frame,
    fun m ρ _ => Cert.Kernel8.Gen.frame m ρ, fun m ρ _ => Cert.Kernel8Ideal.Gen.frame m ρ, Cert.Products.GluWeight.reference_frame,
    fun m ρ _ => Cert.Kernel9.Gen.frame m ρ, fun m ρ _ => Cert.Kernel9Ideal.Gen.frame m ρ, Cert.Products.ProjMain.reference_frame,
    fun m ρ _ => Cert.Kernel10.Gen.frame m ρ, fun m ρ _ => Cert.Kernel10Ideal.Gen.frame m ρ, Cert.Products.ProjGateC.reference_frame,
    fun m ρ _ => Cert.Kernel11.Gen.frame m ρ, fun m ρ _ => Cert.Kernel11Ideal.Gen.frame m ρ, Cert.Products.ProjGates.reference_frame,
    fun m ρ _ => Cert.Kernel12.Gen.frame m ρ, fun m ρ _ => Cert.Kernel12Ideal.Gen.frame m ρ, Cert.Products.OutForward.reference_frame,
    fun m ρ _ => Cert.Kernel13.Gen.frame m ρ, fun m ρ _ => Cert.Kernel13Ideal.Gen.frame m ρ, Cert.Gates.AttentionGate.reference_frame,
    fun m ρ _ => Cert.Kernel14.Gen.frame m ρ, fun m ρ _ => Cert.Kernel14Ideal.Gen.frame m ρ, Cert.Gates.MergeGrad.reference_frame,
    fun m ρ _ => Cert.Kernel15.Gen.frame m ρ, fun m ρ _ => Cert.Kernel15Ideal.Gen.frame m ρ, Cert.Norm.Backward.reference_frame,
    fun m ρ _ => Cert.Kernel16.Gen.frame m ρ, fun m ρ _ => Cert.Kernel16Ideal.Gen.frame m ρ, Cert.Gates.GluGrad.reference_frame,
    fun m ρ _ => Cert.Kernel17.Gen.frame m ρ, fun m ρ _ => Cert.Kernel17Ideal.Gen.frame m ρ, Cert.Gates.Merge.reference_frame,
    fun m ρ _ => Cert.Kernel18.Gen.frame m ρ, fun m ρ _ => Cert.Kernel18Ideal.Gen.frame m ρ, Cert.Gates.Glu.reference_frame,
    fun m ρ _ => Cert.Kernel19.Gen.frame m ρ, fun m ρ _ => Cert.Kernel19Ideal.Gen.frame m ρ, Cert.SpatialGating.Forward.reference_frame,
    fun m ρ _ => Cert.Kernel20.Gen.frame m ρ, fun m ρ _ => Cert.Kernel20Ideal.Gen.frame m ρ, Cert.Norm.Forward.reference_frame,
    fun m ρ _ => Cert.Kernel21.Gen.frame m ρ, fun m ρ _ => Cert.Kernel21Ideal.Gen.frame m ρ, Cert.Norm.Loss.reference_frame,
    fun m ρ _ => Cert.Kernel22.Gen.frame m ρ, fun m ρ _ => Cert.Kernel22Ideal.Gen.frame m ρ,
    fun m ρ _ => Cert.Kernel22Ideal.Gen.frame m ρ, Cert.Attention.reference_frame,
    fun m ρ _ => Cert.Attention.reference_frame m ρ trivial,
    trivial, Cert.SpatialGating.same_results,
    trivial, Cert.Products.ProjWeight.same_results,
    trivial, Cert.Products.ProjInput.same_results,
    trivial, Cert.Products.MergedGrad.same_results,
    trivial, Cert.Products.OutWeight.same_results,
    trivial, Cert.Products.BranchGrad.same_results,
    trivial, Cert.Products.BranchWeight.same_results,
    trivial, Cert.Products.GluWeight.same_results,
    trivial, Cert.Products.ProjMain.same_results,
    trivial, Cert.Products.ProjGateC.same_results,
    trivial, Cert.Products.ProjGates.same_results,
    trivial, Cert.Products.OutForward.same_results,
    trivial, Cert.Gates.AttentionGate.same_results,
    trivial, Cert.Gates.MergeGrad.same_results,
    trivial, Cert.Norm.Backward.same_results,
    trivial, Cert.Gates.GluGrad.same_results,
    trivial, Cert.Gates.Merge.same_results,
    trivial, Cert.Gates.Glu.same_results,
    trivial, Cert.SpatialGating.Forward.same_results,
    trivial, Cert.Norm.Forward.same_results,
    trivial, Cert.Norm.Loss.same_results,
    Cert.Attention.mask_named, Cert.Attention.same_results⟩

end Cert.Proof

end
